-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)) (v3 : (c : Dev Cert.Kernel2Ideal.nD) → Buf (Elt Ideal) ((c.tc : Thread Cert.Kernel2Ideal.nD Cert.Kernel2Ideal.τ).loc Cert.Kernel2Ideal.main_v38_3)) (v4 : (c : Dev Cert.Kernel2Ideal.nD) → Buf (Elt Ideal) ((c.tc : Thread Cert.Kernel2Ideal.nD Cert.Kernel2Ideal.τ).loc Cert.Kernel2Ideal.main_v38_4)) (v5 : (c : Dev Cert.Kernel2Ideal.nD) → Buf (Elt Ideal) ((c.tc : Thread Cert.Kernel2Ideal.nD Cert.Kernel2Ideal.τ).loc Cert.Kernel2Ideal.main_v38_5)) (v6 : (c : Dev Cert.Kernel2Ideal.nD) → Buf (Elt Ideal) ((c.tc : Thread Cert.Kernel2Ideal.nD Cert.Kernel2Ideal.τ).loc Cert.Kernel2Ideal.main_v38_6)) (v7 : (c : Dev Cert.Kernel2Ideal.nD) → Buf (Elt Ideal) ((c.tc : Thread Cert.Kernel2Ideal.nD Cert.Kernel2Ideal.τ).loc Cert.Kernel2Ideal.main_v38_7)) (v8 : (c : Dev Cert.Kernel2Ideal.nD) → Buf (Elt Ideal) ((c.tc : Thread Cert.Kernel2Ideal.nD Cert.Kernel2Ideal.τ).loc Cert.Kernel2Ideal.main_v38_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_v38_3) = v3 c
          ∧ r.2.mem ((c.tc : Thread Cert.Kernel2Ideal.nD Cert.Kernel2Ideal.τ).loc Cert.Kernel2Ideal.main_v38_4) = v4 c
          ∧ r.2.mem ((c.tc : Thread Cert.Kernel2Ideal.nD Cert.Kernel2Ideal.τ).loc Cert.Kernel2Ideal.main_v38_5) = v5 c
          ∧ r.2.mem ((c.tc : Thread Cert.Kernel2Ideal.nD Cert.Kernel2Ideal.τ).loc Cert.Kernel2Ideal.main_v38_6) = v6 c
          ∧ r.2.mem ((c.tc : Thread Cert.Kernel2Ideal.nD Cert.Kernel2Ideal.τ).loc Cert.Kernel2Ideal.main_v38_7) = v7 c
          ∧ r.2.mem ((c.tc : Thread Cert.Kernel2Ideal.nD Cert.Kernel2Ideal.τ).loc Cert.Kernel2Ideal.main_v38_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v91) = v3 c
          ∧ r.2.mem ((c.tc : Thread Cert.Reference2Ideal.nD Cert.Reference2Ideal.τ).loc Cert.Reference2Ideal.main_v93) = v4 c
          ∧ r.2.mem ((c.tc : Thread Cert.Reference2Ideal.nD Cert.Reference2Ideal.τ).loc Cert.Reference2Ideal.main_v94) = v5 c
          ∧ r.2.mem ((c.tc : Thread Cert.Reference2Ideal.nD Cert.Reference2Ideal.τ).loc Cert.Reference2Ideal.main_v95) = v6 c
          ∧ r.2.mem ((c.tc : Thread Cert.Reference2Ideal.nD Cert.Reference2Ideal.τ).loc Cert.Reference2Ideal.main_v103) = v7 c
          ∧ r.2.mem ((c.tc : Thread Cert.Reference2Ideal.nD Cert.Reference2Ideal.τ).loc Cert.Reference2Ideal.main_v111) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v38_0)) (v1 : (c : Dev Cert.Kernel5Ideal.nD) → Buf (Elt Ideal) ((c.tc : Thread Cert.Kernel5Ideal.nD Cert.Kernel5Ideal.τ).loc Cert.Kernel5Ideal.main_v38_1)) (v2 : (c : Dev Cert.Kernel5Ideal.nD) → Buf (Elt Ideal) ((c.tc : Thread Cert.Kernel5Ideal.nD Cert.Kernel5Ideal.τ).loc Cert.Kernel5Ideal.main_v38_2)) (v3 : (c : Dev Cert.Kernel5Ideal.nD) → Buf (Elt Ideal) ((c.tc : Thread Cert.Kernel5Ideal.nD Cert.Kernel5Ideal.τ).loc Cert.Kernel5Ideal.main_v38_3)) (v4 : (c : Dev Cert.Kernel5Ideal.nD) → Buf (Elt Ideal) ((c.tc : Thread Cert.Kernel5Ideal.nD Cert.Kernel5Ideal.τ).loc Cert.Kernel5Ideal.main_v38_4)) (v5 : (c : Dev Cert.Kernel5Ideal.nD) → Buf (Elt Ideal) ((c.tc : Thread Cert.Kernel5Ideal.nD Cert.Kernel5Ideal.τ).loc Cert.Kernel5Ideal.main_v38_5)) (v6 : (c : Dev Cert.Kernel5Ideal.nD) → Buf (Elt Ideal) ((c.tc : Thread Cert.Kernel5Ideal.nD Cert.Kernel5Ideal.τ).loc Cert.Kernel5Ideal.main_v38_6)) (v7 : (c : Dev Cert.Kernel5Ideal.nD) → Buf (Elt Ideal) ((c.tc : Thread Cert.Kernel5Ideal.nD Cert.Kernel5Ideal.τ).loc Cert.Kernel5Ideal.main_v38_7)) (v8 : (c : Dev Cert.Kernel5Ideal.nD) → Buf (Elt Ideal) ((c.tc : Thread Cert.Kernel5Ideal.nD Cert.Kernel5Ideal.τ).loc Cert.Kernel5Ideal.main_v38_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v38_0) = v0 c
          ∧ r.2.mem ((c.tc : Thread Cert.Kernel5Ideal.nD Cert.Kernel5Ideal.τ).loc Cert.Kernel5Ideal.main_v38_1) = v1 c
          ∧ r.2.mem ((c.tc : Thread Cert.Kernel5Ideal.nD Cert.Kernel5Ideal.τ).loc Cert.Kernel5Ideal.main_v38_2) = v2 c
          ∧ r.2.mem ((c.tc : Thread Cert.Kernel5Ideal.nD Cert.Kernel5Ideal.τ).loc Cert.Kernel5Ideal.main_v38_3) = v3 c
          ∧ r.2.mem ((c.tc : Thread Cert.Kernel5Ideal.nD Cert.Kernel5Ideal.τ).loc Cert.Kernel5Ideal.main_v38_4) = v4 c
          ∧ r.2.mem ((c.tc : Thread Cert.Kernel5Ideal.nD Cert.Kernel5Ideal.τ).loc Cert.Kernel5Ideal.main_v38_5) = v5 c
          ∧ r.2.mem ((c.tc : Thread Cert.Kernel5Ideal.nD Cert.Kernel5Ideal.τ).loc Cert.Kernel5Ideal.main_v38_6) = v6 c
          ∧ r.2.mem ((c.tc : Thread Cert.Kernel5Ideal.nD Cert.Kernel5Ideal.τ).loc Cert.Kernel5Ideal.main_v38_7) = v7 c
          ∧ r.2.mem ((c.tc : Thread Cert.Kernel5Ideal.nD Cert.Kernel5Ideal.τ).loc Cert.Kernel5Ideal.main_v38_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v89) = v1 c
          ∧ r.2.mem ((c.tc : Thread Cert.Reference5Ideal.nD Cert.Reference5Ideal.τ).loc Cert.Reference5Ideal.main_v90) = v2 c
          ∧ r.2.mem ((c.tc : Thread Cert.Reference5Ideal.nD Cert.Reference5Ideal.τ).loc Cert.Reference5Ideal.main_v91) = v3 c
          ∧ r.2.mem ((c.tc : Thread Cert.Reference5Ideal.nD Cert.Reference5Ideal.τ).loc Cert.Reference5Ideal.main_v93) = v4 c
          ∧ r.2.mem ((c.tc : Thread Cert.Reference5Ideal.nD Cert.Reference5Ideal.τ).loc Cert.Reference5Ideal.main_v94) = v5 c
          ∧ r.2.mem ((c.tc : Thread Cert.Reference5Ideal.nD Cert.Reference5Ideal.τ).loc Cert.Reference5Ideal.main_v95) = v6 c
          ∧ r.2.mem ((c.tc : Thread Cert.Reference5Ideal.nD Cert.Reference5Ideal.τ).loc Cert.Reference5Ideal.main_v103) = v7 c
          ∧ r.2.mem ((c.tc : Thread Cert.Reference5Ideal.nD Cert.Reference5Ideal.τ).loc Cert.Reference5Ideal.main_v111) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  IdealRules.named_const.Statement Cert.Kernel8Ideal.κ "mask" .f32 0xF149F2CA#32 ⊥

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v42)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v42) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v57) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S32x2048x512 : Shape := ⟨3, ![32, 2048, 512]⟩
abbrev S32x2048x8 : Shape := ⟨3, ![32, 2048, 8]⟩
abbrev S_ : Shape := ⟨0, ![]⟩
abbrev S32x2048x1032 : Shape := ⟨3, ![32, 2048, 1032]⟩

class Facts : Prop where
  bcast_S_S32x2048x512 : S_.BroadcastsInDim S32x2048x512 (![] : Fin 0 → Fin S32x2048x512.rank)
  bcast_S_S32x2048x8 : S_.BroadcastsInDim S32x2048x8 (![] : Fin 0 → Fin S32x2048x8.rank)
  concatenates_S32x2048x512_S32x2048x512_S32x2048x8_S32x2048x1032_d2 : Shape.Concatenates [S32x2048x512, S32x2048x512, S32x2048x8] S32x2048x1032 2

variable [Facts]

def fn {F : FTy → Type} [FloatOps F] (main_arg0 : FVec F S32x2048x512 .bf16) (main_arg1 : FVec F S32x2048x512 .f32) (main_arg2 : FVec F S32x2048x512 .f32) (main_arg3 : FVec F S32x2048x8 .f32) : IVec S32x2048x1032 1 :=
  let main_v0 : FVec F S32x2048x512 .bf16 := Host.absf main_arg0
  let main_cst : FVec F S_ .bf16 := constant S_ .bf16 0x7F80#16
  let main_v1 : FVec F S32x2048x512 .bf16 := broadcastInDim S32x2048x512 ![] bcast_S_S32x2048x512 main_cst
  let main_v2 : IVec S32x2048x512 1 := cmpf .olt main_v0 main_v1
  let main_v3 : FVec F S32x2048x512 .f32 := Host.absf main_arg1
  let main_cst_0 : FVec F S_ .f32 := constant S_ .f32 0x7F800000#32
  let main_v4 : FVec F S32x2048x512 .f32 := broadcastInDim S32x2048x512 ![] bcast_S_S32x2048x512 main_cst_0
  let main_v5 : IVec S32x2048x512 1 := cmpf .olt main_v3 main_v4
  let main_v6 : FVec F S32x2048x8 .f32 := Host.absf main_arg3
  let main_cst_1 : FVec F S_ .f32 := constant S_ .f32 0x7F800000#32
  let main_v7 : FVec F S32x2048x8 .f32 := broadcastInDim S32x2048x8 ![] bcast_S_S32x2048x8 main_cst_1
  let main_v8 : IVec S32x2048x8 1 := cmpf .olt main_v6 main_v7
  let main_v9 : IVec S32x2048x1032 1 := concatenate S32x2048x1032 2 [⟨S32x2048x512, main_v2⟩, ⟨S32x2048x512, main_v5⟩, ⟨S32x2048x8, main_v8⟩] concatenates_S32x2048x512_S32x2048x512_S32x2048x8_S32x2048x1032_d2
  main_v9
-- ==== Pre_finite8.lean ====
abbrev S32x2048x512 : Shape := ⟨3, ![32, 2048, 512]⟩
abbrev S8x257 : Shape := ⟨2, ![8, 257]⟩
abbrev S_ : Shape := ⟨0, ![]⟩
abbrev S2040x257 : Shape := ⟨2, ![2040, 257]⟩
abbrev S2048x257 : Shape := ⟨2, ![2048, 257]⟩
abbrev S32x2048x257 : Shape := ⟨3, ![32, 2048, 257]⟩
abbrev S32x2048x1281 : Shape := ⟨3, ![32, 2048, 1281]⟩

class Facts : Prop where
  bcast_S_S2040x257 : S_.BroadcastsInDim S2040x257 (![] : Fin 0 → Fin S2040x257.rank)
  concatenates_S8x257_S2040x257_S2048x257_d0 : Shape.Concatenates [S8x257, S2040x257] S2048x257 0
  bcast_S2048x257_S32x2048x257_1_2 : S2048x257.BroadcastsInDim S32x2048x257 (![1, 2] : Fin 2 → Fin S32x2048x257.rank)
  bcast_S_S32x2048x512 : S_.BroadcastsInDim S32x2048x512 (![] : Fin 0 → Fin S32x2048x512.rank)
  bcast_S_S32x2048x257 : S_.BroadcastsInDim S32x2048x257 (![] : Fin 0 → Fin S32x2048x257.rank)
  concatenates_S32x2048x512_S32x2048x512_S32x2048x257_S32x2048x1281_d2 : Shape.Concatenates [S32x2048x512, S32x2048x512, S32x2048x257] S32x2048x1281 2

variable [Facts]

def fn {F : FTy → Type} [FloatOps F] (main_arg0 : FVec F S32x2048x512 .bf16) (main_arg1 : FVec F S32x2048x512 .f32) (main_arg2 : FVec F S32x2048x512 .f32) (main_arg3 : FVec F S8x257 .f32) : IVec S32x2048x1281 1 :=
  let main_cst : FVec F S_ .f32 := constant S_ .f32 0x00000000#32
  let main_v0 : FVec F S2040x257 .f32 := broadcastInDim S2040x257 ![] bcast_S_S2040x257 main_cst
  let main_v1 : FVec F S2048x257 .f32 := (fun a b => concatenate S2048x257 0 [⟨S8x257, a⟩, ⟨S2040x257, b⟩] concatenates_S8x257_S2040x257_S2048x257_d0) main_arg3 main_v0
  let main_v2 : FVec F S32x2048x257 .f32 := broadcastInDim S32x2048x257 ![1, 2] bcast_S2048x257_S32x2048x257_1_2 main_v1
  let main_v3 : FVec F S32x2048x512 .bf16 := Host.absf main_arg0
  let main_cst_0 : FVec F S_ .bf16 := constant S_ .bf16 0x7F80#16
  let main_v4 : FVec F S32x2048x512 .bf16 := broadcastInDim S32x2048x512 ![] bcast_S_S32x2048x512 main_cst_0
  let main_v5 : IVec S32x2048x512 1 := cmpf .olt main_v3 main_v4
  let main_v6 : FVec F S32x2048x512 .f32 := Host.absf main_arg1
  let main_cst_1 : FVec F S_ .f32 := constant S_ .f32 0x7F800000#32
  let main_v7 : FVec F S32x2048x512 .f32 := broadcastInDim S32x2048x512 ![] bcast_S_S32x2048x512 main_cst_1
  let main_v8 : IVec S32x2048x512 1 := cmpf .olt main_v6 main_v7
  let main_v9 : FVec F S32x2048x257 .f32 := Host.absf main_v2
  let main_cst_2 : FVec F S_ .f32 := constant S_ .f32 0x7F800000#32
  let main_v10 : FVec F S32x2048x257 .f32 := broadcastInDim S32x2048x257 ![] bcast_S_S32x2048x257 main_cst_2
  let main_v11 : IVec S32x2048x257 1 := cmpf .olt main_v9 main_v10
  let main_v12 : IVec S32x2048x1281 1 := concatenate S32x2048x1281 2 [⟨S32x2048x512, main_v5⟩, ⟨S32x2048x512, main_v8⟩, ⟨S32x2048x257, main_v11⟩] concatenates_S32x2048x512_S32x2048x512_S32x2048x257_S32x2048x1281_d2
  main_v12
-- ==== Kernel.lean ====
abbrev S32x2048x512 : Shape := ⟨3, ![32, 2048, 512]⟩
abbrev S32x2048x8 : Shape := ⟨3, ![32, 2048, 8]⟩
abbrev S32x8x2048 : Shape := ⟨3, ![32, 8, 2048]⟩
abbrev S1x256x128 : Shape := ⟨3, ![1, 256, 128]⟩
abbrev S1x2048x128 : Shape := ⟨3, ![1, 2048, 128]⟩
abbrev S1x8x2048 : Shape := ⟨3, ![1, 8, 2048]⟩
abbrev S2048x128 : Shape := ⟨2, ![2048, 128]⟩
abbrev S8x2048 : Shape := ⟨2, ![8, 2048]⟩
abbrev S256x128 : Shape := ⟨2, ![256, 128]⟩
abbrev S1x128 : Shape := ⟨2, ![1, 128]⟩
abbrev S512x128 : Shape := ⟨2, ![512, 128]⟩
abbrev S256x256 : Shape := ⟨2, ![256, 256]⟩
abbrev S512x256 : Shape := ⟨2, ![512, 256]⟩
abbrev S1x256 : Shape := ⟨2, ![1, 256]⟩
abbrev S256 : Shape := ⟨1, ![256]⟩
abbrev S256x1 : Shape := ⟨2, ![256, 1]⟩
abbrev S512x512 : Shape := ⟨2, ![512, 512]⟩
abbrev S256x512 : Shape := ⟨2, ![256, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .f32⟩
  | .hbm, ⟨2, _⟩ => ⟨S32x2048x512, .f32⟩
  | .hbm, ⟨3, _⟩ => ⟨S32x2048x8, .f32⟩
  | .hbm, ⟨4, _⟩ => ⟨S32x8x2048, .f32⟩
  | .hbm, ⟨5, _⟩ => ⟨S32x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x8x2048, .f32⟩
  | .local _ .vmem, ⟨7, _⟩ => ⟨S1x8x2048, .f32⟩
  | .local _ .vmem, ⟨8, _⟩ => ⟨S1x256x128, .bf16⟩
  | .local _ .vmem, ⟨9, _⟩ => ⟨S1x256x128, .bf16⟩
  | .local _ .vmem, ⟨10, _⟩ => ⟨S2048x128, .bf16⟩
  | .local _ .vmem, ⟨11, _⟩ => ⟨S2048x128, .bf16⟩
  | .local _ .vmem, ⟨12, _⟩ => ⟨S8x2048, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 4, 8], ![false, false, false]⟩

def k0_cond2 (i : grid0.Coords) : BitVec 1 :=
  let arg2 : BitVec 32 := BitVec.ofNat 32 (i 2).val
  let c0_i32_5 : BitVec 32 := 0#32
  let v22 : BitVec 1 := Scalar.cmpi .eq arg2 c0_i32_5
  let v23 : BitVec 32 := Scalar.extui v22
  let c0_i32_6 : BitVec 32 := 0#32
  let v24 : BitVec 1 := Scalar.cmpi .ne v23 c0_i32_6
  v24

def k0_off1 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_7 : BitVec 32 := 0#32
  let v27 : BitVec 1 := Scalar.cmpi .ne v26 c0_i32_7
  v27

def k0_off2 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_cond4 (i : grid0.Coords) : BitVec 1 :=
  let arg2 : BitVec 32 := BitVec.ofNat 32 (i 2).val
  let c2_i32 : BitVec 32 := 2#32
  let v28 : BitVec 1 := Scalar.cmpi .eq arg2 c2_i32
  let v29 : BitVec 32 := Scalar.extui v28
  let c0_i32_8 : BitVec 32 := 0#32
  let v30 : BitVec 1 := Scalar.cmpi .ne v29 c0_i32_8
  v30

def k0_off3 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off4 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_cond5 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_9 : BitVec 32 := 0#32
  let v33 : BitVec 1 := Scalar.cmpi .ne v32 c0_i32_9
  v33

def k0_off5 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off6 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_cond6 (i : grid0.Coords) : BitVec 1 :=
  let arg2 : BitVec 32 := BitVec.ofNat 32 (i 2).val
  let c4_i32 : BitVec 32 := 4#32
  let v34 : BitVec 1 := Scalar.cmpi .eq arg2 c4_i32
  let v35 : BitVec 32 := Scalar.extui v34
  let c0_i32_10 : BitVec 32 := 0#32
  let v36 : BitVec 1 := Scalar.cmpi .ne v35 c0_i32_10
  v36

def k0_off7 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off8 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_off9 (i : grid0.Coords) (c0_i32_48 : BitVec 32) : Fin 2 → Nat :=
  let c2_i32_47 : BitVec 32 := 2#32
  let arg1 : BitVec 32 := BitVec.ofNat 32 (i 1).val
  let v123 : BitVec 32 := Scalar.muli c2_i32_47 arg1
  let v124 : BitVec 32 := Scalar.addi v123 c0_i32_48
  let v125 : Index := Scalar.indexCast v124
  let c1024_49 : Index := 1024#32
  ![v125.toNat, 1024]
def k0_cond7 (i : grid0.Coords) : BitVec 1 :=
  let arg2 : BitVec 32 := BitVec.ofNat 32 (i 2).val
  let c5_i32 : BitVec 32 := 5#32
  let v37 : BitVec 1 := Scalar.cmpi .eq arg2 c5_i32
  let v38 : BitVec 32 := Scalar.extui v37
  let c0_i32_11 : BitVec 32 := 0#32
  let v39 : BitVec 1 := Scalar.cmpi .ne v38 c0_i32_11
  v39

def k0_off10 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off11 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_off12 (i : grid0.Coords) (c0_i32_48 : BitVec 32) : Fin 2 → Nat :=
  let c2_i32_47 : BitVec 32 := 2#32
  let arg1 : BitVec 32 := BitVec.ofNat 32 (i 1).val
  let v123 : BitVec 32 := Scalar.muli c2_i32_47 arg1
  let v124 : BitVec 32 := Scalar.addi v123 c0_i32_48
  let v125 : Index := Scalar.indexCast v124
  let c1024_49 : Index := 1024#32
  ![v125.toNat, 1024]
def k0_cond8 (i : grid0.Coords) : BitVec 1 :=
  let arg2 : BitVec 32 := BitVec.ofNat 32 (i 2).val
  let c6_i32 : BitVec 32 := 6#32
  let v40 : BitVec 1 := Scalar.cmpi .eq arg2 c6_i32
  let v41 : BitVec 32 := Scalar.extui v40
  let c0_i32_12 : BitVec 32 := 0#32
  let v42 : BitVec 1 := Scalar.cmpi .ne v41 c0_i32_12
  v42

def k0_off13 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off14 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_off15 (i : grid0.Coords) (c0_i32_48 : BitVec 32) : Fin 2 → Nat :=
  let c2_i32_47 : BitVec 32 := 2#32
  let arg1 : BitVec 32 := BitVec.ofNat 32 (i 1).val
  let v123 : BitVec 32 := Scalar.muli c2_i32_47 arg1
  let v124 : BitVec 32 := Scalar.addi v123 c0_i32_48
  let v125 : Index := Scalar.indexCast v124
  let c1024_49 : Index := 1024#32
  ![v125.toNat, 1024]
def k0_off16 (i : grid0.Coords) (c0_i32_63 : BitVec 32) : Fin 2 → Nat :=
  let c2_i32_62 : BitVec 32 := 2#32
  let arg1 : BitVec 32 := BitVec.ofNat 32 (i 1).val
  let v160 : BitVec 32 := Scalar.muli c2_i32_62 arg1
  let v161 : BitVec 32 := Scalar.addi v160 c0_i32_63
  let v162 : Index := Scalar.indexCast v161
  let c1536_64 : Index := 1536#32
  ![v162.toNat, 1536]
def k0_cond9 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_13 : BitVec 32 := 0#32
  let v45 : BitVec 1 := Scalar.cmpi .ne v44 c0_i32_13
  v45

def k0_off17 (i : grid0.Coords) (c0_i32_18 : BitVec 32) : Fin 2 → Nat :=
  let c2_i32_17 : BitVec 32 := 2#32
  let arg1 : BitVec 32 := BitVec.ofNat 32 (i 1).val
  let v49 : BitVec 32 := Scalar.muli c2_i32_17 arg1
  let v50 : BitVec 32 := Scalar.addi v49 c0_i32_18
  let v51 : Index := Scalar.indexCast v50
  let c0_19 : Index := 0#32
  ![v51.toNat, 0]
def k0_off18 (i : grid0.Coords) (c0_i32_33 : BitVec 32) : Fin 2 → Nat :=
  let c2_i32_32 : BitVec 32 := 2#32
  let arg1 : BitVec 32 := BitVec.ofNat 32 (i 1).val
  let v86 : BitVec 32 := Scalar.muli c2_i32_32 arg1
  let v87 : BitVec 32 := Scalar.addi v86 c0_i32_33
  let v88 : Index := Scalar.indexCast v87
  let c512_34 : Index := 512#32
  ![v88.toNat, 512]
def k0_off19 (i : grid0.Coords) (c0_i32_48 : BitVec 32) : Fin 2 → Nat :=
  let c2_i32_47 : BitVec 32 := 2#32
  let arg1 : BitVec 32 := BitVec.ofNat 32 (i 1).val
  let v123 : BitVec 32 := Scalar.muli c2_i32_47 arg1
  let v124 : BitVec 32 := Scalar.addi v123 c0_i32_48
  let v125 : Index := Scalar.indexCast v124
  let c1024_49 : Index := 1024#32
  ![v125.toNat, 1024]
def k0_off20 (i : grid0.Coords) (c0_i32_63 : BitVec 32) : Fin 2 → Nat :=
  let c2_i32_62 : BitVec 32 := 2#32
  let arg1 : BitVec 32 := BitVec.ofNat 32 (i 1).val
  let v160 : BitVec 32 := Scalar.muli c2_i32_62 arg1
  let v161 : BitVec 32 := Scalar.addi v160 c0_i32_63
  let v162 : Index := Scalar.indexCast v161
  let c1536_64 : Index := 1536#32
  ![v162.toNat, 1536]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S_ : Shape := ⟨0, ![]⟩
abbrev S32x8x2048 : Shape := ⟨3, ![32, 8, 2048]⟩
abbrev S2048 : Shape := ⟨1, ![2048]⟩
abbrev S32x8x2048x2048 : Shape := ⟨4, ![32, 8, 2048, 2048]⟩
abbrev S32x8x2048x1 : Shape := ⟨4, ![32, 8, 2048, 1]⟩
abbrev S32x8x1x2048 : Shape := ⟨4, ![32, 8, 1, 2048]⟩
abbrev S1x2048 : Shape := ⟨2, ![1, 2048]⟩
abbrev S2048x1 : Shape := ⟨2, ![2048, 1]⟩
abbrev S2048x2048 : Shape := ⟨2, ![2048, 2048]⟩
abbrev S32x8x64x2048 : Shape := ⟨4, ![32, 8, 64, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .f32⟩
  | .hbm, ⟨2, _⟩ => ⟨S32x2048x512, .f32⟩
  | .hbm, ⟨3, _⟩ => ⟨S32x2048x8, .f32⟩
  | .hbm, ⟨4, _⟩ => ⟨S32x2048x512, .f32⟩
  | .hbm, ⟨5, _⟩ => ⟨S32x2048x8x64, .f32⟩
  | .hbm, ⟨6, _⟩ => ⟨S32x2048x8x64, .f32⟩
  | .hbm, ⟨7, _⟩ => ⟨S32x2048x8x64, .f32⟩
  | .hbm, ⟨8, _⟩ => ⟨S_, .f32⟩
  | .hbm, ⟨9, _⟩ => ⟨S_, .f32⟩
  | .hbm, ⟨10, _⟩ => ⟨S32x2048x8, .f32⟩
  | .hbm, ⟨11, _⟩ => ⟨S32x8x2048, .f32⟩
  | .hbm, ⟨12, _⟩ => ⟨S2048, .i32⟩
  | .hbm, ⟨13, _⟩ => ⟨S32x8x2048x2048, .f32⟩
  | .hbm, ⟨14, _⟩ => ⟨S32x8x2048x1, .f32⟩
  | .hbm, ⟨15, _⟩ => ⟨S32x8x2048x2048, .f32⟩
  | .hbm, ⟨16, _⟩ => ⟨S32x8x2048x2048, .f32⟩
  | .hbm, ⟨17, _⟩ => ⟨S32x8x1x2048, .f32⟩
  | .hbm, ⟨18, _⟩ => ⟨S32x8x2048x2048, .f32⟩
  | .hbm, ⟨19, _⟩ => ⟨S32x8x2048x2048, .f32⟩
  | .hbm, ⟨20, _⟩ => ⟨S1x2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .f32⟩
  | .hbm, ⟨26, _⟩ => ⟨S_, .f32⟩
  | .hbm, ⟨27, _⟩ => ⟨S32x8x2048x2048, .i1⟩
  | .hbm, ⟨28, _⟩ => ⟨S32x8x2048x2048, .f32⟩
  | .hbm, ⟨29, _⟩ => ⟨S32x8x2048x2048, .f32⟩
  | .hbm, ⟨30, _⟩ => ⟨S_, .f32⟩
  | .hbm, ⟨31, _⟩ => ⟨S32x8x2048, .f32⟩
  | .hbm, ⟨32, _⟩ => ⟨S_, .f32⟩
  | .hbm, ⟨33, _⟩ => ⟨S32x8x2048, .f32⟩
  | .hbm, ⟨34, _⟩ => ⟨S32x8x2048, .f32⟩
  | .hbm, ⟨35, _⟩ => ⟨S32x8x2048x1, .f32⟩
  | .hbm, ⟨36, _⟩ => ⟨S32x8x2048x2048, .f32⟩
  | .hbm, ⟨37, _⟩ => ⟨S32x8x2048x2048, .f32⟩
  | .hbm, ⟨38, _⟩ => ⟨S32x8x2048x2048, .f32⟩
  | .hbm, ⟨39, _⟩ => ⟨S_, .f32⟩
  | .hbm, ⟨40, _⟩ => ⟨S32x8x2048, .f32⟩
  | .hbm, ⟨41, _⟩ => ⟨S32x8x2048x1, .f32⟩
  | .hbm, ⟨42, _⟩ => ⟨S32x8x2048x2048, .f32⟩
  | .hbm, ⟨43, _⟩ => ⟨S32x8x2048x2048, .f32⟩
  | .hbm, ⟨44, _⟩ => ⟨S32x8x64x2048, .f32⟩
  | .hbm, ⟨45, _⟩ => ⟨S32x2048x8x64, .f32⟩
  | .hbm, ⟨46, _⟩ => ⟨S32x2048x512, .f32⟩
  | .hbm, ⟨47, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S65536x1024 : Shape := ⟨2, ![65536, 1024]⟩
abbrev S512 : Shape := ⟨1, ![512]⟩
abbrev S_ : Shape := ⟨0, ![]⟩
abbrev S1x1024 : Shape := ⟨2, ![1, 1024]⟩
abbrev S1024x1536 : Shape := ⟨2, ![1024, 1536]⟩
abbrev S1024x8 : Shape := ⟨2, ![1024, 8]⟩
abbrev S1024x128 : Shape := ⟨2, ![1024, 128]⟩
abbrev S1024x2048 : Shape := ⟨2, ![1024, 2048]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S65536x512 : Shape := ⟨2, ![65536, 512]⟩
abbrev S65536x8 : Shape := ⟨2, ![65536, 8]⟩
abbrev S512x1024 : Shape := ⟨2, ![512, 1024]⟩
abbrev S512x8 : Shape := ⟨2, ![512, 8]⟩
abbrev S512x1536 : Shape := ⟨2, ![512, 1536]⟩
abbrev S512x128 : Shape := ⟨2, ![512, 128]⟩
abbrev S512x2048 : Shape := ⟨2, ![512, 2048]⟩

abbrev nBuf : Space → Nat
  | .hbm => 80
  | .vmem => 31
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S65536x1024, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S1x1024, .f32⟩
  | .hbm, ⟨29, _⟩ => ⟨S1024x1536, .f32⟩
  | .hbm, ⟨30, _⟩ => ⟨S1024x1536, .bf16⟩
  | .hbm, ⟨31, _⟩ => ⟨S1024x8, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x128, .bf16⟩
  | .hbm, ⟨36, _⟩ => ⟨S1024x1536, .f32⟩
  | .hbm, ⟨37, _⟩ => ⟨S1024x1536, .bf16⟩
  | .hbm, ⟨38, _⟩ => ⟨S1024x2048, .f32⟩
  | .hbm, ⟨39, _⟩ => ⟨S1024x2048, .bf16⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S1x512, .f32⟩
  | .hbm, ⟨60, _⟩ => ⟨S512x1, .i32⟩
  | .hbm, ⟨61, _⟩ => ⟨S1x512, .i32⟩
  | .hbm, ⟨62, _⟩ => ⟨S512x512, .i32⟩
  | .hbm, ⟨63, _⟩ => ⟨S512x512, .i32⟩
  | .hbm, ⟨64, _⟩ => ⟨S512x512, .i1⟩
  | .hbm, ⟨65, _⟩ => ⟨S_, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S512x512, .f32⟩
  | .hbm, ⟨70, _⟩ => ⟨S512x512, .bf16⟩
  | .hbm, ⟨71, _⟩ => ⟨S65536x512, .bf16⟩
  | .hbm, ⟨72, _⟩ => ⟨S65536x512, .f32⟩
  | .hbm, ⟨73, _⟩ => ⟨S65536x512, .f32⟩
  | .hbm, ⟨74, _⟩ => ⟨S65536x8, .f32⟩
  | .hbm, ⟨75, _⟩ => ⟨S65536x512, .bf16⟩
  | .hbm, ⟨76, _⟩ => ⟨S65536x512, .f32⟩
  | .hbm, ⟨77, _⟩ => ⟨S65536x512, .f32⟩
  | .hbm, ⟨78, _⟩ => ⟨S65536x1024, .bf16⟩
  | .hbm, ⟨79, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x128, .bf16⟩
  | .local _ .vmem, ⟨5, _⟩ => ⟨S1024x1536, .bf16⟩
  | .local _ .vmem, ⟨6, _⟩ => ⟨S1024x2048, .bf16⟩
  | .local _ .vmem, ⟨7, _⟩ => ⟨S1x128, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x8, .f32⟩
  | .local _ .vmem, ⟨20, _⟩ => ⟨S512x8, .f32⟩
  | .local _ .vmem, ⟨21, _⟩ => ⟨S512x512, .bf16⟩
  | .local _ .vmem, ⟨22, _⟩ => ⟨S512x512, .bf16⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_1 : Ref sig .tc := ⟨.hbm, 40, rfl⟩
abbrev main_call2_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_cst_2 : Ref sig .tc := ⟨.hbm, 66, rfl⟩
abbrev main_call3_v0 : Ref sig .tc := ⟨.hbm, 67, rfl⟩
abbrev main_call3_v1 : Ref sig .tc := ⟨.hbm, 68, rfl⟩
abbrev main_v36 : Ref sig .tc := ⟨.hbm, 69, rfl⟩
abbrev main_v37 : Ref sig .tc := ⟨.hbm, 70, rfl⟩
abbrev main_v38_0 : Ref sig .tc := ⟨.hbm, 71, rfl⟩
abbrev main_v38_1 : Ref sig .tc := ⟨.hbm, 72, rfl⟩
abbrev main_v38_2 : Ref sig .tc := ⟨.hbm, 73, rfl⟩
abbrev main_v38_3 : Ref sig .tc := ⟨.hbm, 74, rfl⟩
abbrev main_v38_4 : Ref sig .tc := ⟨.hbm, 75, rfl⟩
abbrev main_v38_5 : Ref sig .tc := ⟨.hbm, 76, rfl⟩
abbrev main_v38_6 : Ref sig .tc := ⟨.hbm, 77, rfl⟩
abbrev main_v38_7 : Ref sig .tc := ⟨.hbm, 78, rfl⟩
abbrev main_v38_8 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S32x2048x1024 : Shape := ⟨3, ![32, 2048, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5128 : Shape := ⟨3, ![32, 2048, 5128]⟩
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S32x2048x8x1 : Shape := ⟨4, ![32, 2048, 8, 1]⟩
abbrev S1x1x1x64 : Shape := ⟨4, ![1, 1, 1, 64]⟩
abbrev S1x1x8 : Shape := ⟨3, ![1, 1, 8]⟩
abbrev S65536x512 : Shape := ⟨2, ![65536, 512]⟩
abbrev S65536x8 : Shape := ⟨2, ![65536, 8]⟩
abbrev S65536x1024 : Shape := ⟨2, ![65536, 1024]⟩

abbrev nBuf : Space → Nat
  | .hbm => 156
  | .vmem => 0
  | .smem => 0
  | _ => 0

abbrev hbmTy0_0 (i : Nat) : BufTy := match i % 128 with
  | 0 => ⟨S32x2048x1024, .f32⟩
  | 1 => ⟨S1024, .f32⟩
  | 2 => ⟨S1024x5128, .f32⟩
  | 3 => ⟨S8, .f32⟩
  | 4 => ⟨S64, .f32⟩
  | 5 => ⟨S64, .f32⟩
  | 6 => ⟨S64, .f32⟩
  | 7 => ⟨S64, .f32⟩
  | 8 => ⟨S32x2048x1024, .f32⟩
  | 9 => ⟨S_, .f32⟩
  | 10 => ⟨S32x2048, .f32⟩
  | 11 => ⟨S32x2048x1, .f32⟩
  | 12 => ⟨S_, .f32⟩
  | 13 => ⟨S32x2048x1, .f32⟩
  | 14 => ⟨S32x2048x1, .f32⟩
  | 15 => ⟨S_, .f32⟩
  | 16 => ⟨S32x2048x1, .f32⟩
  | 17 => ⟨S32x2048x1, .f32⟩
  | 18 => ⟨S32x2048x1, .f32⟩
  | 19 => ⟨S32x2048x1024, .f32⟩
  | 20 => ⟨S32x2048x1024, .f32⟩
  | 21 => ⟨S1x1x1024, .f32⟩
  | 22 => ⟨S32x2048x1024, .f32⟩
  | 23 => ⟨S32x2048x1024, .f32⟩
  | 24 => ⟨S32x2048x5128, .f32⟩
  | 25 => ⟨S32x2048x512, .f32⟩
  | 26 => ⟨S32x2048x512, .f32⟩
  | 27 => ⟨S32x2048x512, .f32⟩
  | 28 => ⟨S32x2048x8, .f32⟩
  | 29 => ⟨S32x2048x512, .f32⟩
  | 30 => ⟨S32x2048x512, .f32⟩
  | 31 => ⟨S32x2048x512, .f32⟩
  | 32 => ⟨S32x2048x1024, .f32⟩
  | 33 => ⟨S32x2048x1024, .f32⟩
  | 34 => ⟨S32x2048x8x64, .f32⟩
  | 35 => ⟨S32x2048x8x64, .f32⟩
  | 36 => ⟨S_, .f32⟩
  | 37 => ⟨S32x2048x8, .f32⟩
  | 38 => ⟨S32x2048x8x1, .f32⟩
  | 39 => ⟨S_, .f32⟩
  | 40 => ⟨S32x2048x8x1, .f32⟩
  | 41 => ⟨S32x2048x8x1, .f32⟩
  | 42 => ⟨S_, .f32⟩
  | 43 => ⟨S32x2048x8x1, .f32⟩
  | 44 => ⟨S32x2048x8x1, .f32⟩
  | 45 => ⟨S32x2048x8x1, .f32⟩
  | 46 => ⟨S32x2048x8x64, .f32⟩
  | 47 => ⟨S32x2048x8x64, .f32⟩
  | 48 => ⟨S1x1x1x64, .f32⟩
  | 49 => ⟨S32x2048x8x64, .f32⟩
  | 50 => ⟨S32x2048x8x64, .f32⟩
  | 51 => ⟨S_, .f32⟩
  | 52 => ⟨S32x2048x8x64, .f32⟩
  | 53 => ⟨S32x2048x8x64, .f32⟩
  | 54 => ⟨S32x2048x8x64, .f32⟩
  | 55 => ⟨S32x2048x8x64, .f32⟩
  | 56 => ⟨S_, .f32⟩
  | 57 => ⟨S32x2048x8, .f32⟩
  | 58 => ⟨S32x2048x8x1, .f32⟩
  | 59 => ⟨S_, .f32⟩
  | 60 => ⟨S32x2048x8x1, .f32⟩
  | 61 => ⟨S32x2048x8x1, .f32⟩
  | 62 => ⟨S_, .f32⟩
  | 63 => ⟨S32x2048x8x1, .f32⟩
  | 64 => ⟨S32x2048x8x1, .f32⟩
  | 65 => ⟨S32x2048x8x1, .f32⟩
  | 66 => ⟨S32x2048x8x64, .f32⟩
  | 67 => ⟨S32x2048x8x64, .f32⟩
  | 68 => ⟨S1x1x1x64, .f32⟩
  | 69 => ⟨S32x2048x8x64, .f32⟩
  | 70 => ⟨S32x2048x8x64, .f32⟩
  | 71 => ⟨S32x2048x8x64, .f32⟩
  | 72 => ⟨S32x2048x8x64, .f32⟩
  | 73 => ⟨S_, .f32⟩
  | 74 => ⟨S32x2048x8, .f32⟩
  | 75 => ⟨S32x2048x8x1, .f32⟩
  | 76 => ⟨S_, .f32⟩
  | 77 => ⟨S32x2048x8x1, .f32⟩
  | 78 => ⟨S32x2048x8x1, .f32⟩
  | 79 => ⟨S_, .f32⟩
  | 80 => ⟨S32x2048x8x1, .f32⟩
  | 81 => ⟨S32x2048x8x1, .f32⟩
  | 82 => ⟨S32x2048x8x1, .f32⟩
  | 83 => ⟨S32x2048x8x64, .f32⟩
  | 84 => ⟨S32x2048x8x64, .f32⟩
  | 85 => ⟨S1x1x1x64, .f32⟩
  | 86 => ⟨S32x2048x8x64, .f32⟩
  | 87 => ⟨S32x2048x8x64, .f32⟩
  | 88 => ⟨S_, .f32⟩
  | 89 => ⟨S32x2048x8x64, .f32⟩
  | 90 => ⟨S32x2048x8x64, .f32⟩
  | 91 => ⟨S32x2048x8x64, .f32⟩
  | 92 => ⟨S32x2048x8x64, .f32⟩
  | 93 => ⟨S_, .f32⟩
  | 94 => ⟨S32x2048x8, .f32⟩
  | 95 => ⟨S32x2048x8x1, .f32⟩
  | 96 => ⟨S_, .f32⟩
  | 97 => ⟨S32x2048x8x1, .f32⟩
  | 98 => ⟨S32x2048x8x1, .f32⟩
  | 99 => ⟨S_, .f32⟩
  | 100 => ⟨S32x2048x8x1, .f32⟩
  | 101 => ⟨S32x2048x8x1, .f32⟩
  | 102 => ⟨S32x2048x8x1, .f32⟩
  | 103 => ⟨S32x2048x8x64, .f32⟩
  | 104 => ⟨S32x2048x8x64, .f32⟩
  | 105 => ⟨S1x1x1x64, .f32⟩
  | 106 => ⟨S32x2048x8x64, .f32⟩
  | 107 => ⟨S32x2048x8x64, .f32⟩
  | 108 => ⟨S1x1x8, .f32⟩
  | 109 => ⟨S32x2048x8, .f32⟩
  | 110 => ⟨S32x2048x8, .f32⟩
  | 111 => ⟨S32x2048x8, .f32⟩
  | 112 => ⟨S_, .f32⟩
  | 113 => ⟨S32x2048x8, .f32⟩
  | 114 => ⟨S32x2048x8, .f32⟩
  | 115 => ⟨S32x2048x8, .f32⟩
  | 116 => ⟨S32x2048x8, .f32⟩
  | 117 => ⟨S32x2048x8, .i1⟩
  | 118 => ⟨S32x2048x8, .f32⟩
  | 119 => ⟨S32x2048x8, .f32⟩
  | 120 => ⟨S32x2048x8, .f32⟩
  | 121 => ⟨S32x2048x8, .f32⟩
  | 122 => ⟨S32x2048x8, .f32⟩
  | 123 => ⟨S32x2048x8, .f32⟩
  | 124 => ⟨S32x2048x8, .f32⟩
  | 125 => ⟨S32x2048x8, .f32⟩
  | 126 => ⟨S32x2048x8, .f32⟩
  | 127 => ⟨S65536x512, .f32⟩
  | _ => ⟨S32x2048x1024, .f32⟩

abbrev hbmTy0_1 (i : Nat) : BufTy := match i % 128 with
  | 0 => ⟨S65536x512, .bf16⟩
  | 1 => ⟨S65536x512, .f32⟩
  | 2 => ⟨S65536x512, .f32⟩
  | 3 => ⟨S65536x8, .f32⟩
  | 4 => ⟨S65536x512, .f32⟩
  | 5 => ⟨S65536x512, .bf16⟩
  | 6 => ⟨S65536x512, .f32⟩
  | 7 => ⟨S65536x512, .f32⟩
  | 8 => ⟨S32x2048x1024, .f32⟩
  | 9 => ⟨S32x2048x1024, .f32⟩
  | 10 => ⟨S_, .f32⟩
  | 11 => ⟨S32x2048x1024, .f32⟩
  | 12 => ⟨S32x2048x1024, .f32⟩
  | 13 => ⟨S_, .f32⟩
  | 14 => ⟨S32x2048x1024, .f32⟩
  | 15 => ⟨S32x2048x1024, .f32⟩
  | 16 => ⟨S65536x1024, .f32⟩
  | 17 => ⟨S65536x1024, .bf16⟩
  | 18 => ⟨S32x2048x1024, .f32⟩
  | 19 => ⟨S32x2048x1024, .f32⟩
  | 20 => ⟨S_, .f32⟩
  | 21 => ⟨S32x2048x1024, .f32⟩
  | 22 => ⟨S32x2048x1024, .f32⟩
  | 23 => ⟨S_, .f32⟩
  | 24 => ⟨S32x2048x1024, .f32⟩
  | 25 => ⟨S32x2048x1024, .f32⟩
  | 26 => ⟨S65536x1024, .f32⟩
  | 27 => ⟨S65536x1024, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call0_v0 : Ref sig .tc := ⟨.hbm, 111, rfl⟩
abbrev main_call0_call0_cst : Ref sig .tc := ⟨.hbm, 112, rfl⟩
abbrev main_call0_call0_v0 : Ref sig .tc := ⟨.hbm, 113, rfl⟩
abbrev main_call0_call0_v1 : Ref sig .tc := ⟨.hbm, 114, rfl⟩
abbrev main_call0_call0_v2 : Ref sig .tc := ⟨.hbm, 115, rfl⟩
abbrev main_call0_call0_v3 : Ref sig .tc := ⟨.hbm, 116, rfl⟩
abbrev main_call0_call0_v4 : Ref sig .tc := ⟨.hbm, 117, rfl⟩
abbrev main_call0_call0_v5 : Ref sig .tc := ⟨.hbm, 118, rfl⟩
abbrev main_call0_call0_v6 : Ref sig .tc := ⟨.hbm, 119, rfl⟩
abbrev main_call0_call0_v7 : Ref sig .tc := ⟨.hbm, 120, rfl⟩
abbrev main_call0_call0_v8 : Ref sig .tc := ⟨.hbm, 121, rfl⟩
abbrev main_call0_call0_v9 : Ref sig .tc := ⟨.hbm, 122, rfl⟩
abbrev main_call0_call0_v10 : Ref sig .tc := ⟨.hbm, 123, rfl⟩
abbrev main_call0_call0_v11 : Ref sig .tc := ⟨.hbm, 124, rfl⟩
abbrev main_call0_v1 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_v99 : Ref sig .tc := ⟨.hbm, 140, rfl⟩
abbrev main_cst_17 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_18 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 15
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S65536x1024, .f32⟩
  | .hbm, ⟨14, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S65536x1024 : Shape := ⟨2, ![65536, 1024]⟩
abbrev S65536x512 : Shape := ⟨2, ![65536, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S65536x1024, .f32⟩
  | .hbm, ⟨10, _⟩ => ⟨S65536x512, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x512, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel4.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S65536x1024 : Shape := ⟨2, ![65536, 1024]⟩
abbrev S65536x256 : Shape := ⟨2, ![65536, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S65536x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S1x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel5.lean ====
abbrev S16x16x1024 : Shape := ⟨3, ![16, 16, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S256x1024 : Shape := ⟨2, ![256, 1024]⟩
abbrev S512 : Shape := ⟨1, ![512]⟩
abbrev S_ : Shape := ⟨0, ![]⟩
abbrev S1x1024 : Shape := ⟨2, ![1, 1024]⟩
abbrev S1024x1536 : Shape := ⟨2, ![1024, 1536]⟩
abbrev S1024x8 : Shape := ⟨2, ![1024, 8]⟩
abbrev S1024x128 : Shape := ⟨2, ![1024, 128]⟩
abbrev S1024x2048 : Shape := ⟨2, ![1024, 2048]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S256x512 : Shape := ⟨2, ![256, 512]⟩
abbrev S256x8 : Shape := ⟨2, ![256, 8]⟩
abbrev S256 : Shape := ⟨1, ![256]⟩
abbrev S256x1 : Shape := ⟨2, ![256, 1]⟩
abbrev S256x1536 : Shape := ⟨2, ![256, 1536]⟩
abbrev S256x128 : Shape := ⟨2, ![256, 128]⟩
abbrev S256x2048 : Shape := ⟨2, ![256, 2048]⟩

abbrev nBuf : Space → Nat
  | .hbm => 80
  | .vmem => 21
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x5128, .f32⟩
  | .hbm, ⟨3, _⟩ => ⟨S8, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S256x1024, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S1x1024, .f32⟩
  | .hbm, ⟨29, _⟩ => ⟨S1024x1536, .f32⟩
  | .hbm, ⟨30, _⟩ => ⟨S1024x1536, .bf16⟩
  | .hbm, ⟨31, _⟩ => ⟨S1024x8, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x128, .bf16⟩
  | .hbm, ⟨36, _⟩ => ⟨S1024x1536, .f32⟩
  | .hbm, ⟨37, _⟩ => ⟨S1024x1536, .bf16⟩
  | .hbm, ⟨38, _⟩ => ⟨S1024x2048, .f32⟩
  | .hbm, ⟨39, _⟩ => ⟨S1024x2048, .bf16⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S1x64, .f32⟩
  | .hbm, ⟨49, _⟩ => ⟨S8x64, .f32⟩
  | .hbm, ⟨50, _⟩ => ⟨S512, .f32⟩
  | .hbm, ⟨51, _⟩ => ⟨S1x512, .f32⟩
  | .hbm, ⟨52, _⟩ => ⟨S1x64, .f32⟩
  | .hbm, ⟨53, _⟩ => ⟨S8x64, .f32⟩
  | .hbm, ⟨54, _⟩ => ⟨S512, .f32⟩
  | .hbm, ⟨55, _⟩ => ⟨S1x512, .f32⟩
  | .hbm, ⟨56, _⟩ => ⟨S1x64, .f32⟩
  | .hbm, ⟨57, _⟩ => ⟨S8x64, .f32⟩
  | .hbm, ⟨58, _⟩ => ⟨S512, .f32⟩
  | .hbm, ⟨59, _⟩ => ⟨S1x512, .f32⟩
  | .hbm, ⟨60, _⟩ => ⟨S512x1, .i32⟩
  | .hbm, ⟨61, _⟩ => ⟨S1x512, .i32⟩
  | .hbm, ⟨62, _⟩ => ⟨S512x512, .i32⟩
  | .hbm, ⟨63, _⟩ => ⟨S512x512, .i32⟩
  | .hbm, ⟨64, _⟩ => ⟨S512x512, .i1⟩
  | .hbm, ⟨65, _⟩ => ⟨S_, .f32⟩
  | .hbm, ⟨66, _⟩ => ⟨S_, .f32⟩
  | .hbm, ⟨67, _⟩ => ⟨S512x512, .f32⟩
  | .hbm, ⟨68, _⟩ => ⟨S512x512, .f32⟩
  | .hbm, ⟨69, _⟩ => ⟨S512x512, .f32⟩
  | .hbm, ⟨70, _⟩ => ⟨S512x512, .bf16⟩
  | .hbm, ⟨71, _⟩ => ⟨S256x512, .bf16⟩
  | .hbm, ⟨72, _⟩ => ⟨S256x512, .f32⟩
  | .hbm, ⟨73, _⟩ => ⟨S256x512, .f32⟩
  | .hbm, ⟨74, _⟩ => ⟨S256x8, .f32⟩
  | .hbm, ⟨75, _⟩ => ⟨S256x512, .bf16⟩
  | .hbm, ⟨76, _⟩ => ⟨S256x512, .f32⟩
  | .hbm, ⟨77, _⟩ => ⟨S256x512, .f32⟩
  | .hbm, ⟨78, _⟩ => ⟨S256x1024, .bf16⟩
  | .hbm, ⟨79, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1536, .bf16⟩
  | .local _ .vmem, ⟨3, _⟩ => ⟨S1024x128, .bf16⟩
  | .local _ .vmem, ⟨4, _⟩ => ⟨S1024x1536, .bf16⟩
  | .local _ .vmem, ⟨5, _⟩ => ⟨S1024x2048, .bf16⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S256x512, .bf16⟩
  | .local _ .vmem, ⟨13, _⟩ => ⟨S256x512, .f32⟩
  | .local _ .vmem, ⟨14, _⟩ => ⟨S256x512, .f32⟩
  | .local _ .vmem, ⟨15, _⟩ => ⟨S256x8, .f32⟩
  | .local _ .vmem, ⟨16, _⟩ => ⟨S256x512, .bf16⟩
  | .local _ .vmem, ⟨17, _⟩ => ⟨S256x512, .f32⟩
  | .local _ .vmem, ⟨18, _⟩ => ⟨S256x512, .f32⟩
  | .local _ .vmem, ⟨19, _⟩ => ⟨S256x1024, .bf16⟩
  | .local _ .vmem, ⟨20, _⟩ => ⟨S256x1024, .bf16⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_call1_v0 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_1 : Ref sig .tc := ⟨.hbm, 40, rfl⟩
abbrev main_call2_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_cst_2 : Ref sig .tc := ⟨.hbm, 66, rfl⟩
abbrev main_call3_v0 : Ref sig .tc := ⟨.hbm, 67, rfl⟩
abbrev main_call3_v1 : Ref sig .tc := ⟨.hbm, 68, rfl⟩
abbrev main_v36 : Ref sig .tc := ⟨.hbm, 69, rfl⟩
abbrev main_v37 : Ref sig .tc := ⟨.hbm, 70, rfl⟩
abbrev main_v38_0 : Ref sig .tc := ⟨.hbm, 71, rfl⟩
abbrev main_v38_1 : Ref sig .tc := ⟨.hbm, 72, rfl⟩
abbrev main_v38_2 : Ref sig .tc := ⟨.hbm, 73, rfl⟩
abbrev main_v38_3 : Ref sig .tc := ⟨.hbm, 74, rfl⟩
abbrev main_v38_4 : Ref sig .tc := ⟨.hbm, 75, rfl⟩
abbrev main_v38_5 : Ref sig .tc := ⟨.hbm, 76, rfl⟩
abbrev main_v38_6 : Ref sig .tc := ⟨.hbm, 77, rfl⟩
abbrev main_v38_7 : Ref sig .tc := ⟨.hbm, 78, rfl⟩
abbrev main_v38_8 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== Reference5Ideal.lean ====
abbrev S16x16x1024 : Shape := ⟨3, ![16, 16, 1024]⟩
abbrev S1024 : Shape := ⟨1, ![1024]⟩
abbrev S1024x5128 : Shape := ⟨2, ![1024, 5128]⟩
abbrev S8 : Shape := ⟨1, ![8]⟩
abbrev S64 : Shape := ⟨1, ![64]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x5128 : Shape := ⟨3, ![16, 16, 5128]⟩
abbrev S16x16x512 : Shape := ⟨3, ![16, 16, 512]⟩
abbrev S16x16x8 : Shape := ⟨3, ![16, 16, 8]⟩
abbrev S16x16x8x64 : Shape := ⟨4, ![16, 16, 8, 64]⟩
abbrev S16x16x8x1 : Shape := ⟨4, ![16, 16, 8, 1]⟩
abbrev S1x1x1x64 : Shape := ⟨4, ![1, 1, 1, 64]⟩
abbrev S1x1x8 : Shape := ⟨3, ![1, 1, 8]⟩
abbrev S256x512 : Shape := ⟨2, ![256, 512]⟩
abbrev S256x8 : Shape := ⟨2, ![256, 8]⟩
abbrev S256x1024 : Shape := ⟨2, ![256, 1024]⟩

abbrev nBuf : Space → Nat
  | .hbm => 156
  | .vmem => 0
  | .smem => 0
  | _ => 0

abbrev hbmTy0_0 (i : Nat) : BufTy := match i % 128 with
  | 0 => ⟨S16x16x1024, .f32⟩
  | 1 => ⟨S1024, .f32⟩
  | 2 => ⟨S1024x5128, .f32⟩
  | 3 => ⟨S8, .f32⟩
  | 4 => ⟨S64, .f32⟩
  | 5 => ⟨S64, .f32⟩
  | 6 => ⟨S64, .f32⟩
  | 7 => ⟨S64, .f32⟩
  | 8 => ⟨S16x16x1024, .f32⟩
  | 9 => ⟨S_, .f32⟩
  | 10 => ⟨S16x16, .f32⟩
  | 11 => ⟨S16x16x1, .f32⟩
  | 12 => ⟨S_, .f32⟩
  | 13 => ⟨S16x16x1, .f32⟩
  | 14 => ⟨S16x16x1, .f32⟩
  | 15 => ⟨S_, .f32⟩
  | 16 => ⟨S16x16x1, .f32⟩
  | 17 => ⟨S16x16x1, .f32⟩
  | 18 => ⟨S16x16x1, .f32⟩
  | 19 => ⟨S16x16x1024, .f32⟩
  | 20 => ⟨S16x16x1024, .f32⟩
  | 21 => ⟨S1x1x1024, .f32⟩
  | 22 => ⟨S16x16x1024, .f32⟩
  | 23 => ⟨S16x16x1024, .f32⟩
  | 24 => ⟨S16x16x5128, .f32⟩
  | 25 => ⟨S16x16x512, .f32⟩
  | 26 => ⟨S16x16x512, .f32⟩
  | 27 => ⟨S16x16x512, .f32⟩
  | 28 => ⟨S16x16x8, .f32⟩
  | 29 => ⟨S16x16x512, .f32⟩
  | 30 => ⟨S16x16x512, .f32⟩
  | 31 => ⟨S16x16x512, .f32⟩
  | 32 => ⟨S16x16x1024, .f32⟩
  | 33 => ⟨S16x16x1024, .f32⟩
  | 34 => ⟨S16x16x8x64, .f32⟩
  | 35 => ⟨S16x16x8x64, .f32⟩
  | 36 => ⟨S_, .f32⟩
  | 37 => ⟨S16x16x8, .f32⟩
  | 38 => ⟨S16x16x8x1, .f32⟩
  | 39 => ⟨S_, .f32⟩
  | 40 => ⟨S16x16x8x1, .f32⟩
  | 41 => ⟨S16x16x8x1, .f32⟩
  | 42 => ⟨S_, .f32⟩
  | 43 => ⟨S16x16x8x1, .f32⟩
  | 44 => ⟨S16x16x8x1, .f32⟩
  | 45 => ⟨S16x16x8x1, .f32⟩
  | 46 => ⟨S16x16x8x64, .f32⟩
  | 47 => ⟨S16x16x8x64, .f32⟩
  | 48 => ⟨S1x1x1x64, .f32⟩
  | 49 => ⟨S16x16x8x64, .f32⟩
  | 50 => ⟨S16x16x8x64, .f32⟩
  | 51 => ⟨S_, .f32⟩
  | 52 => ⟨S16x16x8x64, .f32⟩
  | 53 => ⟨S16x16x8x64, .f32⟩
  | 54 => ⟨S16x16x8x64, .f32⟩
  | 55 => ⟨S16x16x8x64, .f32⟩
  | 56 => ⟨S_, .f32⟩
  | 57 => ⟨S16x16x8, .f32⟩
  | 58 => ⟨S16x16x8x1, .f32⟩
  | 59 => ⟨S_, .f32⟩
  | 60 => ⟨S16x16x8x1, .f32⟩
  | 61 => ⟨S16x16x8x1, .f32⟩
  | 62 => ⟨S_, .f32⟩
  | 63 => ⟨S16x16x8x1, .f32⟩
  | 64 => ⟨S16x16x8x1, .f32⟩
  | 65 => ⟨S16x16x8x1, .f32⟩
  | 66 => ⟨S16x16x8x64, .f32⟩
  | 67 => ⟨S16x16x8x64, .f32⟩
  | 68 => ⟨S1x1x1x64, .f32⟩
  | 69 => ⟨S16x16x8x64, .f32⟩
  | 70 => ⟨S16x16x8x64, .f32⟩
  | 71 => ⟨S16x16x8x64, .f32⟩
  | 72 => ⟨S16x16x8x64, .f32⟩
  | 73 => ⟨S_, .f32⟩
  | 74 => ⟨S16x16x8, .f32⟩
  | 75 => ⟨S16x16x8x1, .f32⟩
  | 76 => ⟨S_, .f32⟩
  | 77 => ⟨S16x16x8x1, .f32⟩
  | 78 => ⟨S16x16x8x1, .f32⟩
  | 79 => ⟨S_, .f32⟩
  | 80 => ⟨S16x16x8x1, .f32⟩
  | 81 => ⟨S16x16x8x1, .f32⟩
  | 82 => ⟨S16x16x8x1, .f32⟩
  | 83 => ⟨S16x16x8x64, .f32⟩
  | 84 => ⟨S16x16x8x64, .f32⟩
  | 85 => ⟨S1x1x1x64, .f32⟩
  | 86 => ⟨S16x16x8x64, .f32⟩
  | 87 => ⟨S16x16x8x64, .f32⟩
  | 88 => ⟨S_, .f32⟩
  | 89 => ⟨S16x16x8x64, .f32⟩
  | 90 => ⟨S16x16x8x64, .f32⟩
  | 91 => ⟨S16x16x8x64, .f32⟩
  | 92 => ⟨S16x16x8x64, .f32⟩
  | 93 => ⟨S_, .f32⟩
  | 94 => ⟨S16x16x8, .f32⟩
  | 95 => ⟨S16x16x8x1, .f32⟩
  | 96 => ⟨S_, .f32⟩
  | 97 => ⟨S16x16x8x1, .f32⟩
  | 98 => ⟨S16x16x8x1, .f32⟩
  | 99 => ⟨S_, .f32⟩
  | 100 => ⟨S16x16x8x1, .f32⟩
  | 101 => ⟨S16x16x8x1, .f32⟩
  | 102 => ⟨S16x16x8x1, .f32⟩
  | 103 => ⟨S16x16x8x64, .f32⟩
  | 104 => ⟨S16x16x8x64, .f32⟩
  | 105 => ⟨S1x1x1x64, .f32⟩
  | 106 => ⟨S16x16x8x64, .f32⟩
  | 107 => ⟨S16x16x8x64, .f32⟩
  | 108 => ⟨S1x1x8, .f32⟩
  | 109 => ⟨S16x16x8, .f32⟩
  | 110 => ⟨S16x16x8, .f32⟩
  | 111 => ⟨S16x16x8, .f32⟩
  | 112 => ⟨S_, .f32⟩
  | 113 => ⟨S16x16x8, .f32⟩
  | 114 => ⟨S16x16x8, .f32⟩
  | 115 => ⟨S16x16x8, .f32⟩
  | 116 => ⟨S16x16x8, .f32⟩
  | 117 => ⟨S16x16x8, .i1⟩
  | 118 => ⟨S16x16x8, .f32⟩
  | 119 => ⟨S16x16x8, .f32⟩
  | 120 => ⟨S16x16x8, .f32⟩
  | 121 => ⟨S16x16x8, .f32⟩
  | 122 => ⟨S16x16x8, .f32⟩
  | 123 => ⟨S16x16x8, .f32⟩
  | 124 => ⟨S16x16x8, .f32⟩
  | 125 => ⟨S16x16x8, .f32⟩
  | 126 => ⟨S16x16x8, .f32⟩
  | 127 => ⟨S256x512, .f32⟩
  | _ => ⟨S16x16x1024, .f32⟩

abbrev hbmTy0_1 (i : Nat) : BufTy := match i % 128 with
  | 0 => ⟨S256x512, .bf16⟩
  | 1 => ⟨S256x512, .f32⟩
  | 2 => ⟨S256x512, .f32⟩
  | 3 => ⟨S256x8, .f32⟩
  | 4 => ⟨S256x512, .f32⟩
  | 5 => ⟨S256x512, .bf16⟩
  | 6 => ⟨S256x512, .f32⟩
  | 7 => ⟨S256x512, .f32⟩
  | 8 => ⟨S16x16x1024, .f32⟩
  | 9 => ⟨S16x16x1024, .f32⟩
  | 10 => ⟨S_, .f32⟩
  | 11 => ⟨S16x16x1024, .f32⟩
  | 12 => ⟨S16x16x1024, .f32⟩
  | 13 => ⟨S_, .f32⟩
  | 14 => ⟨S16x16x1024, .f32⟩
  | 15 => ⟨S16x16x1024, .f32⟩
  | 16 => ⟨S256x1024, .f32⟩
  | 17 => ⟨S256x1024, .bf16⟩
  | 18 => ⟨S16x16x1024, .f32⟩
  | 19 => ⟨S16x16x1024, .f32⟩
  | 20 => ⟨S_, .f32⟩
  | 21 => ⟨S16x16x1024, .f32⟩
  | 22 => ⟨S16x16x1024, .f32⟩
  | 23 => ⟨S_, .f32⟩
  | 24 => ⟨S16x16x1024, .f32⟩
  | 25 => ⟨S16x16x1024, .f32⟩
  | 26 => ⟨S256x1024, .f32⟩
  | 27 => ⟨S256x1024, .bf16⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_cst_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_cst_14 : Ref sig .tc := ⟨.hbm, 96, rfl⟩
abbrev main_v73 : Ref sig .tc := ⟨.hbm, 97, rfl⟩
abbrev main_v74 : Ref sig .tc := ⟨.hbm, 98, rfl⟩
abbrev main_cst_15 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_call0_v0 : Ref sig .tc := ⟨.hbm, 111, rfl⟩
abbrev main_call0_call0_cst : Ref sig .tc := ⟨.hbm, 112, rfl⟩
abbrev main_call0_call0_v0 : Ref sig .tc := ⟨.hbm, 113, rfl⟩
abbrev main_call0_call0_v1 : Ref sig .tc := ⟨.hbm, 114, rfl⟩
abbrev main_call0_call0_v2 : Ref sig .tc := ⟨.hbm, 115, rfl⟩
abbrev main_call0_call0_v3 : Ref sig .tc := ⟨.hbm, 116, rfl⟩
abbrev main_call0_call0_v4 : Ref sig .tc := ⟨.hbm, 117, rfl⟩
abbrev main_call0_call0_v5 : Ref sig .tc := ⟨.hbm, 118, rfl⟩
abbrev main_call0_call0_v6 : Ref sig .tc := ⟨.hbm, 119, rfl⟩
abbrev main_call0_call0_v7 : Ref sig .tc := ⟨.hbm, 120, rfl⟩
abbrev main_call0_call0_v8 : Ref sig .tc := ⟨.hbm, 121, rfl⟩
abbrev main_call0_call0_v9 : Ref sig .tc := ⟨.hbm, 122, rfl⟩
abbrev main_call0_call0_v10 : Ref sig .tc := ⟨.hbm, 123, rfl⟩
abbrev main_call0_call0_v11 : Ref sig .tc := ⟨.hbm, 124, rfl⟩
abbrev main_call0_v1 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_v99 : Ref sig .tc := ⟨.hbm, 140, rfl⟩
abbrev main_cst_17 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_18 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩

abbrev nD : Nat := 1
abbrev τ : Topo := Topo.v7x

variable {F : FTy → Type} [FloatOps F]
-- ==== Kernel6.lean ====
abbrev S256x1024 : Shape := ⟨2, ![256, 1024]⟩
abbrev S256x512 : Shape := ⟨2, ![256, 512]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 15
  | .vmem => 11
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x1024, .bf16⟩
  | .hbm, ⟨4, _⟩ => ⟨S256x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S256x1024, .f32⟩
  | .hbm, ⟨14, _⟩ => ⟨S256x1024, .bf16⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S256x1024, .bf16⟩
  | .local _ .vmem, ⟨4, _⟩ => ⟨S256x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1x1024, .f32⟩
  | .local _ .vmem, ⟨9, _⟩ => ⟨S256x1024, .f32⟩
  | .local _ .vmem, ⟨10, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S256x1024 : Shape := ⟨2, ![256, 1024]⟩
abbrev S256x512 : Shape := ⟨2, ![256, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .bf16⟩
  | .hbm, ⟨3, _⟩ => ⟨S256x1024, .bf16⟩
  | .hbm, ⟨4, _⟩ => ⟨S256x1024, .bf16⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S256x512, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S256x512, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x1024, .f32⟩
  | .hbm, ⟨32, _⟩ => ⟨S256x1024, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel7.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 10
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S1x1024, .f32⟩
  | .local _ .vmem, ⟨4, _⟩ => ⟨S1024x1024, .bf16⟩
  | .local _ .vmem, ⟨5, _⟩ => ⟨S256x1024, .bf16⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference7Ideal.lean ====
abbrev S256x1024 : Shape := ⟨2, ![256, 1024]⟩
abbrev S256x256 : Shape := ⟨2, ![256, 256]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel8.lean ====
abbrev S32x2048x512 : Shape := ⟨3, ![32, 2048, 512]⟩
abbrev S8x257 : Shape := ⟨2, ![8, 257]⟩
abbrev S1023 : Shape := ⟨1, ![1023]⟩
abbrev S_ : Shape := ⟨0, ![]⟩
abbrev S1023x1 : Shape := ⟨2, ![1023, 1]⟩
abbrev S8x1023 : Shape := ⟨2, ![8, 1023]⟩
abbrev S1x8x1x1023 : Shape := ⟨4, ![1, 8, 1, 1023]⟩
abbrev S1x8x257x1023 : Shape := ⟨4, ![1, 8, 257, 1023]⟩
abbrev S8x262911 : Shape := ⟨2, ![8, 262911]⟩
abbrev S8x262144 : Shape := ⟨2, ![8, 262144]⟩
abbrev S8x256x1024 : Shape := ⟨3, ![8, 256, 1024]⟩
abbrev S8x256x768 : Shape := ⟨3, ![8, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1x256x512 : Shape := ⟨3, ![1, 256, 512]⟩
abbrev S1x2048x512 : Shape := ⟨3, ![1, 2048, 512]⟩
abbrev S2560x512 : Shape := ⟨2, ![2560, 512]⟩
abbrev S512x512 : Shape := ⟨2, ![512, 512]⟩
abbrev S2048x512 : Shape := ⟨2, ![2048, 512]⟩
abbrev S768x128 : Shape := ⟨2, ![768, 128]⟩
abbrev S1x256x128 : Shape := ⟨3, ![1, 256, 128]⟩
abbrev S256x128 : Shape := ⟨2, ![256, 128]⟩
abbrev S1x128 : Shape := ⟨2, ![1, 128]⟩
abbrev S512x128 : Shape := ⟨2, ![512, 128]⟩
abbrev S512x768 : Shape := ⟨2, ![512, 768]⟩

abbrev nBuf : Space → Nat
  | .hbm => 83
  | .vmem => 11
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .f32⟩
  | .hbm, ⟨2, _⟩ => ⟨S32x2048x512, .f32⟩
  | .hbm, ⟨3, _⟩ => ⟨S8x257, .f32⟩
  | .hbm, ⟨4, _⟩ => ⟨S1023, .i32⟩
  | .hbm, ⟨5, _⟩ => ⟨S_, .i32⟩
  | .hbm, ⟨6, _⟩ => ⟨S1023, .i32⟩
  | .hbm, ⟨7, _⟩ => ⟨S1023, .i32⟩
  | .hbm, ⟨8, _⟩ => ⟨S_, .i32⟩
  | .hbm, ⟨9, _⟩ => ⟨S1023, .i32⟩
  | .hbm, ⟨10, _⟩ => ⟨S1023, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1023, .i32⟩
  | .hbm, ⟨15, _⟩ => ⟨S1023, .i32⟩
  | .hbm, ⟨16, _⟩ => ⟨S_, .i32⟩
  | .hbm, ⟨17, _⟩ => ⟨S1023, .i32⟩
  | .hbm, ⟨18, _⟩ => ⟨S1023, .i32⟩
  | .hbm, ⟨19, _⟩ => ⟨S_, .i32⟩
  | .hbm, ⟨20, _⟩ => ⟨S1023, .i32⟩
  | .hbm, ⟨21, _⟩ => ⟨S1023, .i32⟩
  | .hbm, ⟨22, _⟩ => ⟨S_, .i32⟩
  | .hbm, ⟨23, _⟩ => ⟨S1023, .i32⟩
  | .hbm, ⟨24, _⟩ => ⟨S1023, .i1⟩
  | .hbm, ⟨25, _⟩ => ⟨S_, .i32⟩
  | .hbm, ⟨26, _⟩ => ⟨S1023, .i32⟩
  | .hbm, ⟨27, _⟩ => ⟨S1023, .i32⟩
  | .hbm, ⟨28, _⟩ => ⟨S1023, .i32⟩
  | .hbm, ⟨29, _⟩ => ⟨S1023x1, .i32⟩
  | .hbm, ⟨30, _⟩ => ⟨S8x1023, .f32⟩
  | .hbm, ⟨31, _⟩ => ⟨S1x8x1x1023, .f32⟩
  | .hbm, ⟨32, _⟩ => ⟨S1x8x257x1023, .f32⟩
  | .hbm, ⟨33, _⟩ => ⟨S8x262911, .f32⟩
  | .hbm, ⟨34, _⟩ => ⟨S8x262144, .f32⟩
  | .hbm, ⟨35, _⟩ => ⟨S8x256x1024, .f32⟩
  | .hbm, ⟨36, _⟩ => ⟨S8x256x768, .f32⟩
  | .hbm, ⟨37, _⟩ => ⟨S8x256x768, .f32⟩
  | .hbm, ⟨38, _⟩ => ⟨S256, .i32⟩
  | .hbm, ⟨39, _⟩ => ⟨S256x1, .i32⟩
  | .hbm, ⟨40, _⟩ => ⟨S768, .i32⟩
  | .hbm, ⟨41, _⟩ => ⟨S1x768, .i32⟩
  | .hbm, ⟨42, _⟩ => ⟨S_, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S_, .i32⟩
  | .hbm, ⟨48, _⟩ => ⟨S256x1, .i32⟩
  | .hbm, ⟨49, _⟩ => ⟨S256x1, .i1⟩
  | .hbm, ⟨50, _⟩ => ⟨S256x1, .i32⟩
  | .hbm, ⟨51, _⟩ => ⟨S256x1, .i32⟩
  | .hbm, ⟨52, _⟩ => ⟨S_, .i32⟩
  | .hbm, ⟨53, _⟩ => ⟨S256x1, .i32⟩
  | .hbm, ⟨54, _⟩ => ⟨S256x1, .i1⟩
  | .hbm, ⟨55, _⟩ => ⟨S256x1, .i1⟩
  | .hbm, ⟨56, _⟩ => ⟨S_, .i32⟩
  | .hbm, ⟨57, _⟩ => ⟨S256x1, .i32⟩
  | .hbm, ⟨58, _⟩ => ⟨S256x1, .i32⟩
  | .hbm, ⟨59, _⟩ => ⟨S256x1, .i32⟩
  | .hbm, ⟨60, _⟩ => ⟨S_, .i32⟩
  | .hbm, ⟨61, _⟩ => ⟨S256x1, .i32⟩
  | .hbm, ⟨62, _⟩ => ⟨S256x1, .i32⟩
  | .hbm, ⟨63, _⟩ => ⟨S256x768, .i32⟩
  | .hbm, ⟨64, _⟩ => ⟨S256x768, .i32⟩
  | .hbm, ⟨65, _⟩ => ⟨S256x768, .i1⟩
  | .hbm, ⟨66, _⟩ => ⟨S_, .i32⟩
  | .hbm, ⟨67, _⟩ => ⟨S256x1, .i32⟩
  | .hbm, ⟨68, _⟩ => ⟨S256x1, .i32⟩
  | .hbm, ⟨69, _⟩ => ⟨S_, .i32⟩
  | .hbm, ⟨70, _⟩ => ⟨S256x1, .i32⟩
  | .hbm, ⟨71, _⟩ => ⟨S256x1, .i32⟩
  | .hbm, ⟨72, _⟩ => ⟨S256x768, .i32⟩
  | .hbm, ⟨73, _⟩ => ⟨S256x768, .i32⟩
  | .hbm, ⟨74, _⟩ => ⟨S256x768, .i1⟩
  | .hbm, ⟨75, _⟩ => ⟨S256x768, .i1⟩
  | .hbm, ⟨76, _⟩ => ⟨S1x256x768, .i1⟩
  | .hbm, ⟨77, _⟩ => ⟨S_, .f32⟩
  | .hbm, ⟨78, _⟩ => ⟨S_, .f32⟩
  | .hbm, ⟨79, _⟩ => ⟨S8x256x768, .i1⟩
  | .hbm, ⟨80, _⟩ => ⟨S8x256x768, .f32⟩
  | .hbm, ⟨81, _⟩ => ⟨S8x256x768, .f32⟩
  | .hbm, ⟨82, _⟩ => ⟨S32x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S8x256x768, .f32⟩
  | .local _ .vmem, ⟨7, _⟩ => ⟨S1x256x512, .bf16⟩
  | .local _ .vmem, ⟨8, _⟩ => ⟨S1x256x512, .bf16⟩
  | .local _ .vmem, ⟨9, _⟩ => ⟨S2560x512, .bf16⟩
  | .local _ .vmem, ⟨10, _⟩ => ⟨S2560x512, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_c_5 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_c : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_0 : Ref sig .tc := ⟨.hbm, 56, rfl⟩
abbrev main_call1_v12 : Ref sig .tc := ⟨.hbm, 57, rfl⟩
abbrev main_call1_v13 : Ref sig .tc := ⟨.hbm, 58, rfl⟩
abbrev main_v26 : Ref sig .tc := ⟨.hbm, 59, rfl⟩
abbrev main_c_7 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_8 : Ref sig .tc := ⟨.hbm, 66, rfl⟩
abbrev main_v32 : Ref sig .tc := ⟨.hbm, 67, rfl⟩
abbrev main_v33 : Ref sig .tc := ⟨.hbm, 68, rfl⟩
abbrev main_c_9 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v41 : Ref sig .tc := ⟨.hbm, 81, rfl⟩
abbrev main_v42 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v10 : Index := Scalar.indexCast v4
  let c0 : Index := 0#32
  ![v10.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v82 : Index := Scalar.indexCast v4
  let c128 : Index := 128#32
  ![v82.toNat, 128]
def k0_off3 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v154 : Index := Scalar.indexCast v4
  let c256 : Index := 256#32
  ![v154.toNat, 256]
def k0_off4 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v226 : Index := Scalar.indexCast v4
  let c384 : Index := 384#32
  ![v226.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S32x2048x512 : Shape := ⟨3, ![32, 2048, 512]⟩
abbrev S8x257 : Shape := ⟨2, ![8, 257]⟩
abbrev S32x2048x8x64 : Shape := ⟨4, ![32, 2048, 8, 64]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S8x2048x2048 : Shape := ⟨3, ![8, 2048, 2048]⟩
abbrev S32x8x2048x2048 : Shape := ⟨4, ![32, 8, 2048, 2048]⟩
abbrev S1x8x2048x2048 : Shape := ⟨4, ![1, 8, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 99
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .f32⟩
  | .hbm, ⟨2, _⟩ => ⟨S32x2048x512, .f32⟩
  | .hbm, ⟨3, _⟩ => ⟨S8x257, .f32⟩
  | .hbm, ⟨4, _⟩ => ⟨S32x2048x512, .f32⟩
  | .hbm, ⟨5, _⟩ => ⟨S32x2048x8x64, .f32⟩
  | .hbm, ⟨6, _⟩ => ⟨S32x2048x8x64, .f32⟩
  | .hbm, ⟨7, _⟩ => ⟨S32x2048x8x64, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i32⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S_, .i32⟩
  | .hbm, ⟨29, _⟩ => ⟨S2048x2048, .i32⟩
  | .hbm, ⟨30, _⟩ => ⟨S2048x2048, .i32⟩
  | .hbm, ⟨31, _⟩ => ⟨S2048x2048, .i32⟩
  | .hbm, ⟨32, _⟩ => ⟨S2048x2048x1, .i32⟩
  | .hbm, ⟨33, _⟩ => ⟨S8x2048x2048, .f32⟩
  | .hbm, ⟨34, _⟩ => ⟨S_, .i32⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S1x2048, .i32⟩
  | .hbm, ⟨56, _⟩ => ⟨S2048x1, .i32⟩
  | .hbm, ⟨57, _⟩ => ⟨S_, .i32⟩
  | .hbm, ⟨58, _⟩ => ⟨S2048x1, .i32⟩
  | .hbm, ⟨59, _⟩ => ⟨S2048x1, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S1x2048, .i32⟩
  | .hbm, ⟨64, _⟩ => ⟨S2048x1, .i32⟩
  | .hbm, ⟨65, _⟩ => ⟨S_, .i32⟩
  | .hbm, ⟨66, _⟩ => ⟨S2048x1, .i32⟩
  | .hbm, ⟨67, _⟩ => ⟨S2048x1, .i32⟩
  | .hbm, ⟨68, _⟩ => ⟨S2048x2048, .i32⟩
  | .hbm, ⟨69, _⟩ => ⟨S2048x2048, .i32⟩
  | .hbm, ⟨70, _⟩ => ⟨S2048x2048, .i1⟩
  | .hbm, ⟨71, _⟩ => ⟨S2048x2048, .i1⟩
  | .hbm, ⟨72, _⟩ => ⟨S32x8x2048x2048, .f32⟩
  | .hbm, ⟨73, _⟩ => ⟨S1x8x2048x2048, .f32⟩
  | .hbm, ⟨74, _⟩ => ⟨S32x8x2048x2048, .f32⟩
  | .hbm, ⟨75, _⟩ => ⟨S32x8x2048x2048, .f32⟩
  | .hbm, ⟨76, _⟩ => ⟨S_, .f32⟩
  | .hbm, ⟨77, _⟩ => ⟨S_, .f32⟩
  | .hbm, ⟨78, _⟩ => ⟨S32x8x2048x2048, .i1⟩
  | .hbm, ⟨79, _⟩ => ⟨S32x8x2048x2048, .f32⟩
  | .hbm, ⟨80, _⟩ => ⟨S32x8x2048x2048, .f32⟩
  | .hbm, ⟨81, _⟩ => ⟨S_, .f32⟩
  | .hbm, ⟨82, _⟩ => ⟨S32x8x2048, .f32⟩
  | .hbm, ⟨83, _⟩ => ⟨S_, .f32⟩
  | .hbm, ⟨84, _⟩ => ⟨S32x8x2048, .f32⟩
  | .hbm, ⟨85, _⟩ => ⟨S32x8x2048, .f32⟩
  | .hbm, ⟨86, _⟩ => ⟨S32x8x2048x1, .f32⟩
  | .hbm, ⟨87, _⟩ => ⟨S32x8x2048x2048, .f32⟩
  | .hbm, ⟨88, _⟩ => ⟨S32x8x2048x2048, .f32⟩
  | .hbm, ⟨89, _⟩ => ⟨S32x8x2048x2048, .f32⟩
  | .hbm, ⟨90, _⟩ => ⟨S_, .f32⟩
  | .hbm, ⟨91, _⟩ => ⟨S32x8x2048, .f32⟩
  | .hbm, ⟨92, _⟩ => ⟨S32x8x2048x1, .f32⟩
  | .hbm, ⟨93, _⟩ => ⟨S32x8x2048x2048, .f32⟩
  | .hbm, ⟨94, _⟩ => ⟨S32x8x2048x2048, .f32⟩
  | .hbm, ⟨95, _⟩ => ⟨S32x8x64x2048, .f32⟩
  | .hbm, ⟨96, _⟩ => ⟨S32x2048x8x64, .f32⟩
  | .hbm, ⟨97, _⟩ => ⟨S32x2048x512, .f32⟩
  | .hbm, ⟨98, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v20 : Ref sig .tc := ⟨.hbm, 51, rfl⟩
abbrev main_c_5 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_7 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_cst_9 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩

abbrev nD : Nat := 1
abbrev τ : Topo := Topo.v7x

variable {F : FTy → Type} [FloatOps F]
-- ==== Proof.Finite.lean ====
/- The precondition read entry by entry: the queries, keys and log forget values are real numbers. -/
module

public import proofs.«01_k».proof.Pre_finite
public import Idealize.ShloMosaic.Lib.Pointwise
public import Idealize.ShloMosaic.PureOps.Ideal.Laws

@[expose] public section

set_option maxRecDepth 16384

noncomputable section

namespace Cert.Finite
open Cert.Pre_finite Idealize.ShloMosaic

theorem facts : Cert.Pre_finite.Facts where
  bcast_S_S32x2048x512 := by decide
  bcast_S_S32x2048x8 := by decide
  concatenates_S32x2048x512_S32x2048x512_S32x2048x8_S32x2048x1032_d2 := by decide

theorem real_of_abs {x : EReal} (h : max x (-x) < ⊤) : x = ((x.toReal : ℝ) : EReal) := by
  refine (EReal.coe_toReal (fun e => ?_) fun e => ?_).symm
  · rw [e] at h; simp at h
  · rw [e] at h; simp at h

theorem top_bf16 : Ideal.ofBits .bf16 0x7F80#16 = (⊤ : EReal) := by
  simp [Ideal.ofBits, Ideal.ieee]
theorem top_f32 : Ideal.ofBits .f32 0x7F800000#32 = (⊤ : EReal) := by
  simp [Ideal.ofBits, Ideal.ieee]

theorem lt_of_bit {a b : EReal} (h : BitVec.ofBool (decide (a < b)) = 1#1) : a < b := by
  by_contra hn
  rw [decide_eq_false hn] at h
  exact absurd h (by decide)

variable [Cert.Pre_finite.Facts] {q : FVec Ideal S32x2048x512 .bf16} {k v : FVec Ideal S32x2048x512 .f32} {l : FVec Ideal S32x2048x8 .f32}

theorem q_real (h : fn (F := Ideal) q k v l = fun _ => 1#1) (b : Fin 32) (j : Fin 2048) (n : Fin 512) : q (ix3 b j n) = (((q (ix3 b j n) : EReal).toReal : ℝ) : EReal) := by
  have e := congrFun h (ix3 b j ⟨n.val, by omega⟩)
  have hn := n.isLt
  pointwise [fn] at e
  rw [top_bf16] at e
  exact real_of_abs (lt_of_bit e)
theorem k_real (h : fn (F := Ideal) q k v l = fun _ => 1#1) (b : Fin 32) (j : Fin 2048) (n : Fin 512) : k (ix3 b j n) = (((k (ix3 b j n) : EReal).toReal : ℝ) : EReal) := by
  have e := congrFun h (ix3 b j ⟨512 + n.val, by omega⟩)
  have hn := n.isLt
  pointwise [fn] at e
  rw [top_f32] at e
  exact real_of_abs (lt_of_bit e)
theorem l_real (h : fn (F := Ideal) q k v l = fun _ => 1#1) (b : Fin 32) (j : Fin 2048) (n : Fin 8) : l (ix3 b j n) = (((l (ix3 b j n) : EReal).toReal : ℝ) : EReal) := by
  have e := congrFun h (ix3 b j ⟨1024 + n.val, by omega⟩)
  have hn := n.isLt
  pointwise [fn] at e
  rw [dif_neg (by omega), dif_neg (by omega), top_f32] at e
  have hn' : (⟨1024 + n.val - 512 - 512, by omega⟩ : Fin 8) = n := Fin.ext (by show 1024 + n.val - 512 - 512 = n.val; omega)
  rw [hn'] at e
  exact real_of_abs (lt_of_bit e)

end Cert.Finite

end
-- ==== Proof.Softmax.lean ====
/- The arithmetic of one attention row, away from any program: the weighted mean of values with weights
   `exp` of real scores, masked past a position, and the same mean put together from chunks of keys each
   with its own running maximum. -/
module

public import Idealize.ShloMosaic.PureOps.Ideal.Laws
public import Idealize.ShloMosaic.Lib.IdealHost

@[expose] public section

noncomputable section

namespace Cert.Softmax

open Idealize.ShloMosaic

/-! ## Extended reals -/

/-- A sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- Division by a nonzero real. -/
theorem div_real {y : ℝ} (h : y ≠ 0) (x : EReal) : Ideal.div x (y : EReal) = ((y⁻¹ : ℝ) : EReal) * x := by
  rw [Ideal.div_coe h, mul_comm, one_div]

/-- The maximum of a fold over finitely many scores, one of them real and none of them `⊤`, is real. -/
theorem fold_max_real {n : ℕ} (f : Fin n → EReal) (hf : ∀ k, f k ≠ ⊤) (k₀ : Fin n) (h₀ : f k₀ ≠ ⊥) :
    ∃ m : ℝ, Finset.univ.fold max (⊥ : EReal) f = (m : EReal) := by
  have htop : Finset.univ.fold max (⊥ : EReal) f ≠ ⊤ := by
    have : ∀ s : Finset (Fin n), s.fold max (⊥ : EReal) f ≠ ⊤ := by
      classical
      intro s
      induction s using Finset.induction_on with
      | empty => simp
      | insert a s ha ih =>
        rw [Finset.fold_insert ha]
        rcases max_choice (f a) (s.fold max ⊥ f) with h | h <;> rw [h]
        · exact hf a
        · exact ih
    exact this _
  have hbot : Finset.univ.fold max (⊥ : EReal) f ≠ ⊥ := by
    have : f k₀ ≤ Finset.univ.fold max (⊥ : EReal) f := by
      rw [Finset.le_fold_max]
      exact Or.inr ⟨k₀, Finset.mem_univ _, le_rfl⟩
    intro h
    rw [h, le_bot_iff] at this
    exact h₀ this
  exact ⟨_, (EReal.coe_toReal htop hbot).symm⟩

/-! ## A row's scores and weights -/

/-- The score of key `j` in row `i`: real up to the row's own position, `⊥` past it. -/
def sc (x : ℕ → ℝ) (i j : ℕ) : EReal := if j ≤ i then (x j : EReal) else ⊥

/-- The weight of key `j` in row `i` against the level `M`. -/
def wt (x : ℕ → ℝ) (i : ℕ) (M : ℝ) (j : ℕ) : ℝ := if j ≤ i then Real.exp (x j - M) else 0

theorem wt_nonneg (x : ℕ → ℝ) (i : ℕ) (M : ℝ) (j : ℕ) : 0 ≤ wt x i M j := by
  unfold wt; split
  · exact (Real.exp_pos _).le
  · exact le_rfl

theorem exp_sc (x : ℕ → ℝ) (i j : ℕ) (M : ℝ) : Ideal.exp (sc x i j - (M : EReal)) = (wt x i M j : EReal) := by
  unfold sc wt; split
  · rw [← EReal.coe_sub, Ideal.exp_coe]
  · rw [EReal.bot_sub, Ideal.exp_bot, EReal.coe_zero]

/-- Changing the level multiplies every weight by one positive real. -/
theorem wt_level (x : ℕ → ℝ) (i : ℕ) (m M : ℝ) (j : ℕ) : Real.exp (m - M) * wt x i m j = wt x i M j := by
  unfold wt; split
  · rw [← Real.exp_add]; congr 1; ring
  · rw [mul_zero]

/-- Raising every score by a real changes nothing but the level. -/
theorem wt_shift (x : ℕ → ℝ) (i : ℕ) (c M : ℝ) (j : ℕ) : wt (fun j => x j + c) i M j = wt x i (M - c) j := by
  unfold wt; split
  · congr 1; ring
  · rfl

/-- The sum of a row's weights over the first `n` keys is positive once the first key is counted. -/
theorem wt_sum_pos (x : ℕ → ℝ) (i : ℕ) (M : ℝ) (n : ℕ) (hn : 0 < n) : 0 < ∑ j ∈ Finset.range n, wt x i M j := by
  refine Finset.sum_pos' (fun j _ => wt_nonneg x i M j) ⟨0, Finset.mem_range.mpr hn, ?_⟩
  unfold wt; rw [if_pos (Nat.zero_le i)]; exact Real.exp_pos _

/-- Past the row's own position the weights are zero, so counting more keys adds nothing. -/
theorem wt_sum_ext (x : ℕ → ℝ) (i : ℕ) (M : ℝ) (n N : ℕ) (hn : i < n) (hN : n ≤ N) :
    ∑ j ∈ Finset.range n, wt x i M j = ∑ j ∈ Finset.range N, wt x i M j := by
  refine Finset.sum_subset (Finset.range_subset_range.mpr hN) fun j _ hj => ?_
  rw [Finset.mem_range, not_lt] at hj
  unfold wt; rw [if_neg (by omega)]

theorem wt_mul_sum_ext (x : ℕ → ℝ) (i : ℕ) (M : ℝ) (v : ℕ → EReal) (n N : ℕ) (hn : i < n) (hN : n ≤ N) :
    ∑ j ∈ Finset.range n, (wt x i M j : EReal) * v j = ∑ j ∈ Finset.range N, (wt x i M j : EReal) * v j := by
  refine Finset.sum_subset (Finset.range_subset_range.mpr hN) fun j _ hj => ?_
  rw [Finset.mem_range, not_lt] at hj
  unfold wt; rw [if_neg (by omega), EReal.coe_zero, zero_mul]

/-- The attention of row `i`: the mean of the values under the weights. -/
def attn (x : ℕ → ℝ) (i : ℕ) (v : ℕ → EReal) (n : ℕ) : EReal :=
  (((∑ j ∈ Finset.range n, wt x i 0 j)⁻¹ : ℝ) : EReal) * ∑ j ∈ Finset.range n, (wt x i 0 j : EReal) * v j

/-- The mean does not depend on the level. -/
theorem attn_level (x : ℕ → ℝ) (i : ℕ) (v : ℕ → EReal) (n : ℕ) (hn : 0 < n) (M : ℝ) :
    (((∑ j ∈ Finset.range n, wt x i M j)⁻¹ : ℝ) : EReal) * ∑ j ∈ Finset.range n, (wt x i M j : EReal) * v j = attn x i v n := by
  have hL := wt_sum_pos x i 0 n hn
  have he : ∀ j, wt x i M j = Real.exp (0 - M) * wt x i 0 j := fun j => (wt_level x i 0 M j).symm
  have h1 : ∑ j ∈ Finset.range n, wt x i M j = Real.exp (0 - M) * ∑ j ∈ Finset.range n, wt x i 0 j := by
    rw [Finset.mul_sum]; exact Finset.sum_congr rfl fun j _ => he j
  have h2 : ∑ j ∈ Finset.range n, (wt x i M j : EReal) * v j
      = (Real.exp (0 - M) : EReal) * ∑ j ∈ Finset.range n, (wt x i 0 j : EReal) * v j := by
    rw [coe_mul_sum _ _ (Real.exp_pos _).le]
    refine Finset.sum_congr rfl fun j _ => ?_
    rw [he j, EReal.coe_mul, mul_assoc]
  rw [h1, h2, ← mul_assoc, ← EReal.coe_mul]
  unfold attn
  congr 2
  have := (Real.exp_pos (0 - M)).ne'
  field_simp

theorem attn_ext (x : ℕ → ℝ) (i : ℕ) (v : ℕ → EReal) (n N : ℕ) (hn : i < n) (hN : n ≤ N) : attn x i v n = attn x i v N := by
  unfold attn
  rw [wt_sum_ext x i 0 n N hn hN, wt_mul_sum_ext x i 0 v n N hn hN]

/-- The attention of a row reads the scores and values it counts, and nothing else. -/
theorem attn_congr {x y : ℕ → ℝ} {v w : ℕ → EReal} (i n : ℕ) (hx : ∀ j < n, x j = y j) (hv : ∀ j < n, v j = w j) :
    attn x i v n = attn y i w n := by
  have h : ∀ j < n, wt x i 0 j = wt y i 0 j := fun j hj => by unfold wt; rw [hx j hj]
  unfold attn
  congr 1
  · rw [Finset.sum_congr rfl fun j hj => h j (Finset.mem_range.mp hj)]
  · refine Finset.sum_congr rfl fun j hj => ?_
    rw [h j (Finset.mem_range.mp hj), hv j (Finset.mem_range.mp hj)]

/-! ## The direct form -/

/-- The weights normalised one by one, then summed against the values: the softmax as it is written. -/
theorem softmax_attn {n : ℕ} (hn : 0 < n) (x : ℕ → ℝ) (i : ℕ) (v : ℕ → EReal) (s : Fin n → EReal) (hs : ∀ k : Fin n, s k = sc x i k) :
    ∑ k : Fin n, v k * Ideal.div (Ideal.exp (s k - Finset.univ.fold max (⊥ : EReal) s)) (∑ k : Fin n, Ideal.exp (s k - Finset.univ.fold max (⊥ : EReal) s))
      = attn x i v n := by
  obtain ⟨m, hm⟩ := fold_max_real s (fun k => by rw [hs k]; unfold sc; split; exacts [EReal.coe_ne_top _, bot_ne_top])
    ⟨0, hn⟩ (by rw [hs]; unfold sc; rw [if_pos (Nat.zero_le i)]; exact EReal.coe_ne_bot _)
  have he : ∀ k : Fin n, Ideal.exp (s k - Finset.univ.fold max (⊥ : EReal) s) = (wt x i m k : EReal) := fun k => by
    rw [hm, hs k, exp_sc]
  simp only [he]
  rw [← coe_sum, Fin.sum_univ_eq_sum_range (fun j => wt x i m j) n]
  have hL := wt_sum_pos x i m n hn
  rw [← attn_level x i v n hn m, coe_mul_sum _ _ (inv_nonneg.mpr hL.le),
    ← Fin.sum_univ_eq_sum_range (fun j => (((∑ j ∈ Finset.range n, wt x i m j)⁻¹ : ℝ) : EReal) * ((wt x i m j : EReal) * v j)) n]
  refine Finset.sum_congr rfl fun k _ => ?_
  rw [div_real hL.ne', mul_comm, mul_assoc]

/-! ## Chunks -/

/-- What a chunk of `n` keys from `s` on keeps of a row: a level, the sum of its weights at that level, and the weighted sum of its values. -/
def Part (x : ℕ → ℝ) (i : ℕ) (v : ℕ → EReal) (s n : ℕ) (m l o : EReal) : Prop :=
  ∃ M : ℝ, m = (M : EReal) ∧ l = ((∑ k ∈ Finset.range n, wt x i M (s + k) : ℝ) : EReal)
    ∧ o = ∑ k ∈ Finset.range n, (wt x i M (s + k) : EReal) * v (s + k)

/-- A chunk's level is its largest score. -/
theorem part_of_chunk {n : ℕ} (x : ℕ → ℝ) (i : ℕ) (v : ℕ → EReal) (s : ℕ) (hn : 0 < n) (hs : s ≤ i) (f : Fin n → EReal)
    (hf : ∀ k : Fin n, f k = sc x i (s + k)) (w : Fin n → EReal) (hw : ∀ k : Fin n, w k = v (s + k)) :
    Part x i v s n (Finset.univ.fold max (⊥ : EReal) f) (∑ k : Fin n, Ideal.exp (f k - Finset.univ.fold max (⊥ : EReal) f))
      (∑ k : Fin n, Ideal.exp (f k - Finset.univ.fold max (⊥ : EReal) f) * w k) := by
  obtain ⟨m, hm⟩ := fold_max_real f (fun k => by rw [hf k]; unfold sc; split; exacts [EReal.coe_ne_top _, bot_ne_top])
    ⟨0, hn⟩ (by rw [hf]; unfold sc; rw [if_pos (by simpa using hs)]; exact EReal.coe_ne_bot _)
  refine ⟨m, hm, ?_, ?_⟩
  · rw [coe_sum, ← Fin.sum_univ_eq_sum_range (fun k => (wt x i m (s + k) : EReal)) n]
    refine Finset.sum_congr rfl fun k _ => ?_
    rw [hm, hf k, exp_sc]
  · rw [← Fin.sum_univ_eq_sum_range (fun k => (wt x i m (s + k) : EReal) * v (s + k)) n]
    refine Finset.sum_congr rfl fun k _ => ?_
    rw [hm, hf k, exp_sc, hw k]

/-- A chunk brought to the level `M`. -/
theorem part_rescale {x : ℕ → ℝ} {i : ℕ} {v : ℕ → EReal} {s n : ℕ} {m l o : EReal} (h : Part x i v s n m l o) (M : ℝ) :
    l * Ideal.exp (m - (M : EReal)) = ((∑ k ∈ Finset.range n, wt x i M (s + k) : ℝ) : EReal)
      ∧ o * Ideal.exp (m - (M : EReal)) = ∑ k ∈ Finset.range n, (wt x i M (s + k) : EReal) * v (s + k) := by
  obtain ⟨m', rfl, rfl, rfl⟩ := h
  rw [← EReal.coe_sub, Ideal.exp_coe]
  refine ⟨?_, ?_⟩
  · rw [← EReal.coe_mul, mul_comm, Finset.mul_sum]
    congr 1
    exact Finset.sum_congr rfl fun k _ => wt_level x i m' M _
  · rw [mul_comm, coe_mul_sum _ _ (Real.exp_pos _).le]
    refine Finset.sum_congr rfl fun k _ => ?_
    rw [← mul_assoc, ← EReal.coe_mul, wt_level]

/-- Two adjacent chunks at one level are one chunk. -/
theorem join (x : ℕ → ℝ) (i : ℕ) (v : ℕ → EReal) (M : ℝ) (a n : ℕ) :
    ((∑ k ∈ Finset.range a, wt x i M k : ℝ) : EReal) + ((∑ k ∈ Finset.range n, wt x i M (a + k) : ℝ) : EReal)
        = ((∑ k ∈ Finset.range (a + n), wt x i M k : ℝ) : EReal)
      ∧ ∑ k ∈ Finset.range a, (wt x i M k : EReal) * v k + ∑ k ∈ Finset.range n, (wt x i M (a + k) : EReal) * v (a + k)
        = ∑ k ∈ Finset.range (a + n), (wt x i M k : EReal) * v k := by
  rw [← EReal.coe_add, Finset.sum_range_add, Finset.sum_range_add]
  exact ⟨rfl, rfl⟩

theorem part_level {x : ℕ → ℝ} {i : ℕ} {v : ℕ → EReal} {s n : ℕ} {m l o : EReal} (h : Part x i v s n m l o) : ∃ M : ℝ, m = (M : EReal) :=
  let ⟨M, hM, _⟩ := h; ⟨M, hM⟩

/-- The weighted values over the weights, at any level, for a row whose position is counted. -/
theorem quotient (x : ℕ → ℝ) (i : ℕ) (v : ℕ → EReal) (M : ℝ) (n N : ℕ) (hi : i < n) (hN : n ≤ N) :
    Ideal.div (∑ k ∈ Finset.range n, (wt x i M k : EReal) * v k) ((∑ k ∈ Finset.range n, wt x i M k : ℝ) : EReal) = attn x i v N := by
  rw [div_real (wt_sum_pos x i M n (by omega)).ne', attn_level x i v n (by omega) M, attn_ext x i v n N hi hN]

/-- A row of one chunk. -/
theorem chunks1 {x : ℕ → ℝ} {i : ℕ} {v : ℕ → EReal} {n N : ℕ} (hi : i < n) (hN : n ≤ N) {m l o : EReal} (h : Part x i v 0 n m l o) :
    Ideal.div (o * Ideal.exp (m - m)) (l * Ideal.exp (m - m)) = attn x i v N := by
  obtain ⟨M, hM⟩ := part_level h
  have := part_rescale h M
  rw [← hM] at this
  simp only [zero_add] at this
  rw [this.1, this.2, quotient x i v M n N hi hN]

/-- A row of two chunks. -/
theorem chunks2 {x : ℕ → ℝ} {i : ℕ} {v : ℕ → EReal} {a n N : ℕ} (hi : i < a + n) (hN : a + n ≤ N) {m₀ l₀ o₀ m₁ l₁ o₁ : EReal}
    (h₀ : Part x i v 0 a m₀ l₀ o₀) (h₁ : Part x i v a n m₁ l₁ o₁) :
    Ideal.div (o₀ * Ideal.exp (m₀ - max m₀ m₁) + o₁ * Ideal.exp (m₁ - max m₀ m₁))
      (l₀ * Ideal.exp (m₀ - max m₀ m₁) + l₁ * Ideal.exp (m₁ - max m₀ m₁)) = attn x i v N := by
  obtain ⟨M₀, hM₀⟩ := part_level h₀
  obtain ⟨M₁, hM₁⟩ := part_level h₁
  have hM : max m₀ m₁ = ((max M₀ M₁ : ℝ) : EReal) := by rw [hM₀, hM₁, EReal.coe_strictMono.monotone.map_max]
  rw [hM]
  generalize max M₀ M₁ = M
  have e₀ := part_rescale h₀ M
  have e₁ := part_rescale h₁ M
  simp only [zero_add] at e₀
  rw [e₀.1, e₀.2, e₁.1, e₁.2, (join x i v M a n).1, (join x i v M a n).2, quotient x i v M _ N hi hN]

/-- A row of three chunks. -/
theorem chunks3 {x : ℕ → ℝ} {i : ℕ} {v : ℕ → EReal} {a b n N : ℕ} (hi : i < a + b + n) (hN : a + b + n ≤ N)
    {m₀ l₀ o₀ m₁ l₁ o₁ m₂ l₂ o₂ : EReal}
    (h₀ : Part x i v 0 a m₀ l₀ o₀) (h₁ : Part x i v a b m₁ l₁ o₁) (h₂ : Part x i v (a + b) n m₂ l₂ o₂) :
    Ideal.div (o₀ * Ideal.exp (m₀ - max (max m₀ m₁) m₂) + o₁ * Ideal.exp (m₁ - max (max m₀ m₁) m₂) + o₂ * Ideal.exp (m₂ - max (max m₀ m₁) m₂))
      (l₀ * Ideal.exp (m₀ - max (max m₀ m₁) m₂) + l₁ * Ideal.exp (m₁ - max (max m₀ m₁) m₂) + l₂ * Ideal.exp (m₂ - max (max m₀ m₁) m₂)) = attn x i v N := by
  obtain ⟨M₀, hM₀⟩ := part_level h₀
  obtain ⟨M₁, hM₁⟩ := part_level h₁
  obtain ⟨M₂, hM₂⟩ := part_level h₂
  have hM : max (max m₀ m₁) m₂ = ((max (max M₀ M₁) M₂ : ℝ) : EReal) := by
    rw [hM₀, hM₁, hM₂, EReal.coe_strictMono.monotone.map_max, EReal.coe_strictMono.monotone.map_max]
  rw [hM]
  generalize max (max M₀ M₁) M₂ = M
  have e₀ := part_rescale h₀ M
  have e₁ := part_rescale h₁ M
  have e₂ := part_rescale h₂ M
  simp only [zero_add] at e₀
  rw [e₀.1, e₀.2, e₁.1, e₁.2, e₂.1, e₂.2, (join x i v M a b).1, (join x i v M a b).2, (join x i v M (a + b) n).1, (join x i v M (a + b) n).2,
    quotient x i v M _ N hi hN]

/-- A row of four chunks. -/
theorem chunks4 {x : ℕ → ℝ} {i : ℕ} {v : ℕ → EReal} {a b c n N : ℕ} (hi : i < a + b + c + n) (hN : a + b + c + n ≤ N)
    {m₀ l₀ o₀ m₁ l₁ o₁ m₂ l₂ o₂ m₃ l₃ o₃ M' : EReal} (hM' : M' = max (max (max m₀ m₁) m₂) m₃)
    (h₀ : Part x i v 0 a m₀ l₀ o₀) (h₁ : Part x i v a b m₁ l₁ o₁) (h₂ : Part x i v (a + b) c m₂ l₂ o₂) (h₃ : Part x i v (a + b + c) n m₃ l₃ o₃) :
    Ideal.div (o₀ * Ideal.exp (m₀ - M') + o₁ * Ideal.exp (m₁ - M') + o₂ * Ideal.exp (m₂ - M') + o₃ * Ideal.exp (m₃ - M'))
      (l₀ * Ideal.exp (m₀ - M') + l₁ * Ideal.exp (m₁ - M') + l₂ * Ideal.exp (m₂ - M') + l₃ * Ideal.exp (m₃ - M')) = attn x i v N := by
  obtain ⟨M₀, hM₀⟩ := part_level h₀
  obtain ⟨M₁, hM₁⟩ := part_level h₁
  obtain ⟨M₂, hM₂⟩ := part_level h₂
  obtain ⟨M₃, hM₃⟩ := part_level h₃
  have hM : M' = ((max (max (max M₀ M₁) M₂) M₃ : ℝ) : EReal) := by
    rw [hM', hM₀, hM₁, hM₂, hM₃, EReal.coe_strictMono.monotone.map_max, EReal.coe_strictMono.monotone.map_max, EReal.coe_strictMono.monotone.map_max]
  rw [hM]
  generalize max (max (max M₀ M₁) M₂) M₃ = M
  have e₀ := part_rescale h₀ M
  have e₁ := part_rescale h₁ M
  have e₂ := part_rescale h₂ M
  have e₃ := part_rescale h₃ M
  simp only [zero_add] at e₀
  rw [e₀.1, e₀.2, e₁.1, e₁.2, e₂.1, e₂.2, e₃.1, e₃.2, (join x i v M a b).1, (join x i v M a b).2, (join x i v M (a + b) c).1, (join x i v M (a + b) c).2,
    (join x i v M (a + b + c) n).1, (join x i v M (a + b + c) n).2, quotient x i v M _ N hi hN]

end Cert.Softmax

end
-- ==== Proof.Tile.lean ====
/- One query tile of the prompt attention, as vector operations: a chunk of keys gives each of the pair's
   two heads a largest score, a sum of weights and a weighted sum of values; the chunks are put together
   at their common largest score. Each piece read at an index. -/
module

public import proofs.«01_k».proof.Proof.Softmax
public import proofs.«01_k».proof.Proof.Gen.KernelIdeal.Skeleton
public import Idealize.ShloMosaic.Lib.Pointwise

@[expose] public section

set_option maxRecDepth 16384

noncomputable section

namespace Cert.Tile

open Cert.KernelIdeal Cert.KernelIdeal.Gen Idealize.ShloMosaic Cert.Softmax

/-! ## The vector operations -/

/-- A chunk: its keys, the decay row of each of the two heads, its values. -/
structure Wide where
  k : FVec Ideal S512x128 .bf16
  c0 : FVec Ideal S1x512 .f32
  c1 : FVec Ideal S1x512 .f32
  v : FVec Ideal S512x128 .bf16

/-- A chunk of half the length: the last one of a row of an odd number of tiles. -/
structure Narrow where
  k : FVec Ideal S256x128 .bf16
  c0 : FVec Ideal S1x256 .f32
  c1 : FVec Ideal S1x256 .f32
  v : FVec Ideal S256x128 .bf16

/-- Keys of the diagonal tile at or before the row. -/
def causal : IVec S256x256 1 :=
  cmpi .sle (iota .tc S256x256 32 [1] iota_S256x256_d1_w32) (iota .tc S256x256 32 [0] iota_S256x256_d0_w32)

/-- The lanes of the pair's first head. -/
def lower : IVec S256x128 1 :=
  broadcastTo S256x128 (shapeCast S1x128 (cmpi .slt (iota .tc S1x128 32 [1] iota_S1x128_d1_w32) (broadcast S1x128 64#32)) shapeCasts_S1x128_S1x128) broadcasts_S1x128_S256x128

/-- The lanes of the pair's second head. -/
def upper : IVec S256x128 1 :=
  broadcastTo S256x128 (shapeCast S1x128 (cmpi .sge (iota .tc S1x128 32 [1] iota_S1x128_d1_w32) (broadcast S1x128 64#32)) shapeCasts_S1x128_S1x128) broadcasts_S1x128_S256x128

/-- The tile's queries twice over, first with the first head's lanes alone, then with the second's. -/
def twice (q : FVec Ideal S1x256x128 .bf16) : FVec Ideal S512x128 .bf16 :=
  concatenate S512x128 0 [⟨S256x128, select lower (shapeCast S256x128 q shapeCasts_S1x256x128_S256x128) (broadcast S256x128 (Scalar.ofBits .bf16 0x0000#16))⟩,
    ⟨S256x128, select upper (shapeCast S256x128 q shapeCasts_S1x256x128_S256x128) (broadcast S256x128 (Scalar.ofBits .bf16 0x0000#16))⟩]
    concatenates_S256x128_S256x128_S512x128_d0

def dotsW (q2 k : FVec Ideal S512x128 .bf16) : FVec Ideal S512x512 .f32 :=
  matmul dot_S512x128_S512x128_S512x512_1_1_0_0_n_n none q2 k (constant S512x512 .f32 0x00000000#32)

def dotsN (q2 : FVec Ideal S512x128 .bf16) (k : FVec Ideal S256x128 .bf16) : FVec Ideal S512x256 .f32 :=
  matmul dot_S512x128_S256x128_S512x256_1_1_0_0_n_n none q2 k (constant S512x256 .f32 0x00000000#32)

/-- Scores of a whole chunk before the diagonal. -/
def decayW (s : FVec Ideal S256x512 .f32) (c : FVec Ideal S1x512 .f32) : FVec Ideal S256x512 .f32 :=
  subf s (broadcastTo S256x512 c broadcasts_S1x512_S256x512)

def fullW0 (q2 : FVec Ideal S512x128 .bf16) (C : Wide) : FVec Ideal S256x512 .f32 :=
  decayW (extractStridedSlice S256x512 ![0, 0] (dotsW q2 C.k) slices_S512x512_o0_0_S256x512) C.c0

def fullW1 (q2 : FVec Ideal S512x128 .bf16) (C : Wide) : FVec Ideal S256x512 .f32 :=
  decayW (extractStridedSlice S256x512 ![256, 0] (dotsW q2 C.k) slices_S512x512_o256_0_S256x512) C.c1

/-- The last half of a chunk masked past the diagonal. -/
def maskW (s : FVec Ideal S256x512 .f32) : FVec Ideal S256x512 .f32 :=
  concatenate S256x512 1 [⟨S256x256, extractStridedSlice S256x256 ![0, 0] s slices_S256x512_o0_0_S256x256⟩,
    ⟨S256x256, select causal (extractStridedSlice S256x256 ![0, 256] s slices_S256x512_o0_256_S256x256) (broadcast S256x256 (Scalar.ofBits .f32 0xFF800000#32))⟩]
    concatenates_S256x256_S256x256_S256x512_d1

def maskN (s : FVec Ideal S256x256 .f32) (c : FVec Ideal S1x256 .f32) : FVec Ideal S256x256 .f32 :=
  select causal (subf s (broadcastTo S256x256 c broadcasts_S1x256_S256x256)) (broadcast S256x256 (Scalar.ofBits .f32 0xFF800000#32))

def lastN0 (q2 : FVec Ideal S512x128 .bf16) (C : Narrow) : FVec Ideal S256x256 .f32 :=
  maskN (extractStridedSlice S256x256 ![0, 0] (dotsN q2 C.k) slices_S512x256_o0_0_S256x256) C.c0

def lastN1 (q2 : FVec Ideal S512x128 .bf16) (C : Narrow) : FVec Ideal S256x256 .f32 :=
  maskN (extractStridedSlice S256x256 ![256, 0] (dotsN q2 C.k) slices_S512x256_o256_0_S256x256) C.c1

def maxW (s : FVec Ideal S256x512 .f32) : FVec Ideal S256x1 .f32 :=
  shapeCast S256x1 (multiReduction .maximumf [1] S256 s 0xFF800000#32 reduces_S256x512_S256 (.inl rfl) rfl) shapeCasts_S256_S256x1

def maxN (s : FVec Ideal S256x256 .f32) : FVec Ideal S256x1 .f32 :=
  shapeCast S256x1 (multiReduction .maximumf [1] S256 s 0xFF800000#32 reduces_S256x256_S256 (.inl rfl) rfl) shapeCasts_S256_S256x1

def expW (s : FVec Ideal S256x512 .f32) : FVec Ideal S256x512 .f32 :=
  exp (subf s (broadcastTo S256x512 (maxW s) broadcasts_S256x1_S256x512))

def expN (s : FVec Ideal S256x256 .f32) : FVec Ideal S256x256 .f32 :=
  exp (subf s (broadcastTo S256x256 (maxN s) broadcasts_S256x1_S256x256))

def sumW (s : FVec Ideal S256x512 .f32) : FVec Ideal S256x1 .f32 :=
  shapeCast S256x1 (multiReduction .add [1] S256 (expW s) 0x00000000#32 reduces_S256x512_S256 (.inl rfl) rfl) shapeCasts_S256_S256x1

def sumN (s : FVec Ideal S256x256 .f32) : FVec Ideal S256x1 .f32 :=
  shapeCast S256x1 (multiReduction .add [1] S256 (expN s) 0x00000000#32 reduces_S256x256_S256 (.inl rfl) rfl) shapeCasts_S256_S256x1

def mixW (s0 s1 : FVec Ideal S256x512 .f32) (v : FVec Ideal S512x128 .bf16) : FVec Ideal S512x128 .f32 :=
  matmul dot_S512x512_S512x128_S512x128_1_0_0_1_n_n none
    (concatenate S512x512 0 [⟨S256x512, truncf .bf16 (expW s0) bitsLt_bf16_f32⟩, ⟨S256x512, truncf .bf16 (expW s1) bitsLt_bf16_f32⟩] concatenates_S256x512_S256x512_S512x512_d0)
    v (constant S512x128 .f32 0x00000000#32)

def mixN (s0 s1 : FVec Ideal S256x256 .f32) (v : FVec Ideal S256x128 .bf16) : FVec Ideal S512x128 .f32 :=
  matmul dot_S512x256_S256x128_S512x128_1_0_0_1_n_n none
    (concatenate S512x256 0 [⟨S256x256, truncf .bf16 (expN s0) bitsLt_bf16_f32⟩, ⟨S256x256, truncf .bf16 (expN s1) bitsLt_bf16_f32⟩] concatenates_S256x256_S256x256_S512x256_d0)
    v (constant S512x128 .f32 0x00000000#32)

def first (o : FVec Ideal S512x128 .f32) : FVec Ideal S256x128 .f32 := extractStridedSlice S256x128 ![0, 0] o slices_S512x128_o0_0_S256x128
def second (o : FVec Ideal S512x128 .f32) : FVec Ideal S256x128 .f32 := extractStridedSlice S256x128 ![256, 0] o slices_S512x128_o256_0_S256x128

/-- What one chunk keeps for one head. -/
structure Kept where
  m : FVec Ideal S256x1 .f32
  l : FVec Ideal S256x1 .f32
  o : FVec Ideal S256x128 .f32

def full0 (q2 : FVec Ideal S512x128 .bf16) (C : Wide) : Kept :=
  ⟨maxW (fullW0 q2 C), sumW (fullW0 q2 C), first (mixW (fullW0 q2 C) (fullW1 q2 C) C.v)⟩
def full1 (q2 : FVec Ideal S512x128 .bf16) (C : Wide) : Kept :=
  ⟨maxW (fullW1 q2 C), sumW (fullW1 q2 C), second (mixW (fullW0 q2 C) (fullW1 q2 C) C.v)⟩
def lastW0 (q2 : FVec Ideal S512x128 .bf16) (C : Wide) : Kept :=
  ⟨maxW (maskW (fullW0 q2 C)), sumW (maskW (fullW0 q2 C)), first (mixW (maskW (fullW0 q2 C)) (maskW (fullW1 q2 C)) C.v)⟩
def lastW1 (q2 : FVec Ideal S512x128 .bf16) (C : Wide) : Kept :=
  ⟨maxW (maskW (fullW1 q2 C)), sumW (maskW (fullW1 q2 C)), second (mixW (maskW (fullW0 q2 C)) (maskW (fullW1 q2 C)) C.v)⟩
def last0 (q2 : FVec Ideal S512x128 .bf16) (C : Narrow) : Kept :=
  ⟨maxN (lastN0 q2 C), sumN (lastN0 q2 C), first (mixN (lastN0 q2 C) (lastN1 q2 C) C.v)⟩
def last1 (q2 : FVec Ideal S512x128 .bf16) (C : Narrow) : Kept :=
  ⟨maxN (lastN1 q2 C), sumN (lastN1 q2 C), second (mixN (lastN0 q2 C) (lastN1 q2 C) C.v)⟩

def scale (M : FVec Ideal S256x1 .f32) (K : Kept) : FVec Ideal S256x1 .f32 := exp (subf K.m M)

def addL (M a : FVec Ideal S256x1 .f32) (K : Kept) : FVec Ideal S256x1 .f32 := addf a (mulf K.l (scale M K))
def addO (M : FVec Ideal S256x1 .f32) (a : FVec Ideal S256x128 .f32) (K : Kept) : FVec Ideal S256x128 .f32 :=
  addf a (mulf K.o (broadcastTo S256x128 (scale M K) broadcasts_S256x1_S256x128))

def zeroL : FVec Ideal S256x1 .f32 := broadcast S256x1 (Scalar.ofBits .f32 0x00000000#32)
def zeroO : FVec Ideal S256x128 .f32 := broadcast S256x128 (Scalar.ofBits .f32 0x00000000#32)

def over (o : FVec Ideal S256x128 .f32) (l : FVec Ideal S256x1 .f32) : FVec Ideal S256x128 .f32 :=
  divf o (broadcastTo S256x128 l broadcasts_S256x1_S256x128)

def merge1 (a : Kept) : FVec Ideal S256x128 .f32 :=
  over (addO a.m zeroO a) (addL a.m zeroL a)
def merge2 (a b : Kept) : FVec Ideal S256x128 .f32 :=
  over (addO (maximumf a.m b.m) (addO (maximumf a.m b.m) zeroO a) b) (addL (maximumf a.m b.m) (addL (maximumf a.m b.m) zeroL a) b)
def top3 (a b c : Kept) : FVec Ideal S256x1 .f32 := maximumf (maximumf a.m b.m) c.m
def merge3 (a b c : Kept) : FVec Ideal S256x128 .f32 :=
  over (addO (top3 a b c) (addO (top3 a b c) (addO (top3 a b c) zeroO a) b) c) (addL (top3 a b c) (addL (top3 a b c) (addL (top3 a b c) zeroL a) b) c)
def top4 (a b c d : Kept) : FVec Ideal S256x1 .f32 := maximumf (maximumf (maximumf a.m b.m) c.m) d.m
def merge4 (a b c d : Kept) : FVec Ideal S256x128 .f32 :=
  over (addO (top4 a b c d) (addO (top4 a b c d) (addO (top4 a b c d) (addO (top4 a b c d) zeroO a) b) c) d)
    (addL (top4 a b c d) (addL (top4 a b c d) (addL (top4 a b c d) (addL (top4 a b c d) zeroL a) b) c) d)

/-- The two heads' results side by side. -/
def pair (o0 o1 : FVec Ideal S256x128 .f32) : FVec Ideal S1x256x128 .bf16 :=
  shapeCast S1x256x128 (truncf .bf16 (select lower o0 o1) bitsLt_bf16_f32) shapeCasts_S256x128_S1x256x128

def tile1 (q2 : FVec Ideal S512x128 .bf16) (C : Narrow) := pair (merge1 (last0 q2 C)) (merge1 (last1 q2 C))
def tile2 (q2 : FVec Ideal S512x128 .bf16) (C : Wide) := pair (merge1 (lastW0 q2 C)) (merge1 (lastW1 q2 C))
def tile3 (q2 : FVec Ideal S512x128 .bf16) (A : Wide) (C : Narrow) := pair (merge2 (full0 q2 A) (last0 q2 C)) (merge2 (full1 q2 A) (last1 q2 C))
def tile4 (q2 : FVec Ideal S512x128 .bf16) (A C : Wide) := pair (merge2 (full0 q2 A) (lastW0 q2 C)) (merge2 (full1 q2 A) (lastW1 q2 C))
def tile5 (q2 : FVec Ideal S512x128 .bf16) (A B : Wide) (C : Narrow) :=
  pair (merge3 (full0 q2 A) (full0 q2 B) (last0 q2 C)) (merge3 (full1 q2 A) (full1 q2 B) (last1 q2 C))
def tile6 (q2 : FVec Ideal S512x128 .bf16) (A B C : Wide) :=
  pair (merge3 (full0 q2 A) (full0 q2 B) (lastW0 q2 C)) (merge3 (full1 q2 A) (full1 q2 B) (lastW1 q2 C))
def tile7 (q2 : FVec Ideal S512x128 .bf16) (A B D : Wide) (C : Narrow) :=
  pair (merge4 (full0 q2 A) (full0 q2 B) (full0 q2 D) (last0 q2 C)) (merge4 (full1 q2 A) (full1 q2 B) (full1 q2 D) (last1 q2 C))
def tile8 (q2 : FVec Ideal S512x128 .bf16) (A B D C : Wide) :=
  pair (merge4 (full0 q2 A) (full0 q2 B) (full0 q2 D) (lastW0 q2 C)) (merge4 (full1 q2 A) (full1 q2 B) (full1 q2 D) (lastW1 q2 C))

end Cert.Tile

end
-- ==== Proof.Cases.lean ====
/- What each of a row's eight query tiles leaves in the output block, over the chunks it reads of the
   keys, the values and the summed decays kept since the row's first tile. -/
module

public import proofs.«01_k».proof.Proof.Gen.KernelIdeal.Value
public import proofs.«01_k».proof.Proof.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Cases

open Cert.KernelIdeal Cert.KernelIdeal.Gen Idealize.ShloMosaic Idealize.ShloMosaic.TcCoe Idealize.SL.Sem Cert.Tile

/-- The keys, values and summed decays kept over a row of tiles. -/
abbrev Kv := Vec Ideal S2048x128 .bf16 × Vec Ideal S2048x128 .bf16 × Vec Ideal S8x2048 .f32

/-- Rows of the keys or values, and a stretch of a decay row. -/
def rowsW (K : Vec Ideal S2048x128 .bf16) (s : ℕ) (hs : ∀ a, (![s, 0] : Fin 2 → ℕ) a + S512x128.size a ≤ S2048x128.size a) :
    FVec Ideal S512x128 .bf16 := View.ld (Val := Elt Ideal) (S := S2048x128) (e' := .bf16) K (Rect.unit (s := S2048x128) ![s, 0] S512x128.size hs)
def rowsN (K : Vec Ideal S2048x128 .bf16) (s : ℕ) (hs : ∀ a, (![s, 0] : Fin 2 → ℕ) a + S256x128.size a ≤ S2048x128.size a) :
    FVec Ideal S256x128 .bf16 := View.ld (Val := Elt Ideal) (S := S2048x128) (e' := .bf16) K (Rect.unit (s := S2048x128) ![s, 0] S256x128.size hs)
def rowW (D : Vec Ideal S8x2048 .f32) (o : Fin 2 → ℕ) (h : ∀ a, o a + S1x512.size a ≤ S8x2048.size a) :
    FVec Ideal S1x512 .f32 := View.ld (Val := Elt Ideal) (S := S8x2048) (e' := .f32) D (Rect.unit (s := S8x2048) o S1x512.size h)
def rowN (D : Vec Ideal S8x2048 .f32) (o : Fin 2 → ℕ) (h : ∀ a, o a + S1x256.size a ≤ S8x2048.size a) :
    FVec Ideal S1x256 .f32 := View.ld (Val := Elt Ideal) (S := S8x2048) (e' := .f32) D (Rect.unit (s := S8x2048) o S1x256.size h)

/-- The chunk of 512 keys from `s` on, with the decay rows found at the two given offsets. -/
def wideAt (S : Kv) (s : ℕ) (hs : ∀ a, (![s, 0] : Fin 2 → ℕ) a + S512x128.size a ≤ S2048x128.size a)
    (o0 o1 : Fin 2 → ℕ) (h0 : ∀ a, o0 a + S1x512.size a ≤ S8x2048.size a) (h1 : ∀ a, o1 a + S1x512.size a ≤ S8x2048.size a) : Wide :=
  ⟨rowsW S.1 s hs, rowW S.2.2 o0 h0, rowW S.2.2 o1 h1, rowsW S.2.1 s hs⟩

/-- The chunk of 256 keys from `s` on. -/
def narrowAt (S : Kv) (s : ℕ) (hs : ∀ a, (![s, 0] : Fin 2 → ℕ) a + S256x128.size a ≤ S2048x128.size a)
    (o0 o1 : Fin 2 → ℕ) (h0 : ∀ a, o0 a + S1x256.size a ≤ S8x2048.size a) (h1 : ∀ a, o1 a + S1x256.size a ≤ S8x2048.size a) : Narrow :=
  ⟨rowsN S.1 s hs, rowN S.2.2 o0 h0, rowN S.2.2 o1 h1, rowsN S.2.1 s hs⟩

variable (m : (ℓ : Loc nD τ sig) → Buf (Elt Ideal) ℓ) (c : Dev nD)

set_option maxHeartbeats 400000 in
theorem out_B (t : Fin cfg0.N) (h0 : ¬t.val % 8 = 0) (h1 : ¬t.val % 8 = 0) (h2 : t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).1 = tile2 (twice (iblk m c 0 t))
      (wideAt (outsAt0 m c (t.val - 1) (Nat.lt_of_le_of_lt (Nat.sub_le _ _) t.isLt)).2 0 inb_S2048x128_S512x128_0_0 (k0_off2 (grid0.coords t) 0#32) (k0_off2 (grid0.coords t) 1#32) (k0_off2_inb (grid0.coords t) ((hcond0_2 t).mpr h2) 0) (k0_off2_inb (grid0.coords t) ((hcond0_2 t).mpr h2) 1)) := by
  rw [outsAt0_B m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_B (t : Fin cfg0.N) (h0 : ¬t.val % 8 = 0) (h1 : ¬t.val % 8 = 0) (h2 : t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).2 = (outsAt0 m c (t.val - 1) (Nat.lt_of_le_of_lt (Nat.sub_le _ _) t.isLt)).2 := by
  rw [outsAt0_B m c t h0 h1 h2 h3 h4 h5 h6 h7 h8]
  rfl

set_option maxHeartbeats 400000 in
theorem out_C (t : Fin cfg0.N) (h0 : ¬t.val % 8 = 0) (h1 : ¬t.val % 8 = 0) (h2 : ¬t.val % 8 = 1) (h3 : t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).1 = tile3 (twice (iblk m c 0 t))
      (wideAt (outsAt0 m c (t.val - 1) (Nat.lt_of_le_of_lt (Nat.sub_le _ _) t.isLt)).2 0 inb_S2048x128_S512x128_0_0 (k0_off3 (grid0.coords t) 0#32) (k0_off3 (grid0.coords t) 1#32) (k0_off3_inb (grid0.coords t) ((hcond0_3 t).mpr h3) 0) (k0_off3_inb (grid0.coords t) ((hcond0_3 t).mpr h3) 1))
      (narrowAt (outsAt0 m c (t.val - 1) (Nat.lt_of_le_of_lt (Nat.sub_le _ _) t.isLt)).2 512 inb_S2048x128_S256x128_512_0 (k0_off4 (grid0.coords t) 0#32) (k0_off4 (grid0.coords t) 1#32) (k0_off4_inb (grid0.coords t) ((hcond0_3 t).mpr h3) 0) (k0_off4_inb (grid0.coords t) ((hcond0_3 t).mpr h3) 1)) := by
  rw [outsAt0_C m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_C (t : Fin cfg0.N) (h0 : ¬t.val % 8 = 0) (h1 : ¬t.val % 8 = 0) (h2 : ¬t.val % 8 = 1) (h3 : t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).2 = (outsAt0 m c (t.val - 1) (Nat.lt_of_le_of_lt (Nat.sub_le _ _) t.isLt)).2 := by
  rw [outsAt0_C m c t h0 h1 h2 h3 h4 h5 h6 h7 h8]
  rfl

set_option maxHeartbeats 400000 in
theorem out_D (t : Fin cfg0.N) (h0 : ¬t.val % 8 = 0) (h1 : ¬t.val % 8 = 0) (h2 : ¬t.val % 8 = 1) (h3 : ¬t.val % 8 = 2) (h4 : t.val % 8 = 3) (h5 : ¬t.val % 8 = 4) (h6 : ¬t.val % 8 = 5) (h7 : ¬t.val % 8 = 6) (h8 : ¬t.val % 8 = 7) :
    (outsAt0 m c t.val t.isLt).1 = tile4 (twice (iblk m c 0 t))
      (wideAt (outsAt0 m c (t.val - 1) (Nat.lt_of_le_of_lt (Nat.sub_le _ _) t.isLt)).2 0 inb_S2048x128_S512x128_0_0 (k0_off5 (grid0.coords t) 0#32) (k0_off5 (grid0.coords t) 1#32) (k0_off5_inb (grid0.coords t) ((hcond0_4 t).mpr h4) 0) (k0_off5_inb (grid0.coords t) ((hcond0_4 t).mpr h4) 1))
      (wideAt (outsAt0 m c (t.val - 1) (Nat.lt_of_le_of_lt (Nat.sub_le _ _) t.isLt)).2 512 inb_S2048x128_S512x128_512_0 (k0_off6 (grid0.coords t) 0#32) (k0_off6 (grid0.coords t) 1#32) (k0_off6_inb (grid0.coords t) ((hcond0_4 t).mpr h4) 0) (k0_off6_inb (grid0.coords t) ((hcond0_4 t).mpr h4) 1)) := by
  rw [outsAt0_D m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_D (t : Fin cfg0.N) (h0 : ¬t.val % 8 = 0) (h1 : ¬t.val % 8 = 0) (h2 : ¬t.val % 8 = 1) (h3 : ¬t.val % 8 = 2) (h4 : t.val % 8 = 3) (h5 : ¬t.val % 8 = 4) (h6 : ¬t.val % 8 = 5) (h7 : ¬t.val % 8 = 6) (h8 : ¬t.val % 8 = 7) :
    (outsAt0 m c t.val t.isLt).2 = (outsAt0 m c (t.val - 1) (Nat.lt_of_le_of_lt (Nat.sub_le _ _) t.isLt)).2 := by
  rw [outsAt0_D m c t h0 h1 h2 h3 h4 h5 h6 h7 h8]
  rfl

set_option maxHeartbeats 400000 in
theorem out_E (t : Fin cfg0.N) (h0 : ¬t.val % 8 = 0) (h1 : ¬t.val % 8 = 0) (h2 : ¬t.val % 8 = 1) (h3 : ¬t.val % 8 = 2) (h4 : ¬t.val % 8 = 3) (h5 : t.val % 8 = 4) (h6 : ¬t.val % 8 = 5) (h7 : ¬t.val % 8 = 6) (h8 : ¬t.val % 8 = 7) :
    (outsAt0 m c t.val t.isLt).1 = tile5 (twice (iblk m c 0 t))
      (wideAt (outsAt0 m c (t.val - 1) (Nat.lt_of_le_of_lt (Nat.sub_le _ _) t.isLt)).2 0 inb_S2048x128_S512x128_0_0 (k0_off7 (grid0.coords t) 0#32) (k0_off7 (grid0.coords t) 1#32) (k0_off7_inb (grid0.coords t) ((hcond0_5 t).mpr h5) 0) (k0_off7_inb (grid0.coords t) ((hcond0_5 t).mpr h5) 1))
      (wideAt (outsAt0 m c (t.val - 1) (Nat.lt_of_le_of_lt (Nat.sub_le _ _) t.isLt)).2 512 inb_S2048x128_S512x128_512_0 (k0_off8 (grid0.coords t) 0#32) (k0_off8 (grid0.coords t) 1#32) (k0_off8_inb (grid0.coords t) ((hcond0_5 t).mpr h5) 0) (k0_off8_inb (grid0.coords t) ((hcond0_5 t).mpr h5) 1))
      (narrowAt (outsAt0 m c (t.val - 1) (Nat.lt_of_le_of_lt (Nat.sub_le _ _) t.isLt)).2 1024 inb_S2048x128_S256x128_1024_0 (k0_off9 (grid0.coords t) 0#32) (k0_off9 (grid0.coords t) 1#32) (k0_off9_inb (grid0.coords t) ((hcond0_5 t).mpr h5) 0) (k0_off9_inb (grid0.coords t) ((hcond0_5 t).mpr h5) 1)) := by
  rw [outsAt0_E m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_E (t : Fin cfg0.N) (h0 : ¬t.val % 8 = 0) (h1 : ¬t.val % 8 = 0) (h2 : ¬t.val % 8 = 1) (h3 : ¬t.val % 8 = 2) (h4 : ¬t.val % 8 = 3) (h5 : t.val % 8 = 4) (h6 : ¬t.val % 8 = 5) (h7 : ¬t.val % 8 = 6) (h8 : ¬t.val % 8 = 7) :
    (outsAt0 m c t.val t.isLt).2 = (outsAt0 m c (t.val - 1) (Nat.lt_of_le_of_lt (Nat.sub_le _ _) t.isLt)).2 := by
  rw [outsAt0_E m c t h0 h1 h2 h3 h4 h5 h6 h7 h8]
  rfl

set_option maxHeartbeats 400000 in
theorem out_F (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : t.val % 8 = 5) (h7 : ¬t.val % 8 = 6) (h8 : ¬t.val % 8 = 7) :
    (outsAt0 m c t.val t.isLt).1 = tile6 (twice (iblk m c 0 t))
      (wideAt (outsAt0 m c (t.val - 1) (Nat.lt_of_le_of_lt (Nat.sub_le _ _) t.isLt)).2 0 inb_S2048x128_S512x128_0_0 (k0_off10 (grid0.coords t) 0#32) (k0_off10 (grid0.coords t) 1#32) (k0_off10_inb (grid0.coords t) ((hcond0_6 t).mpr h6) 0) (k0_off10_inb (grid0.coords t) ((hcond0_6 t).mpr h6) 1))
      (wideAt (outsAt0 m c (t.val - 1) (Nat.lt_of_le_of_lt (Nat.sub_le _ _) t.isLt)).2 512 inb_S2048x128_S512x128_512_0 (k0_off11 (grid0.coords t) 0#32) (k0_off11 (grid0.coords t) 1#32) (k0_off11_inb (grid0.coords t) ((hcond0_6 t).mpr h6) 0) (k0_off11_inb (grid0.coords t) ((hcond0_6 t).mpr h6) 1))
      (wideAt (outsAt0 m c (t.val - 1) (Nat.lt_of_le_of_lt (Nat.sub_le _ _) t.isLt)).2 1024 inb_S2048x128_S512x128_1024_0 (k0_off12 (grid0.coords t) 0#32) (k0_off12 (grid0.coords t) 1#32) (k0_off12_inb (grid0.coords t) ((hcond0_6 t).mpr h6) 0) (k0_off12_inb (grid0.coords t) ((hcond0_6 t).mpr h6) 1)) := by
  rw [outsAt0_F m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_F (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : t.val % 8 = 5) (h7 : ¬t.val % 8 = 6) (h8 : ¬t.val % 8 = 7) :
    (outsAt0 m c t.val t.isLt).2 = (outsAt0 m c (t.val - 1) (Nat.lt_of_le_of_lt (Nat.sub_le _ _) t.isLt)).2 := by
  rw [outsAt0_F m c t h0 h1 h2 h3 h4 h5 h6 h7 h8]
  rfl

set_option maxHeartbeats 400000 in
theorem out_G (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : t.val % 8 = 6) (h8 : ¬t.val % 8 = 7) :
    (outsAt0 m c t.val t.isLt).1 = tile7 (twice (iblk m c 0 t))
      (wideAt (outsAt0 m c (t.val - 1) (Nat.lt_of_le_of_lt (Nat.sub_le _ _) t.isLt)).2 0 inb_S2048x128_S512x128_0_0 (k0_off13 (grid0.coords t) 0#32) (k0_off13 (grid0.coords t) 1#32) (k0_off13_inb (grid0.coords t) ((hcond0_7 t).mpr h7) 0) (k0_off13_inb (grid0.coords t) ((hcond0_7 t).mpr h7) 1))
      (wideAt (outsAt0 m c (t.val - 1) (Nat.lt_of_le_of_lt (Nat.sub_le _ _) t.isLt)).2 512 inb_S2048x128_S512x128_512_0 (k0_off14 (grid0.coords t) 0#32) (k0_off14 (grid0.coords t) 1#32) (k0_off14_inb (grid0.coords t) ((hcond0_7 t).mpr h7) 0) (k0_off14_inb (grid0.coords t) ((hcond0_7 t).mpr h7) 1))
      (wideAt (outsAt0 m c (t.val - 1) (Nat.lt_of_le_of_lt (Nat.sub_le _ _) t.isLt)).2 1024 inb_S2048x128_S512x128_1024_0 (k0_off15 (grid0.coords t) 0#32) (k0_off15 (grid0.coords t) 1#32) (k0_off15_inb (grid0.coords t) ((hcond0_7 t).mpr h7) 0) (k0_off15_inb (grid0.coords t) ((hcond0_7 t).mpr h7) 1))
      (narrowAt (outsAt0 m c (t.val - 1) (Nat.lt_of_le_of_lt (Nat.sub_le _ _) t.isLt)).2 1536 inb_S2048x128_S256x128_1536_0 (k0_off16 (grid0.coords t) 0#32) (k0_off16 (grid0.coords t) 1#32) (k0_off16_inb (grid0.coords t) ((hcond0_7 t).mpr h7) 0) (k0_off16_inb (grid0.coords t) ((hcond0_7 t).mpr h7) 1)) := by
  rw [outsAt0_G m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_G (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : t.val % 8 = 6) (h8 : ¬t.val % 8 = 7) :
    (outsAt0 m c t.val t.isLt).2 = (outsAt0 m c (t.val - 1) (Nat.lt_of_le_of_lt (Nat.sub_le _ _) t.isLt)).2 := by
  rw [outsAt0_G m c t h0 h1 h2 h3 h4 h5 h6 h7 h8]
  rfl

set_option maxHeartbeats 400000 in
theorem out_H (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : t.val % 8 = 7) :
    (outsAt0 m c t.val t.isLt).1 = tile8 (twice (iblk m c 0 t))
      (wideAt (outsAt0 m c (t.val - 1) (Nat.lt_of_le_of_lt (Nat.sub_le _ _) t.isLt)).2 0 inb_S2048x128_S512x128_0_0 (k0_off17 (grid0.coords t) 0#32) (k0_off17 (grid0.coords t) 1#32) (k0_off17_inb (grid0.coords t) ((hcond0_8 t).mpr h8) 0) (k0_off17_inb (grid0.coords t) ((hcond0_8 t).mpr h8) 1))
      (wideAt (outsAt0 m c (t.val - 1) (Nat.lt_of_le_of_lt (Nat.sub_le _ _) t.isLt)).2 512 inb_S2048x128_S512x128_512_0 (k0_off18 (grid0.coords t) 0#32) (k0_off18 (grid0.coords t) 1#32) (k0_off18_inb (grid0.coords t) ((hcond0_8 t).mpr h8) 0) (k0_off18_inb (grid0.coords t) ((hcond0_8 t).mpr h8) 1))
      (wideAt (outsAt0 m c (t.val - 1) (Nat.lt_of_le_of_lt (Nat.sub_le _ _) t.isLt)).2 1024 inb_S2048x128_S512x128_1024_0 (k0_off19 (grid0.coords t) 0#32) (k0_off19 (grid0.coords t) 1#32) (k0_off19_inb (grid0.coords t) ((hcond0_8 t).mpr h8) 0) (k0_off19_inb (grid0.coords t) ((hcond0_8 t).mpr h8) 1))
      (wideAt (outsAt0 m c (t.val - 1) (Nat.lt_of_le_of_lt (Nat.sub_le _ _) t.isLt)).2 1536 inb_S2048x128_S512x128_1536_0 (k0_off20 (grid0.coords t) 0#32) (k0_off20 (grid0.coords t) 1#32) (k0_off20_inb (grid0.coords t) ((hcond0_8 t).mpr h8) 0) (k0_off20_inb (grid0.coords t) ((hcond0_8 t).mpr h8) 1)) := by
  rw [outsAt0_H m c t h0 h1 h2 h3 h4 h5 h6 h7 h8]
  frame_out
  simp only [Idealize.ShloMosaic.read_unread_whole]
  generalize (outsAt0 m c (t.val - 1) _).2 = S
  generalize iblk m c 0 t = q
  obtain ⟨K, V, D⟩ := S
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303] <;> rfl

theorem keep_H (t : Fin cfg0.N) (h0 : ¬t.val % 8 = 0) (h1 : ¬t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : t.val % 8 = 7) :
    (outsAt0 m c t.val t.isLt).2 = (outsAt0 m c (t.val - 1) (Nat.lt_of_le_of_lt (Nat.sub_le _ _) t.isLt)).2 := by
  rw [outsAt0_H m c t h0 h1 h2 h3 h4 h5 h6 h7 h8]
  rfl

/-- The decays summed along each row, by doubling steps. -/
def summed (g : Vec Ideal S1x8x2048 .f32) : Vec Ideal S8x2048 .f32 :=
  k0_pay298 (iota .tc S8x2048 32 [1] iota_S8x2048_d1_w32) (k0_pay8 (iota .tc S8x2048 32 [1] iota_S8x2048_d1_w32) (k0_pay6 g) k0_pay7)

/-- What a row's first tile keeps. -/
def fresh (t : Fin cfg0.N) : Kv := (k0_pay4 (iblk m c 1 t), k0_pay5 (iblk m c 2 t), summed (iblk m c 3 t))

theorem keep_A (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).2 = fresh m c t := by
  rw [outsAt0_A m c t h0 h1 h2 h3 h4 h5 h6 h7 h8]
  frame_open
  frame_out
  rfl

theorem tile1_eq (q : Vec Ideal S1x256x128 .bf16) (k v : Vec Ideal S256x128 .bf16) (c0 c1 : Vec Ideal S1x256 .f32) :
    k0_pay300 (k0_pay11 (k0_pay299 q) (iota .tc S256x256 32 [0] iota_S256x256_d0_w32) (iota .tc S256x256 32 [1] iota_S256x256_d1_w32) k c0) (k0_pay13 (k0_pay299 q) (iota .tc S256x256 32 [0] iota_S256x256_d0_w32) (iota .tc S256x256 32 [1] iota_S256x256_d1_w32) k c0) (k0_pay15 (k0_pay299 q) (iota .tc S256x256 32 [0] iota_S256x256_d0_w32) (iota .tc S256x256 32 [1] iota_S256x256_d1_w32) k c1)
      (k0_pay17 (k0_pay299 q) (iota .tc S256x256 32 [0] iota_S256x256_d0_w32) (iota .tc S256x256 32 [1] iota_S256x256_d1_w32) k c1) (k0_pay18 (k0_pay299 q) (iota .tc S256x256 32 [0] iota_S256x256_d0_w32) (iota .tc S256x256 32 [1] iota_S256x256_d1_w32) k c0 c1 v) (k0_pay19 (k0_pay299 q) (iota .tc S256x256 32 [0] iota_S256x256_d0_w32) (iota .tc S256x256 32 [1] iota_S256x256_d1_w32) k c0 c1 v) =
      tile1 (twice q) ⟨k, c0, c1, v⟩ := by
  dsimp only [wideAt, narrowAt, rowsW, rowsN, rowW, rowN, tile1, tile2, tile3, tile4, tile5, tile6, tile7, tile8, merge1, merge2, merge3, merge4, top3, top4, addL, addO, scale, over, full0, full1, last0, last1, lastW0, lastW1, pair, twice, zeroL, zeroO, first, second, mixW, mixN, sumW, sumN, expW, expN, maxW, maxN, maskW, maskN, lastN0, lastN1, fullW0, fullW1, decayW, dotsW, dotsN, causal, lower, upper, k0_pay9, k0_pay10, k0_pay11, k0_pay12, k0_pay13, k0_pay14, k0_pay15, k0_pay16, k0_pay17, k0_pay18, k0_pay19, k0_pay299, k0_pay300] <;> rfl

theorem out_A (t : Fin cfg0.N) (h0 : t.val % 8 = 0) (h1 : t.val % 8 = 0) (h2 : ¬t.val % 8 = 1) (h3 : ¬t.val % 8 = 2) (h4 : ¬t.val % 8 = 3) (h5 : ¬t.val % 8 = 4) (h6 : ¬t.val % 8 = 5) (h7 : ¬t.val % 8 = 6) (h8 : ¬t.val % 8 = 7) :
    (outsAt0 m c t.val t.isLt).1 = tile1 (twice (iblk m c 0 t))
      (narrowAt (fresh m c t) 0 inb_S2048x128_S256x128_0_0 (k0_off1 (grid0.coords t) 0#32) (k0_off1 (grid0.coords t) 1#32) (k0_off1_inb (grid0.coords t) ((hcond0_1 t).mpr h1) 0) (k0_off1_inb (grid0.coords t) ((hcond0_1 t).mpr h1) 1)) := by
  rw [outsAt0_A m c t h0 h1 h2 h3 h4 h5 h6 h7 h8]
  frame_open
  frame_out

  simp (disch := decide) only [View.readCov_fill]
  exact tile1_eq _ _ _ _ _

end Cert.Cases

end
-- ==== Proof.TileAt.lean ====
/- The vector operations of a query tile, read at an index. -/
module

public import proofs.«01_k».proof.Proof.Tile
public import Idealize.ShloMosaic.Lib.WordCmp

@[expose] public section

set_option maxRecDepth 16384

noncomputable section

namespace Cert.Tile

open Cert.KernelIdeal Cert.KernelIdeal.Gen Idealize.ShloMosaic Cert.Softmax

/-- The lowest score. -/
theorem lowest : Ideal.ofBits .f32 0xFF800000#32 = (⊥ : EReal) := by
  simp [Ideal.ofBits, Ideal.ieee]

theorem pick_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [WordCmp.cmpi_sle_ofNat (w := 32) ha hb, WordCmp.select_ofBool]; simp
theorem pick_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat (w := 32) ha hb, WordCmp.select_ofBool]; simp
theorem pick_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat (w := 32) ha hb, WordCmp.select_ofBool]; simp

theorem dotsW_at (q2 k : FVec Ideal S512x128 .bf16) (r j : Fin 512) :
    dotsW q2 k (ix2 r j) = ∑ d : Fin 128, (q2 (ix2 r d) : EReal) * k (ix2 j d) := by
  unfold dotsW; pointwise []
theorem dotsN_at (q2 : FVec Ideal S512x128 .bf16) (k : FVec Ideal S256x128 .bf16) (r : Fin 512) (j : Fin 256) :
    dotsN q2 k (ix2 r j) = ∑ d : Fin 128, (q2 (ix2 r d) : EReal) * k (ix2 j d) := by
  unfold dotsN; pointwise []
theorem fullW0_at (q2 : FVec Ideal S512x128 .bf16) (C : Wide) (r : Fin 256) (j : Fin 512) :
    fullW0 q2 C (ix2 r j) = (dotsW q2 C.k (ix2 ⟨r.val, by omega⟩ j) : EReal) - C.c0 (ix2 0 j) := by
  unfold fullW0 decayW; pointwise []
theorem fullW1_at (q2 : FVec Ideal S512x128 .bf16) (C : Wide) (r : Fin 256) (j : Fin 512) :
    fullW1 q2 C (ix2 r j) = (dotsW q2 C.k (ix2 ⟨256 + r.val, by omega⟩ j) : EReal) - C.c1 (ix2 0 j) := by
  unfold fullW1 decayW; pointwise []
theorem maskW_at (s : FVec Ideal S256x512 .f32) (r : Fin 256) (j : Fin 512) :
    maskW s (ix2 r j) = if j.val ≤ 256 + r.val then s (ix2 r j) else (⊥ : EReal) := by
  unfold maskW; pointwise [causal]
  by_cases h : j.val < 256
  · rw [dif_pos h, if_pos (by omega)]
  · rw [dif_neg h]
    have e : (⟨256 + (j.val - 256), by omega⟩ : Fin 512) = j := Fin.ext (by simp only; omega)
    exact (pick_le (by omega) (by omega) _ _).trans (if_congr (by omega) (congrArg (fun j => s (ix2 r j)) e) lowest)
theorem lastN0_at (q2 : FVec Ideal S512x128 .bf16) (C : Narrow) (r : Fin 256) (j : Fin 256) :
    lastN0 q2 C (ix2 r j) = if j.val ≤ r.val then (dotsN q2 C.k (ix2 ⟨r.val, by omega⟩ j) : EReal) - C.c0 (ix2 0 j) else (⊥ : EReal) := by
  unfold lastN0 maskN; pointwise [causal]
  rw [pick_le (by omega) (by omega), lowest]
theorem lastN1_at (q2 : FVec Ideal S512x128 .bf16) (C : Narrow) (r : Fin 256) (j : Fin 256) :
    lastN1 q2 C (ix2 r j) = if j.val ≤ r.val then (dotsN q2 C.k (ix2 ⟨256 + r.val, by omega⟩ j) : EReal) - C.c1 (ix2 0 j) else (⊥ : EReal) := by
  unfold lastN1 maskN; pointwise [causal]
  rw [pick_le (by omega) (by omega), lowest]
theorem maxW_at (s : FVec Ideal S256x512 .f32) (r : Fin 256) :
    maxW s (ix2 r 0) = Finset.univ.fold max (⊥ : EReal) fun k : Fin 512 => s (ix2 r k) := by
  unfold maxW; pointwise []
  rw [lowest]
theorem maxN_at (s : FVec Ideal S256x256 .f32) (r : Fin 256) :
    maxN s (ix2 r 0) = Finset.univ.fold max (⊥ : EReal) fun k : Fin 256 => s (ix2 r k) := by
  unfold maxN; pointwise []
  rw [lowest]
theorem expW_at (s : FVec Ideal S256x512 .f32) (r : Fin 256) (j : Fin 512) :
    expW s (ix2 r j) = Ideal.exp ((s (ix2 r j) : EReal) - maxW s (ix2 r 0)) := by
  unfold expW; pointwise []
theorem expN_at (s : FVec Ideal S256x256 .f32) (r : Fin 256) (j : Fin 256) :
    expN s (ix2 r j) = Ideal.exp ((s (ix2 r j) : EReal) - maxN s (ix2 r 0)) := by
  unfold expN; pointwise []
theorem sumW_at (s : FVec Ideal S256x512 .f32) (r : Fin 256) :
    sumW s (ix2 r 0) = ∑ k : Fin 512, (expW s (ix2 r k) : EReal) := by
  unfold sumW; pointwise []
theorem sumN_at (s : FVec Ideal S256x256 .f32) (r : Fin 256) :
    sumN s (ix2 r 0) = ∑ k : Fin 256, (expN s (ix2 r k) : EReal) := by
  unfold sumN; pointwise []
theorem mixW_first (s0 s1 : FVec Ideal S256x512 .f32) (v : FVec Ideal S512x128 .bf16) (r : Fin 256) (d : Fin 128) :
    first (mixW s0 s1 v) (ix2 r d) = ∑ k : Fin 512, (expW s0 (ix2 r k) : EReal) * v (ix2 k d) := by
  unfold first mixW; pointwise []
theorem mixW_second (s0 s1 : FVec Ideal S256x512 .f32) (v : FVec Ideal S512x128 .bf16) (r : Fin 256) (d : Fin 128) :
    second (mixW s0 s1 v) (ix2 r d) = ∑ k : Fin 512, (expW s1 (ix2 r k) : EReal) * v (ix2 k d) := by
  unfold second mixW; pointwise []
theorem mixN_first (s0 s1 : FVec Ideal S256x256 .f32) (v : FVec Ideal S256x128 .bf16) (r : Fin 256) (d : Fin 128) :
    first (mixN s0 s1 v) (ix2 r d) = ∑ k : Fin 256, (expN s0 (ix2 r k) : EReal) * v (ix2 k d) := by
  unfold first mixN; pointwise []
theorem mixN_second (s0 s1 : FVec Ideal S256x256 .f32) (v : FVec Ideal S256x128 .bf16) (r : Fin 256) (d : Fin 128) :
    second (mixN s0 s1 v) (ix2 r d) = ∑ k : Fin 256, (expN s1 (ix2 r k) : EReal) * v (ix2 k d) := by
  unfold second mixN; pointwise []
theorem merge1_at (a : Kept) (r : Fin 256) (d : Fin 128) :
    merge1 a (ix2 r d) = Ideal.div ((a.o (ix2 r d) : EReal) * Ideal.exp ((a.m (ix2 r 0) : EReal) - a.m (ix2 r 0)))
      ((a.l (ix2 r 0) : EReal) * Ideal.exp ((a.m (ix2 r 0) : EReal) - a.m (ix2 r 0))) := by
  unfold merge1 over addO addL scale zeroL zeroO; pointwise []
theorem merge2_at (a b : Kept) (r : Fin 256) (d : Fin 128) :
    merge2 a b (ix2 r d) = Ideal.div ((a.o (ix2 r d) : EReal) * Ideal.exp ((a.m (ix2 r 0) : EReal) - max (a.m (ix2 r 0) : EReal) (b.m (ix2 r 0)))
        + (b.o (ix2 r d) : EReal) * Ideal.exp ((b.m (ix2 r 0) : EReal) - max (a.m (ix2 r 0) : EReal) (b.m (ix2 r 0))))
      ((a.l (ix2 r 0) : EReal) * Ideal.exp ((a.m (ix2 r 0) : EReal) - max (a.m (ix2 r 0) : EReal) (b.m (ix2 r 0)))
        + (b.l (ix2 r 0) : EReal) * Ideal.exp ((b.m (ix2 r 0) : EReal) - max (a.m (ix2 r 0) : EReal) (b.m (ix2 r 0)))) := by
  unfold merge2 over addO addL scale zeroL zeroO; pointwise []
theorem pair_at (o0 o1 : FVec Ideal S256x128 .f32) (r : Fin 256) (d : Fin 128) :
    pair o0 o1 (ix3 0 r d) = if d.val < 64 then o0 (ix2 r d) else o1 (ix2 r d) := by
  unfold pair; pointwise [lower]
  exact pick_lt (by omega) (by omega) _ _
theorem twice_first (q : FVec Ideal S1x256x128 .bf16) (r : Fin 256) (d : Fin 128) :
    twice q (ix2 ⟨r.val, by omega⟩ d) = if d.val < 64 then (q (ix3 0 r d) : EReal) else 0 := by
  unfold twice; pointwise [lower, upper]
  exact pick_lt (by omega) (by omega) _ _
theorem twice_second (q : FVec Ideal S1x256x128 .bf16) (r : Fin 256) (d : Fin 128) :
    twice q (ix2 ⟨256 + r.val, by omega⟩ d) = if 64 ≤ d.val then (q (ix3 0 r d) : EReal) else 0 := by
  unfold twice; pointwise [lower, upper]
  exact pick_ge (by omega) (by omega) _ _

end Cert.Tile

end
-- ==== Proof.Scan.lean ====
/- The decays summed along a row by doubling steps: each lane ends with the sum of the lanes up to it. -/
module

public import proofs.«01_k».proof.Proof.Cases
public import proofs.«01_k».proof.Proof.TileAt

@[expose] public section

set_option maxRecDepth 16384

noncomputable section

namespace Cert.Scan

open Cert.KernelIdeal Cert.KernelIdeal.Gen Idealize.ShloMosaic Cert.Softmax Cert.Cases

/-- One step: each lane takes the lane `s` before it, where there is one. -/
def step (s : ℕ) (x : FVec Ideal S8x2048 .f32) : FVec Ideal S8x2048 .f32 :=
  addf x (select (cmpi .sge (iota .tc S8x2048 32 [1] iota_S8x2048_d1_w32) (broadcast S8x2048 (BitVec.ofNat 32 s)))
    (dynamicRotate 1 (BitVec.ofNat 32 s) none x rotates_S8x2048_d1) (broadcast S8x2048 (Scalar.ofBits .f32 0x00000000#32)))

theorem summed_eq (g : Vec Ideal S1x8x2048 .f32) :
    summed g = step 1024 (step 512 (step 256 (step 128 (step 64 (step 32 (step 16 (step 8 (step 4 (step 2 (step 1
      (shapeCast S8x2048 g shapeCasts_S1x8x2048_S8x2048))))))))))) := by
  unfold summed k0_pay298
  dsimp only
  refine (shapeCast_id (s := S8x2048) _ shapeCasts_S8x2048_S8x2048).trans ?_
  rfl

/-- The last `n` lanes up to lane `j`, summed. -/
def win (f : ℕ → EReal) (n j : ℕ) : EReal := ∑ t ∈ Finset.range n, if t ≤ j then f (j - t) else 0

theorem win_double (f : ℕ → EReal) (n j : ℕ) : win f (n + n) j = win f n j + if n ≤ j then win f n (j - n) else 0 := by
  unfold win
  rw [Finset.sum_range_add]
  congr 1
  split
  · refine Finset.sum_congr rfl fun t _ => ?_
    by_cases h : t ≤ j - n
    · rw [if_pos h, if_pos (by omega)]; congr 1; omega
    · rw [if_neg h, if_neg (by omega)]
  · exact Finset.sum_eq_zero fun t _ => if_neg (by omega)

theorem win_all (f : ℕ → EReal) (n j : ℕ) (h : j < n) : win f n j = ∑ t ∈ Finset.range (j + 1), f t := by
  unfold win
  obtain ⟨k, rfl⟩ : ∃ k, n = (j + 1) + k := ⟨n - (j + 1), by omega⟩
  rw [Finset.sum_range_add, Finset.sum_eq_zero (s := Finset.range k) (fun t _ => if_neg (by omega)), add_zero,
    ← Finset.sum_range_reflect f (j + 1)]
  refine Finset.sum_congr rfl fun t ht => ?_
  rw [Finset.mem_range] at ht
  rw [if_pos (by omega)]; congr 1

theorem step_at (s : ℕ) (hs : s < 2048) (x : FVec Ideal S8x2048 .f32) (h : Fin 8) (j : Fin 2048) :
    step s x (ix2 h j) = (x (ix2 h j) : EReal) + if s ≤ j.val then x (ix2 h ⟨j.val - s, by omega⟩) else 0 := by
  unfold step; pointwise []
  congr 1
  rw [Tile.pick_ge (by omega) (by omega)]
  split
  · have e : (BitVec.ofNat 32 s).toNat = s := by rw [BitVec.toNat_ofNat]; omega
    congr 2
    exact Fin.ext (by simp only [e]; omega)
  · rfl

theorem step_win (f : ℕ → EReal) (n : ℕ) (hn : n < 2048) (x : FVec Ideal S8x2048 .f32) (h : Fin 8)
    (hx : ∀ j : Fin 2048, x (ix2 h j) = win f n j.val) (j : Fin 2048) : step n x (ix2 h j) = win f (n + n) j.val := by
  rw [step_at n hn, win_double, hx]
  congr 1
  split
  · rw [hx]
  · rfl

theorem summed_at (g : Vec Ideal S1x8x2048 .f32) (f : ℕ → EReal) (h : Fin 8) (hg : ∀ j : Fin 2048, g (ix3 0 h j) = f j.val) (j : Fin 2048) :
    summed g (ix2 h j) = ∑ t ∈ Finset.range (j.val + 1), f t := by
  rw [summed_eq, ← win_all f 2048 j.val j.isLt]
  refine step_win f 1024 (by decide) _ h (fun j => ?_) j
  refine step_win f 512 (by decide) _ h (fun j => ?_) j
  refine step_win f 256 (by decide) _ h (fun j => ?_) j
  refine step_win f 128 (by decide) _ h (fun j => ?_) j
  refine step_win f 64 (by decide) _ h (fun j => ?_) j
  refine step_win f 32 (by decide) _ h (fun j => ?_) j
  refine step_win f 16 (by decide) _ h (fun j => ?_) j
  refine step_win f 8 (by decide) _ h (fun j => ?_) j
  refine step_win f 4 (by decide) _ h (fun j => ?_) j
  refine step_win f 2 (by decide) _ h (fun j => ?_) j
  refine step_win f 1 (by decide) _ h (fun j => ?_) j
  unfold win
  rw [Finset.sum_range_one, if_pos (Nat.zero_le _), Nat.sub_zero, ← hg]
  pointwise []

end Cert.Scan

end
-- ==== Proof.Points.lean ====
/- Where each grid point's blocks lie: point `t` is the tile `t % 8` of the row `t / 8 % 4` (a pair of heads)
   of the batch entry `t / 32`. -/
module

public import proofs.«01_k».proof.Proof.Gen.KernelIdeal.Value
public import Idealize.ShloMosaic.Lib.Pipeline.ValueKit

@[expose] public section

set_option maxRecDepth 16384

noncomputable section

namespace Cert.Points
open Cert.KernelIdeal Cert.KernelIdeal.Gen Idealize.ShloMosaic Idealize.ShloMosaic.TcCoe Idealize.SL.Sem

theorem idx : ∀ t : Fin cfg0.N, win0_0.index t = ![t.val / 32, t.val % 8, t.val / 8 % 4] ∧ win0_1.index t = ![t.val / 32, 0, t.val / 8 % 4]
    ∧ win0_2.index t = ![t.val / 32, 0, t.val / 8 % 4] ∧ win0_3.index t = ![t.val / 32, 0, 0] ∧ win0_4.index t = ![t.val / 32, t.val % 8, t.val / 8 % 4]
    ∧ (grid0.coords t 1).val = t.val / 8 % 4 :=
  (by decide +kernel : ∀ t : Fin grid0.N, _)

theorem covers : (cfg0.win 4).Covers := by decide +kernel

theorem lt (t : Fin cfg0.N) : t.val < 1024 := lt_of_lt_of_eq t.isLt N_0

variable (m : (ℓ : Loc nD τ sig) → Buf (Elt Ideal) ℓ) (c : Dev nD)

/-- The queries, keys, values and log forget values. -/
abbrev Aq : FVec Ideal S32x2048x512 .bf16 := m ((c : Thread nD τ).loc main_arg0)
abbrev Ak : FVec Ideal S32x2048x512 .f32 := m ((c : Thread nD τ).loc main_arg1)
abbrev Av : FVec Ideal S32x2048x512 .f32 := m ((c : Thread nD τ).loc main_arg2)
abbrev Al : FVec Ideal S32x2048x8 .f32 := m ((c : Thread nD τ).loc main_arg3)

end Cert.Points

end
-- ==== Proof.TileValue.lean ====
/- A query tile's output at an index: each row's attention over the keys up to its own. -/
module

public import proofs.«01_k».proof.Proof.TileAt

@[expose] public section

set_option maxRecDepth 16384

noncomputable section

namespace Cert.Tile

open Cert.KernelIdeal Cert.KernelIdeal.Gen Idealize.ShloMosaic Cert.Softmax

theorem merge3_at (a b c : Kept) (r : Fin 256) (x : Fin 128) :
    merge3 a b c (ix2 r x) = Ideal.div ((a.o (ix2 r x) : EReal) * Ideal.exp ((a.m (ix2 r 0) : EReal) - (max (max (a.m (ix2 r 0) : EReal) (b.m (ix2 r 0) : EReal)) (c.m (ix2 r 0) : EReal))) + (b.o (ix2 r x) : EReal) * Ideal.exp ((b.m (ix2 r 0) : EReal) - (max (max (a.m (ix2 r 0) : EReal) (b.m (ix2 r 0) : EReal)) (c.m (ix2 r 0) : EReal))) + (c.o (ix2 r x) : EReal) * Ideal.exp ((c.m (ix2 r 0) : EReal) - (max (max (a.m (ix2 r 0) : EReal) (b.m (ix2 r 0) : EReal)) (c.m (ix2 r 0) : EReal))))
      ((a.l (ix2 r 0) : EReal) * Ideal.exp ((a.m (ix2 r 0) : EReal) - (max (max (a.m (ix2 r 0) : EReal) (b.m (ix2 r 0) : EReal)) (c.m (ix2 r 0) : EReal))) + (b.l (ix2 r 0) : EReal) * Ideal.exp ((b.m (ix2 r 0) : EReal) - (max (max (a.m (ix2 r 0) : EReal) (b.m (ix2 r 0) : EReal)) (c.m (ix2 r 0) : EReal))) + (c.l (ix2 r 0) : EReal) * Ideal.exp ((c.m (ix2 r 0) : EReal) - (max (max (a.m (ix2 r 0) : EReal) (b.m (ix2 r 0) : EReal)) (c.m (ix2 r 0) : EReal)))) := by
  unfold merge3 top3 over addO addL scale zeroL zeroO; pointwise []

theorem merge4_at (a b c d : Kept) (r : Fin 256) (x : Fin 128) :
    merge4 a b c d (ix2 r x) = Ideal.div ((a.o (ix2 r x) : EReal) * Ideal.exp ((a.m (ix2 r 0) : EReal) - (max (max (max (a.m (ix2 r 0) : EReal) (b.m (ix2 r 0) : EReal)) (c.m (ix2 r 0) : EReal)) (d.m (ix2 r 0) : EReal))) + (b.o (ix2 r x) : EReal) * Ideal.exp ((b.m (ix2 r 0) : EReal) - (max (max (max (a.m (ix2 r 0) : EReal) (b.m (ix2 r 0) : EReal)) (c.m (ix2 r 0) : EReal)) (d.m (ix2 r 0) : EReal))) + (c.o (ix2 r x) : EReal) * Ideal.exp ((c.m (ix2 r 0) : EReal) - (max (max (max (a.m (ix2 r 0) : EReal) (b.m (ix2 r 0) : EReal)) (c.m (ix2 r 0) : EReal)) (d.m (ix2 r 0) : EReal))) + (d.o (ix2 r x) : EReal) * Ideal.exp ((d.m (ix2 r 0) : EReal) - (max (max (max (a.m (ix2 r 0) : EReal) (b.m (ix2 r 0) : EReal)) (c.m (ix2 r 0) : EReal)) (d.m (ix2 r 0) : EReal))))
      ((a.l (ix2 r 0) : EReal) * Ideal.exp ((a.m (ix2 r 0) : EReal) - (max (max (max (a.m (ix2 r 0) : EReal) (b.m (ix2 r 0) : EReal)) (c.m (ix2 r 0) : EReal)) (d.m (ix2 r 0) : EReal))) + (b.l (ix2 r 0) : EReal) * Ideal.exp ((b.m (ix2 r 0) : EReal) - (max (max (max (a.m (ix2 r 0) : EReal) (b.m (ix2 r 0) : EReal)) (c.m (ix2 r 0) : EReal)) (d.m (ix2 r 0) : EReal))) + (c.l (ix2 r 0) : EReal) * Ideal.exp ((c.m (ix2 r 0) : EReal) - (max (max (max (a.m (ix2 r 0) : EReal) (b.m (ix2 r 0) : EReal)) (c.m (ix2 r 0) : EReal)) (d.m (ix2 r 0) : EReal))) + (d.l (ix2 r 0) : EReal) * Ideal.exp ((d.m (ix2 r 0) : EReal) - (max (max (max (a.m (ix2 r 0) : EReal) (b.m (ix2 r 0) : EReal)) (c.m (ix2 r 0) : EReal)) (d.m (ix2 r 0) : EReal)))) := by
  unfold merge4 top4 over addO addL scale zeroL zeroO; pointwise []

/-- Row `r`'s queries, the first head's and the second's. -/
def Queries (q2 : FVec Ideal S512x128 .bf16) (r : Fin 256) (Q0 Q1 : Fin 128 → ℝ) : Prop :=
  (∀ d, q2 (ix2 ⟨r.val, by omega⟩ d) = ((Q0 d : ℝ) : EReal)) ∧ ∀ d, q2 (ix2 ⟨256 + r.val, by omega⟩ d) = ((Q1 d : ℝ) : EReal)

/-- A chunk holds the keys, decays and values from `s` on. -/
def ReadsW (C : Wide) (s : ℕ) (K : ℕ → Fin 128 → ℝ) (D0 D1 : ℕ → ℝ) (V : Fin 128 → ℕ → EReal) : Prop :=
  (∀ j d, C.k (ix2 j d) = ((K (s + j.val) d : ℝ) : EReal)) ∧ (∀ j, C.c0 (ix2 0 j) = ((D0 (s + j.val) : ℝ) : EReal))
    ∧ (∀ j, C.c1 (ix2 0 j) = ((D1 (s + j.val) : ℝ) : EReal)) ∧ ∀ j d, C.v (ix2 j d) = V d (s + j.val)

def ReadsN (C : Narrow) (s : ℕ) (K : ℕ → Fin 128 → ℝ) (D0 D1 : ℕ → ℝ) (V : Fin 128 → ℕ → EReal) : Prop :=
  (∀ j d, C.k (ix2 j d) = ((K (s + j.val) d : ℝ) : EReal)) ∧ (∀ j, C.c0 (ix2 0 j) = ((D0 (s + j.val) : ℝ) : EReal))
    ∧ (∀ j, C.c1 (ix2 0 j) = ((D1 (s + j.val) : ℝ) : EReal)) ∧ ∀ j d, C.v (ix2 j d) = V d (s + j.val)

/-- A key's score: the product with the query less the decay up to the key. -/
def score (Q : Fin 128 → ℝ) (K : ℕ → Fin 128 → ℝ) (D : ℕ → ℝ) (j : ℕ) : ℝ := (∑ d, Q d * K j d) - D j

/-- A chunk's kept values are its part of row `i`'s attention. -/
def KPart (k : Kept) (r : Fin 256) (x : ℕ → ℝ) (i : ℕ) (V : Fin 128 → ℕ → EReal) (s n : ℕ) : Prop :=
  ∀ d, Part x i (V d) s n (k.m (ix2 r 0)) (k.l (ix2 r 0)) (k.o (ix2 r d))

variable {q2 : FVec Ideal S512x128 .bf16} {r : Fin 256} {Q0 Q1 : Fin 128 → ℝ} {K : ℕ → Fin 128 → ℝ} {D0 D1 : ℕ → ℝ} {V : Fin 128 → ℕ → EReal}

theorem partW0 (s0 s1 : FVec Ideal S256x512 .f32) (v : FVec Ideal S512x128 .bf16) (x : ℕ → ℝ) (i s : ℕ) (hs : s ≤ i)
    (hf : ∀ k, s0 (ix2 r k) = sc x i (s + k.val)) (hv : ∀ k d, v (ix2 k d) = V d (s + k.val)) :
    KPart ⟨maxW s0, sumW s0, first (mixW s0 s1 v)⟩ r x i V s 512 := by
  intro d
  have h := part_of_chunk x i (V d) s (by decide : 0 < 512) hs (fun k => s0 (ix2 r k)) hf (fun k => v (ix2 k d)) fun k => hv k d
  simp only [maxW_at, sumW_at, expW_at, mixW_first]
  exact h

theorem partN0 (s0 s1 : FVec Ideal S256x256 .f32) (v : FVec Ideal S256x128 .bf16) (x : ℕ → ℝ) (i s : ℕ) (hs : s ≤ i)
    (hf : ∀ k, s0 (ix2 r k) = sc x i (s + k.val)) (hv : ∀ k d, v (ix2 k d) = V d (s + k.val)) :
    KPart ⟨maxN s0, sumN s0, first (mixN s0 s1 v)⟩ r x i V s 256 := by
  intro d
  have h := part_of_chunk x i (V d) s (by decide : 0 < 256) hs (fun k => s0 (ix2 r k)) hf (fun k => v (ix2 k d)) fun k => hv k d
  simp only [maxN_at, sumN_at, expN_at, mixN_first]
  exact h

theorem partW1 (s0 s1 : FVec Ideal S256x512 .f32) (v : FVec Ideal S512x128 .bf16) (x : ℕ → ℝ) (i s : ℕ) (hs : s ≤ i)
    (hf : ∀ k, s1 (ix2 r k) = sc x i (s + k.val)) (hv : ∀ k d, v (ix2 k d) = V d (s + k.val)) :
    KPart ⟨maxW s1, sumW s1, second (mixW s0 s1 v)⟩ r x i V s 512 := by
  intro d
  have h := part_of_chunk x i (V d) s (by decide : 0 < 512) hs (fun k => s1 (ix2 r k)) hf (fun k => v (ix2 k d)) fun k => hv k d
  simp only [maxW_at, sumW_at, expW_at, mixW_second]
  exact h

theorem partN1 (s0 s1 : FVec Ideal S256x256 .f32) (v : FVec Ideal S256x128 .bf16) (x : ℕ → ℝ) (i s : ℕ) (hs : s ≤ i)
    (hf : ∀ k, s1 (ix2 r k) = sc x i (s + k.val)) (hv : ∀ k d, v (ix2 k d) = V d (s + k.val)) :
    KPart ⟨maxN s1, sumN s1, second (mixN s0 s1 v)⟩ r x i V s 256 := by
  intro d
  have h := part_of_chunk x i (V d) s (by decide : 0 < 256) hs (fun k => s1 (ix2 r k)) hf (fun k => v (ix2 k d)) fun k => hv k d
  simp only [maxN_at, sumN_at, expN_at, mixN_second]
  exact h

theorem coe_sum' {n : ℕ} (f : Fin n → ℝ) : ((∑ k, f k : ℝ) : EReal) = ∑ k, (f k : EReal) := by
  exact map_sum (⟨⟨((↑) : ℝ → EReal), rfl⟩, EReal.coe_add⟩ : ℝ →+ EReal) f _

theorem wide0 (hq : Queries q2 r Q0 Q1) {C : Wide} {s : ℕ} (hC : ReadsW C s K D0 D1 V) (j : Fin 512) :
    fullW0 q2 C (ix2 r j) = ((score Q0 K D0 (s + j.val) : ℝ) : EReal) := by
  rw [fullW0_at, dotsW_at, hC.2.1 j]
  simp only [hq.1, hC.1, ← EReal.coe_mul, ← coe_sum']
  rfl

theorem narrow0 (hq : Queries q2 r Q0 Q1) {C : Narrow} {s : ℕ} (hC : ReadsN C s K D0 D1 V) (j : Fin 256) :
    lastN0 q2 C (ix2 r j) = sc (score Q0 K D0) (s + r.val) (s + j.val) := by
  rw [lastN0_at, dotsN_at, hC.2.1 j]
  simp only [hq.1, hC.1, ← EReal.coe_mul, ← coe_sum']
  unfold sc
  exact if_congr (by omega) rfl rfl

theorem full0_part (hq : Queries q2 r Q0 Q1) {C : Wide} {s i : ℕ} (hC : ReadsW C s K D0 D1 V) (hi : s + 512 ≤ i) :
    KPart (full0 q2 C) r (score Q0 K D0) i V s 512 :=
  partW0 _ _ _ _ i s (by omega) (fun k => by rw [wide0 hq hC]; unfold sc; rw [if_pos (by omega)]) hC.2.2.2

theorem lastW0_part (hq : Queries q2 r Q0 Q1) {C : Wide} {s i : ℕ} (hC : ReadsW C s K D0 D1 V) (hi : i = s + 256 + r.val) :
    KPart (lastW0 q2 C) r (score Q0 K D0) i V s 512 :=
  partW0 _ _ _ _ i s (by omega)
    (fun k => by rw [maskW_at, wide0 hq hC]; unfold sc; exact if_congr (by omega) rfl rfl) hC.2.2.2

theorem last0_part (hq : Queries q2 r Q0 Q1) {C : Narrow} {s i : ℕ} (hC : ReadsN C s K D0 D1 V) (hi : i = s + r.val) :
    KPart (last0 q2 C) r (score Q0 K D0) i V s 256 :=
  partN0 _ _ _ _ i s (by omega) (fun k => by rw [narrow0 hq hC, hi]) hC.2.2.2

theorem wide1 (hq : Queries q2 r Q0 Q1) {C : Wide} {s : ℕ} (hC : ReadsW C s K D0 D1 V) (j : Fin 512) :
    fullW1 q2 C (ix2 r j) = ((score Q1 K D1 (s + j.val) : ℝ) : EReal) := by
  rw [fullW1_at, dotsW_at, hC.2.2.1 j]
  simp only [hq.2, hC.1, ← EReal.coe_mul, ← coe_sum']
  rfl

theorem narrow1 (hq : Queries q2 r Q0 Q1) {C : Narrow} {s : ℕ} (hC : ReadsN C s K D0 D1 V) (j : Fin 256) :
    lastN1 q2 C (ix2 r j) = sc (score Q1 K D1) (s + r.val) (s + j.val) := by
  rw [lastN1_at, dotsN_at, hC.2.2.1 j]
  simp only [hq.2, hC.1, ← EReal.coe_mul, ← coe_sum']
  unfold sc
  exact if_congr (by omega) rfl rfl

theorem full1_part (hq : Queries q2 r Q0 Q1) {C : Wide} {s i : ℕ} (hC : ReadsW C s K D0 D1 V) (hi : s + 512 ≤ i) :
    KPart (full1 q2 C) r (score Q1 K D1) i V s 512 :=
  partW1 _ _ _ _ i s (by omega) (fun k => by rw [wide1 hq hC]; unfold sc; rw [if_pos (by omega)]) hC.2.2.2

theorem lastW1_part (hq : Queries q2 r Q0 Q1) {C : Wide} {s i : ℕ} (hC : ReadsW C s K D0 D1 V) (hi : i = s + 256 + r.val) :
    KPart (lastW1 q2 C) r (score Q1 K D1) i V s 512 :=
  partW1 _ _ _ _ i s (by omega)
    (fun k => by rw [maskW_at, wide1 hq hC]; unfold sc; exact if_congr (by omega) rfl rfl) hC.2.2.2

theorem last1_part (hq : Queries q2 r Q0 Q1) {C : Narrow} {s i : ℕ} (hC : ReadsN C s K D0 D1 V) (hi : i = s + r.val) :
    KPart (last1 q2 C) r (score Q1 K D1) i V s 256 :=
  partN1 _ _ _ _ i s (by omega) (fun k => by rw [narrow1 hq hC, hi]) hC.2.2.2

/-- The output of a row: the first head's attention on the lower lanes, the second's on the upper. -/
def rowOut (Q0 Q1 : Fin 128 → ℝ) (K : ℕ → Fin 128 → ℝ) (D0 D1 : ℕ → ℝ) (V : Fin 128 → ℕ → EReal) (i : ℕ) (d : Fin 128) : EReal :=
  if d.val < 64 then attn (score Q0 K D0) i (V d) 2048 else attn (score Q1 K D1) i (V d) 2048

theorem tile1_at (hq : Queries q2 r Q0 Q1) {C : Narrow}  (hC : ReadsN C 0 K D0 D1 V) (d : Fin 128) :
    tile1 q2  C (ix3 0 r d) = rowOut Q0 Q1 K D0 D1 V (0 + r.val) d := by
  unfold tile1 rowOut
  rw [pair_at]
  split
  · exact (merge1_at _ r d).trans (chunks1 (by omega) (by omega) (last0_part hq hC (by omega) d))
  · exact (merge1_at _ r d).trans (chunks1 (by omega) (by omega) (last1_part hq hC (by omega) d))

theorem tile2_at (hq : Queries q2 r Q0 Q1) {C : Wide}  (hC : ReadsW C 0 K D0 D1 V) (d : Fin 128) :
    tile2 q2  C (ix3 0 r d) = rowOut Q0 Q1 K D0 D1 V (256 + r.val) d := by
  unfold tile2 rowOut
  rw [pair_at]
  split
  · exact (merge1_at _ r d).trans (chunks1 (by omega) (by omega) (lastW0_part hq hC (by omega) d))
  · exact (merge1_at _ r d).trans (chunks1 (by omega) (by omega) (lastW1_part hq hC (by omega) d))

theorem tile3_at (hq : Queries q2 r Q0 Q1) {A0 : Wide} {C : Narrow} (h0 : ReadsW A0 0 K D0 D1 V) (hC : ReadsN C 512 K D0 D1 V) (d : Fin 128) :
    tile3 q2 A0 C (ix3 0 r d) = rowOut Q0 Q1 K D0 D1 V (512 + r.val) d := by
  unfold tile3 rowOut
  rw [pair_at]
  split
  · exact (merge2_at _ _ r d).trans (chunks2 (by omega) (by omega) (full0_part hq h0 (by omega) d) (last0_part hq hC (by omega) d))
  · exact (merge2_at _ _ r d).trans (chunks2 (by omega) (by omega) (full1_part hq h0 (by omega) d) (last1_part hq hC (by omega) d))

theorem tile4_at (hq : Queries q2 r Q0 Q1) {A0 : Wide} {C : Wide} (h0 : ReadsW A0 0 K D0 D1 V) (hC : ReadsW C 512 K D0 D1 V) (d : Fin 128) :
    tile4 q2 A0 C (ix3 0 r d) = rowOut Q0 Q1 K D0 D1 V (768 + r.val) d := by
  unfold tile4 rowOut
  rw [pair_at]
  split
  · exact (merge2_at _ _ r d).trans (chunks2 (by omega) (by omega) (full0_part hq h0 (by omega) d) (lastW0_part hq hC (by omega) d))
  · exact (merge2_at _ _ r d).trans (chunks2 (by omega) (by omega) (full1_part hq h0 (by omega) d) (lastW1_part hq hC (by omega) d))

theorem tile5_at (hq : Queries q2 r Q0 Q1) {A0 : Wide} {A1 : Wide} {C : Narrow} (h0 : ReadsW A0 0 K D0 D1 V) (h1 : ReadsW A1 512 K D0 D1 V) (hC : ReadsN C 1024 K D0 D1 V) (d : Fin 128) :
    tile5 q2 A0 A1 C (ix3 0 r d) = rowOut Q0 Q1 K D0 D1 V (1024 + r.val) d := by
  unfold tile5 rowOut
  rw [pair_at]
  split
  · exact (merge3_at _ _ _ r d).trans (chunks3 (by omega) (by omega) (full0_part hq h0 (by omega) d) (full0_part hq h1 (by omega) d) (last0_part hq hC (by omega) d))
  · exact (merge3_at _ _ _ r d).trans (chunks3 (by omega) (by omega) (full1_part hq h0 (by omega) d) (full1_part hq h1 (by omega) d) (last1_part hq hC (by omega) d))

theorem tile6_at (hq : Queries q2 r Q0 Q1) {A0 : Wide} {A1 : Wide} {C : Wide} (h0 : ReadsW A0 0 K D0 D1 V) (h1 : ReadsW A1 512 K D0 D1 V) (hC : ReadsW C 1024 K D0 D1 V) (d : Fin 128) :
    tile6 q2 A0 A1 C (ix3 0 r d) = rowOut Q0 Q1 K D0 D1 V (1280 + r.val) d := by
  unfold tile6 rowOut
  rw [pair_at]
  split
  · exact (merge3_at _ _ _ r d).trans (chunks3 (by omega) (by omega) (full0_part hq h0 (by omega) d) (full0_part hq h1 (by omega) d) (lastW0_part hq hC (by omega) d))
  · exact (merge3_at _ _ _ r d).trans (chunks3 (by omega) (by omega) (full1_part hq h0 (by omega) d) (full1_part hq h1 (by omega) d) (lastW1_part hq hC (by omega) d))

theorem tile7_at (hq : Queries q2 r Q0 Q1) {A0 : Wide} {A1 : Wide} {A2 : Wide} {C : Narrow} (h0 : ReadsW A0 0 K D0 D1 V) (h1 : ReadsW A1 512 K D0 D1 V) (h2 : ReadsW A2 1024 K D0 D1 V) (hC : ReadsN C 1536 K D0 D1 V) (d : Fin 128) :
    tile7 q2 A0 A1 A2 C (ix3 0 r d) = rowOut Q0 Q1 K D0 D1 V (1536 + r.val) d := by
  unfold tile7 rowOut
  rw [pair_at]
  split
  · exact (merge4_at _ _ _ _ r d).trans (chunks4 (by omega) (by omega) rfl (full0_part hq h0 (by omega) d) (full0_part hq h1 (by omega) d) (full0_part hq h2 (by omega) d) (last0_part hq hC (by omega) d))
  · exact (merge4_at _ _ _ _ r d).trans (chunks4 (by omega) (by omega) rfl (full1_part hq h0 (by omega) d) (full1_part hq h1 (by omega) d) (full1_part hq h2 (by omega) d) (last1_part hq hC (by omega) d))

theorem tile8_at (hq : Queries q2 r Q0 Q1) {A0 : Wide} {A1 : Wide} {A2 : Wide} {C : Wide} (h0 : ReadsW A0 0 K D0 D1 V) (h1 : ReadsW A1 512 K D0 D1 V) (h2 : ReadsW A2 1024 K D0 D1 V) (hC : ReadsW C 1536 K D0 D1 V) (d : Fin 128) :
    tile8 q2 A0 A1 A2 C (ix3 0 r d) = rowOut Q0 Q1 K D0 D1 V (1792 + r.val) d := by
  unfold tile8 rowOut
  rw [pair_at]
  split
  · exact (merge4_at _ _ _ _ r d).trans (chunks4 (by omega) (by omega) rfl (full0_part hq h0 (by omega) d) (full0_part hq h1 (by omega) d) (full0_part hq h2 (by omega) d) (lastW0_part hq hC (by omega) d))
  · exact (merge4_at _ _ _ _ r d).trans (chunks4 (by omega) (by omega) rfl (full1_part hq h0 (by omega) d) (full1_part hq h1 (by omega) d) (full1_part hq h2 (by omega) d) (lastW1_part hq hC (by omega) d))

end Cert.Tile

end
-- ==== Proof.State.lean ====
/- What each grid point leaves in its output block: the attention of its rows, over the keys, values and decays
   of its batch entry and pair of heads. -/
module

public import proofs.«01_k».proof.Proof.Scan
public import proofs.«01_k».proof.Proof.Points
public import proofs.«01_k».proof.Proof.TileValue

@[expose] public section

set_option maxRecDepth 16384

noncomputable section

namespace Cert.State
open Cert.KernelIdeal Cert.KernelIdeal.Gen Idealize.ShloMosaic Idealize.ShloMosaic.TcCoe Idealize.SL.Sem Cert.Tile Cert.Points Cert.Cases Cert.Softmax

variable (m : (ℓ : Loc nD τ sig) → Buf (Elt Ideal) ℓ) (c : Dev nD)

theorem q_block (t : Fin cfg0.N) (r : Fin 256) (d : Fin 128) :
    iblk m c 0 t (ix3 0 r d) = Aq m c (ix3 ⟨t.val / 32, by have := lt t; omega⟩ ⟨t.val % 8 * 256 + r.val, by omega⟩ ⟨t.val / 8 % 4 * 128 + d.val, by omega⟩) := by
  blk_ext [iblk, V, idx t]
theorem k_block (t : Fin cfg0.N) (r : Fin 2048) (d : Fin 128) :
    iblk m c 1 t (ix3 0 r d) = Ak m c (ix3 ⟨t.val / 32, by have := lt t; omega⟩ r ⟨t.val / 8 % 4 * 128 + d.val, by omega⟩) := by
  blk_ext [iblk, V, idx t]
theorem v_block (t : Fin cfg0.N) (r : Fin 2048) (d : Fin 128) :
    iblk m c 2 t (ix3 0 r d) = Av m c (ix3 ⟨t.val / 32, by have := lt t; omega⟩ r ⟨t.val / 8 % 4 * 128 + d.val, by omega⟩) := by
  blk_ext [iblk, V, idx t]
theorem V_v0 : V m c main_v0 = transpose S32x8x2048 [0, 2, 1] (Al m c) transposes_S32x2048x8_S32x8x2048_0_2_1 := by
  unfold_abbrev_sides
  after_results
theorem l_block (t : Fin cfg0.N) (h : Fin 8) (j : Fin 2048) :
    iblk m c 3 t (ix3 0 h j) = Al m c (ix3 ⟨t.val / 32, by have := lt t; omega⟩ j h) := by
  have e : iblk m c 3 t (ix3 0 h j) = V m c main_v0 (ix3 ⟨t.val / 32, by have := lt t; omega⟩ h j) := by
    blk_ext [iblk, idx t]
  rw [e, V_v0]
  pointwise []
theorem kb_at (t : Fin cfg0.N) (j : Fin 2048) (d : Fin 128) : k0_pay4 (F := Ideal) (iblk m c 1 t) (ix2 j d) = iblk m c 1 t (ix3 0 j d) := by
  pointwise [k0_pay4]
theorem vb_at (t : Fin cfg0.N) (j : Fin 2048) (d : Fin 128) : k0_pay5 (F := Ideal) (iblk m c 2 t) (ix2 j d) = iblk m c 2 t (ix3 0 j d) := by
  pointwise [k0_pay5]
theorem rowsW_at (K : Vec Ideal S2048x128 .bf16) (s : ℕ) (hs) (j : Fin 512) (d : Fin 128) (h : s + j.val < 2048) :
    rowsW K s hs (ix2 j d) = K (ix2 ⟨s + j.val, h⟩ d) := by
  unfold rowsW; rw [View.ld_unit]; pointwise []
theorem rowsN_at (K : Vec Ideal S2048x128 .bf16) (s : ℕ) (hs) (j : Fin 256) (d : Fin 128) (h : s + j.val < 2048) :
    rowsN K s hs (ix2 j d) = K (ix2 ⟨s + j.val, h⟩ d) := by
  unfold rowsN; rw [View.ld_unit]; pointwise []
theorem rowW_at (D : Vec Ideal S8x2048 .f32) (o : Fin 2 → ℕ) (ho) (p s : ℕ) (hp : p < 8) (e : o = ![p, s]) (j : Fin 512) (h : s + j.val < 2048) :
    rowW D o ho (ix2 0 j) = D (ix2 ⟨p, hp⟩ ⟨s + j.val, h⟩) := by
  subst e; unfold rowW; rw [View.ld_unit]; pointwise []
theorem rowN_at (D : Vec Ideal S8x2048 .f32) (o : Fin 2 → ℕ) (ho) (p s : ℕ) (hp : p < 8) (e : o = ![p, s]) (j : Fin 256) (h : s + j.val < 2048) :
    rowN D o ho (ix2 0 j) = D (ix2 ⟨p, hp⟩ ⟨s + j.val, h⟩) := by
  subst e; unfold rowN; rw [View.ld_unit]; pointwise []

/-- The first point of point `t`'s row. -/
def base (t : Fin cfg0.N) : Fin cfg0.N := ⟨t.val / 8 * 8, lt_of_le_of_lt (by omega) t.isLt⟩

/-- Along a row every point keeps what the first one set. -/
theorem kept (n : ℕ) (hn : n < cfg0.N) : (outsAt0 m c n hn).2 = fresh m c (base ⟨n, hn⟩) := by
  induction n using Nat.strong_induction_on with
  | _ n ih =>
    have prev : ¬ n % 8 = 0 → (outsAt0 m c (n - 1) (Nat.lt_of_le_of_lt (Nat.sub_le _ _) hn)).2 = fresh m c (base ⟨n, hn⟩) := fun h => by
      rw [ih (n - 1) (by omega) _]
      congr 1
      exact Fin.ext (by simp only [base]; omega)
    rcases (by omega : n % 8 = 0 ∨ n % 8 = 1 ∨ n % 8 = 2 ∨ n % 8 = 3 ∨ n % 8 = 4 ∨ n % 8 = 5 ∨ n % 8 = 6 ∨ n % 8 = 7) with h | h | h | h | h | h | h | h
    · rw [keep_A m c ⟨n, hn⟩ (by simp only; omega) (by simp only; omega) (by simp only; omega) (by simp only; omega) (by simp only; omega) (by simp only; omega) (by simp only; omega) (by simp only; omega) (by simp only; omega)]
      congr 1
      exact Fin.ext (by simp only [base]; omega)
    · exact (keep_B m c ⟨n, hn⟩ (by simp only; omega) (by simp only; omega) (by simp only; omega) (by simp only; omega) (by simp only; omega) (by simp only; omega) (by simp only; omega) (by simp only; omega) (by simp only; omega)).trans (prev (by omega))
    · exact (keep_C m c ⟨n, hn⟩ (by simp only; omega) (by simp only; omega) (by simp only; omega) (by simp only; omega) (by simp only; omega) (by simp only; omega) (by simp only; omega) (by simp only; omega) (by simp only; omega)).trans (prev (by omega))
    · exact (keep_D m c ⟨n, hn⟩ (by simp only; omega) (by simp only; omega) (by simp only; omega) (by simp only; omega) (by simp only; omega) (by simp only; omega) (by simp only; omega) (by simp only; omega) (by simp only; omega)).trans (prev (by omega))
    · exact (keep_E m c ⟨n, hn⟩ (by simp only; omega) (by simp only; omega) (by simp only; omega) (by simp only; omega) (by simp only; omega) (by simp only; omega) (by simp only; omega) (by simp only; omega) (by simp only; omega)).trans (prev (by omega))
    · exact (keep_F m c ⟨n, hn⟩ (by simp only; omega) (by simp only; omega) (by simp only; omega) (by simp only; omega) (by simp only; omega) (by simp only; omega) (by simp only; omega) (by simp only; omega) (by simp only; omega)).trans (prev (by omega))
    · exact (keep_G m c ⟨n, hn⟩ (by simp only; omega) (by simp only; omega) (by simp only; omega) (by simp only; omega) (by simp only; omega) (by simp only; omega) (by simp only; omega) (by simp only; omega) (by simp only; omega)).trans (prev (by omega))
    · exact (keep_H m c ⟨n, hn⟩ (by simp only; omega) (by simp only; omega) (by simp only; omega) (by simp only; omega) (by simp only; omega) (by simp only; omega) (by simp only; omega) (by simp only; omega) (by simp only; omega)).trans (prev (by omega))

theorem kept_before (t : Fin cfg0.N) (h : ¬ t.val % 8 = 0) :
    (outsAt0 m c (t.val - 1) (Nat.lt_of_le_of_lt (Nat.sub_le _ _) t.isLt)).2 = fresh m c (base t) := by
  rw [kept]
  congr 1
  exact Fin.ext (by simp only [base]; omega)

/-- An array of the call read at natural numbers, nothing outside it. -/
def nat512 {α : Type} [Zero α] (f : S32x2048x512.Idx → α) (b j n : ℕ) : α :=
  if h : b < 32 ∧ j < 2048 ∧ n < 512 then f (ix3 ⟨b, h.1⟩ ⟨j, h.2.1⟩ ⟨n, h.2.2⟩) else 0
def nat8 {α : Type} [Zero α] (f : S32x2048x8.Idx → α) (b j n : ℕ) : α :=
  if h : b < 32 ∧ j < 2048 ∧ n < 8 then f (ix3 ⟨b, h.1⟩ ⟨j, h.2.1⟩ ⟨n, h.2.2⟩) else 0

theorem nat512_at {α : Type} [Zero α] (f : S32x2048x512.Idx → α) (b j n : ℕ) (hb : b < 32) (hj : j < 2048) (hn : n < 512) :
    nat512 f b j n = f (ix3 ⟨b, hb⟩ ⟨j, hj⟩ ⟨n, hn⟩) := dif_pos ⟨hb, hj, hn⟩
theorem nat8_at {α : Type} [Zero α] (f : S32x2048x8.Idx → α) (b j n : ℕ) (hb : b < 32) (hj : j < 2048) (hn : n < 8) :
    nat8 f b j n = f (ix3 ⟨b, hb⟩ ⟨j, hj⟩ ⟨n, hn⟩) := dif_pos ⟨hb, hj, hn⟩

/-- The decay summed up to key `j`. -/
def decay (lr : S32x2048x8.Idx → ℝ) (b h j : ℕ) : ℝ := ∑ t ∈ Finset.range (j + 1), nat8 lr b t h

variable {m c}
variable {qr kr : S32x2048x512.Idx → ℝ} {lr : S32x2048x8.Idx → ℝ}

/-- The real numbers held by the queries, keys and log forget values. -/
def Reals (m : (ℓ : Loc nD τ sig) → Buf (Elt Ideal) ℓ) (c : Dev nD) (qr kr : S32x2048x512.Idx → ℝ) (lr : S32x2048x8.Idx → ℝ) : Prop :=
  (∀ i, Aq m c i = ((qr i : ℝ) : EReal)) ∧ (∀ i, Ak m c i = ((kr i : ℝ) : EReal)) ∧ ∀ i, Al m c i = ((lr i : ℝ) : EReal)

theorem fresh_k (H : Reals m c qr kr lr) (t : Fin cfg0.N) (j : Fin 2048) (d : Fin 128) :
    (fresh m c t).1 (ix2 j d) = ((nat512 kr (t.val / 32) j.val (t.val / 8 % 4 * 128 + d.val) : ℝ) : EReal) := by
  have := lt t
  rw [nat512_at kr _ _ _ (by omega) j.isLt (by omega)]
  exact (kb_at m c t j d).trans ((k_block m c t j d).trans (H.2.1 _))

theorem fresh_v (t : Fin cfg0.N) (j : Fin 2048) (d : Fin 128) :
    (fresh m c t).2.1 (ix2 j d) = nat512 (α := EReal) (Av m c) (t.val / 32) j.val (t.val / 8 % 4 * 128 + d.val) := by
  have := lt t
  rw [nat512_at _ _ _ _ (by omega) j.isLt (by omega)]
  exact (vb_at m c t j d).trans (v_block m c t j d)

theorem fresh_l (H : Reals m c qr kr lr) (t : Fin cfg0.N) (h : Fin 8) (j : Fin 2048) :
    (fresh m c t).2.2 (ix2 h j) = ((decay lr (t.val / 32) h.val j.val : ℝ) : EReal) := by
  have := lt t
  refine (Scan.summed_at (iblk m c 3 t) (fun j => ((nat8 lr (t.val / 32) j h.val : ℝ) : EReal)) h (fun j => ?_) j).trans ?_
  · rw [nat8_at lr _ _ _ (by omega) j.isLt h.isLt]
    exact (l_block m c t h j).trans (H.2.2 _)
  · exact (coe_sum _ _).symm

/-- The keys, values and decays of batch entry `b` and pair `p`. -/
def keys (kr : S32x2048x512.Idx → ℝ) (b p j : ℕ) (d : Fin 128) : ℝ := nat512 kr b j (p * 128 + d.val)
def values (v : S32x2048x512.Idx → EReal) (b p : ℕ) (d : Fin 128) (j : ℕ) : EReal := nat512 v b j (p * 128 + d.val)
def query0 (qr : S32x2048x512.Idx → ℝ) (b p i : ℕ) (d : Fin 128) : ℝ := if d.val < 64 then nat512 qr b i (p * 128 + d.val) else 0
def query1 (qr : S32x2048x512.Idx → ℝ) (b p i : ℕ) (d : Fin 128) : ℝ := if 64 ≤ d.val then nat512 qr b i (p * 128 + d.val) else 0

theorem queries (H : Reals m c qr kr lr) (t : Fin cfg0.N) (r : Fin 256) :
    Queries (twice (iblk m c 0 t)) r (query0 qr (t.val / 32) (t.val / 8 % 4) (t.val % 8 * 256 + r.val))
      (query1 qr (t.val / 32) (t.val / 8 % 4) (t.val % 8 * 256 + r.val)) := by
  have := lt t
  have e : ∀ d : Fin 128, (iblk m c 0 t (ix3 0 r d) : EReal) = ((nat512 qr (t.val / 32) (t.val % 8 * 256 + r.val) (t.val / 8 % 4 * 128 + d.val) : ℝ) : EReal) := fun d => by
    rw [nat512_at qr _ _ _ (by omega) (by omega) (by omega)]
    exact (q_block m c t r d).trans (H.1 _)
  refine ⟨fun d => ?_, fun d => ?_⟩
  · refine (twice_first _ r d).trans ?_
    unfold query0
    split
    · exact e d
    · exact EReal.coe_zero.symm
  · refine (twice_second _ r d).trans ?_
    unfold query1
    split
    · exact e d
    · exact EReal.coe_zero.symm

theorem readsW (H : Reals m c qr kr lr) (t : Fin cfg0.N) (s : ℕ) (hs) (hs' : s + 512 ≤ 2048) (o0 o1 : Fin 2 → ℕ) (h0) (h1)
    (e0 : o0 = ![2 * (t.val / 8 % 4), s]) (e1 : o1 = ![2 * (t.val / 8 % 4) + 1, s]) :
    ReadsW (wideAt (fresh m c (base t)) s hs o0 o1 h0 h1) s (keys kr (t.val / 32) (t.val / 8 % 4)) (decay lr (t.val / 32) (2 * (t.val / 8 % 4)))
      (decay lr (t.val / 32) (2 * (t.val / 8 % 4) + 1)) (values (Av m c) (t.val / 32) (t.val / 8 % 4)) := by
  have a : (base t).val / 32 = t.val / 32 := by simp only [base]; omega
  have b : (base t).val / 8 % 4 = t.val / 8 % 4 := by simp only [base]; omega
  refine ⟨fun j d => ?_, fun j => ?_, fun j => ?_, fun j d => ?_⟩
  · refine (rowsW_at _ s hs j d (by omega)).trans ((fresh_k H (base t) _ d).trans ?_)
    rw [a, b]; rfl
  · refine (rowW_at _ o0 h0 (2 * (t.val / 8 % 4)) s (by omega) e0 j (by omega)).trans ((fresh_l H (base t) _ _).trans ?_)
    rw [a]
  · refine (rowW_at _ o1 h1 (2 * (t.val / 8 % 4) + 1) s (by omega) e1 j (by omega)).trans ((fresh_l H (base t) _ _).trans ?_)
    rw [a]
  · refine (rowsW_at _ s hs j d (by omega)).trans ((fresh_v (base t) _ d).trans ?_)
    rw [a, b]; rfl

theorem readsN (H : Reals m c qr kr lr) (t : Fin cfg0.N) (s : ℕ) (hs) (hs' : s + 256 ≤ 2048) (o0 o1 : Fin 2 → ℕ) (h0) (h1)
    (e0 : o0 = ![2 * (t.val / 8 % 4), s]) (e1 : o1 = ![2 * (t.val / 8 % 4) + 1, s]) :
    ReadsN (narrowAt (fresh m c (base t)) s hs o0 o1 h0 h1) s (keys kr (t.val / 32) (t.val / 8 % 4)) (decay lr (t.val / 32) (2 * (t.val / 8 % 4)))
      (decay lr (t.val / 32) (2 * (t.val / 8 % 4) + 1)) (values (Av m c) (t.val / 32) (t.val / 8 % 4)) := by
  have a : (base t).val / 32 = t.val / 32 := by simp only [base]; omega
  have b : (base t).val / 8 % 4 = t.val / 8 % 4 := by simp only [base]; omega
  refine ⟨fun j d => ?_, fun j => ?_, fun j => ?_, fun j d => ?_⟩
  · refine (rowsN_at _ s hs j d (by omega)).trans ((fresh_k H (base t) _ d).trans ?_)
    rw [a, b]; rfl
  · refine (rowN_at _ o0 h0 (2 * (t.val / 8 % 4)) s (by omega) e0 j (by omega)).trans ((fresh_l H (base t) _ _).trans ?_)
    rw [a]
  · refine (rowN_at _ o1 h1 (2 * (t.val / 8 % 4) + 1) s (by omega) e1 j (by omega)).trans ((fresh_l H (base t) _ _).trans ?_)
    rw [a]
  · refine (rowsN_at _ s hs j d (by omega)).trans ((fresh_v (base t) _ d).trans ?_)
    rw [a, b]; rfl

/-- A row of the result: batch entry `b`, pair `p`, query `i`, lane `d` of the pair's two heads. -/
def tileOut (qr kr : S32x2048x512.Idx → ℝ) (v : S32x2048x512.Idx → EReal) (lr : S32x2048x8.Idx → ℝ) (b p i : ℕ) (d : Fin 128) : EReal :=
  rowOut (query0 qr b p i) (query1 qr b p i) (keys kr b p) (decay lr b (2 * p)) (decay lr b (2 * p + 1)) (values v b p) i d

theorem out_at (H : Reals m c qr kr lr) (t : Fin cfg0.N) (r : Fin 256) (d : Fin 128) :
    (outsAt0 m c t.val t.isLt).1 (ix3 0 r d) = tileOut qr kr (Av m c) lr (t.val / 32) (t.val / 8 % 4) (t.val % 8 * 256 + r.val) d := by
  have hq := queries H t r
  have hp := (idx t).2.2.2.2.2
  have e0 : t.val % 8 = 0 → t.val / 8 * 8 = t.val := fun h => by omega
  rcases (by omega : t.val % 8 = 0 ∨ t.val % 8 = 1 ∨ t.val % 8 = 2 ∨ t.val % 8 = 3 ∨ t.val % 8 = 4 ∨ t.val % 8 = 5 ∨ t.val % 8 = 6 ∨ t.val % 8 = 7) with h | h | h | h | h | h | h | h
  · have hb : base t = t := Fin.ext (by simp only [base]; omega)
    rw [out_A m c t (by omega) (by omega) (by omega) (by omega) (by omega) (by omega) (by omega) (by omega) (by omega)]
    rw [show fresh m c t = fresh m c (base t) from by rw [hb]]
    refine (tile1_at hq (readsN H t 0 _ (by omega) _ _ _ _ ((k0_off1_eq (grid0.coords t) 0).trans (by rw [hp]; rfl)) ((k0_off1_eq (grid0.coords t) 1).trans (by rw [hp]; rfl))) d).trans ?_
    unfold tileOut
    rw [h]
  · rw [out_B m c t (by omega) (by omega) (by omega) (by omega) (by omega) (by omega) (by omega) (by omega) (by omega), kept_before m c t (by omega)]
    refine (tile2_at hq (readsW H t 0 _ (by omega) _ _ _ _ ((k0_off2_eq (grid0.coords t) 0).trans (by rw [hp]; rfl)) ((k0_off2_eq (grid0.coords t) 1).trans (by rw [hp]; rfl))) d).trans ?_
    unfold tileOut
    rw [h]
  · rw [out_C m c t (by omega) (by omega) (by omega) (by omega) (by omega) (by omega) (by omega) (by omega) (by omega), kept_before m c t (by omega)]
    refine (tile3_at hq (readsW H t 0 _ (by omega) _ _ _ _ ((k0_off3_eq (grid0.coords t) 0).trans (by rw [hp]; rfl)) ((k0_off3_eq (grid0.coords t) 1).trans (by rw [hp]; rfl))) (readsN H t 512 _ (by omega) _ _ _ _ ((k0_off4_eq (grid0.coords t) 0).trans (by rw [hp]; rfl)) ((k0_off4_eq (grid0.coords t) 1).trans (by rw [hp]; rfl))) d).trans ?_
    unfold tileOut
    rw [h]
  · rw [out_D m c t (by omega) (by omega) (by omega) (by omega) (by omega) (by omega) (by omega) (by omega) (by omega), kept_before m c t (by omega)]
    refine (tile4_at hq (readsW H t 0 _ (by omega) _ _ _ _ ((k0_off5_eq (grid0.coords t) 0).trans (by rw [hp]; rfl)) ((k0_off5_eq (grid0.coords t) 1).trans (by rw [hp]; rfl))) (readsW H t 512 _ (by omega) _ _ _ _ ((k0_off6_eq (grid0.coords t) 0).trans (by rw [hp]; rfl)) ((k0_off6_eq (grid0.coords t) 1).trans (by rw [hp]; rfl))) d).trans ?_
    unfold tileOut
    rw [h]
  · rw [out_E m c t (by omega) (by omega) (by omega) (by omega) (by omega) (by omega) (by omega) (by omega) (by omega), kept_before m c t (by omega)]
    refine (tile5_at hq (readsW H t 0 _ (by omega) _ _ _ _ ((k0_off7_eq (grid0.coords t) 0).trans (by rw [hp]; rfl)) ((k0_off7_eq (grid0.coords t) 1).trans (by rw [hp]; rfl))) (readsW H t 512 _ (by omega) _ _ _ _ ((k0_off8_eq (grid0.coords t) 0).trans (by rw [hp]; rfl)) ((k0_off8_eq (grid0.coords t) 1).trans (by rw [hp]; rfl))) (readsN H t 1024 _ (by omega) _ _ _ _ ((k0_off9_eq (grid0.coords t) 0).trans (by rw [hp]; rfl)) ((k0_off9_eq (grid0.coords t) 1).trans (by rw [hp]; rfl))) d).trans ?_
    unfold tileOut
    rw [h]
  · rw [out_F m c t (by omega) (by omega) (by omega) (by omega) (by omega) (by omega) (by omega) (by omega) (by omega), kept_before m c t (by omega)]
    refine (tile6_at hq (readsW H t 0 _ (by omega) _ _ _ _ ((k0_off10_eq (grid0.coords t) 0).trans (by rw [hp]; rfl)) ((k0_off10_eq (grid0.coords t) 1).trans (by rw [hp]; rfl))) (readsW H t 512 _ (by omega) _ _ _ _ ((k0_off11_eq (grid0.coords t) 0).trans (by rw [hp]; rfl)) ((k0_off11_eq (grid0.coords t) 1).trans (by rw [hp]; rfl))) (readsW H t 1024 _ (by omega) _ _ _ _ ((k0_off12_eq (grid0.coords t) 0).trans (by rw [hp]; rfl)) ((k0_off12_eq (grid0.coords t) 1).trans (by rw [hp]; rfl))) d).trans ?_
    unfold tileOut
    rw [h]
  · rw [out_G m c t (by omega) (by omega) (by omega) (by omega) (by omega) (by omega) (by omega) (by omega) (by omega), kept_before m c t (by omega)]
    refine (tile7_at hq (readsW H t 0 _ (by omega) _ _ _ _ ((k0_off13_eq (grid0.coords t) 0).trans (by rw [hp]; rfl)) ((k0_off13_eq (grid0.coords t) 1).trans (by rw [hp]; rfl))) (readsW H t 512 _ (by omega) _ _ _ _ ((k0_off14_eq (grid0.coords t) 0).trans (by rw [hp]; rfl)) ((k0_off14_eq (grid0.coords t) 1).trans (by rw [hp]; rfl))) (readsW H t 1024 _ (by omega) _ _ _ _ ((k0_off15_eq (grid0.coords t) 0).trans (by rw [hp]; rfl)) ((k0_off15_eq (grid0.coords t) 1).trans (by rw [hp]; rfl))) (readsN H t 1536 _ (by omega) _ _ _ _ ((k0_off16_eq (grid0.coords t) 0).trans (by rw [hp]; rfl)) ((k0_off16_eq (grid0.coords t) 1).trans (by rw [hp]; rfl))) d).trans ?_
    unfold tileOut
    rw [h]
  · rw [out_H m c t (by omega) (by omega) (by omega) (by omega) (by omega) (by omega) (by omega) (by omega) (by omega), kept_before m c t (by omega)]
    refine (tile8_at hq (readsW H t 0 _ (by omega) _ _ _ _ ((k0_off17_eq (grid0.coords t) 0).trans (by rw [hp]; rfl)) ((k0_off17_eq (grid0.coords t) 1).trans (by rw [hp]; rfl))) (readsW H t 512 _ (by omega) _ _ _ _ ((k0_off18_eq (grid0.coords t) 0).trans (by rw [hp]; rfl)) ((k0_off18_eq (grid0.coords t) 1).trans (by rw [hp]; rfl))) (readsW H t 1024 _ (by omega) _ _ _ _ ((k0_off19_eq (grid0.coords t) 0).trans (by rw [hp]; rfl)) ((k0_off19_eq (grid0.coords t) 1).trans (by rw [hp]; rfl))) (readsW H t 1536 _ (by omega) _ _ _ _ ((k0_off20_eq (grid0.coords t) 0).trans (by rw [hp]; rfl)) ((k0_off20_eq (grid0.coords t) 1).trans (by rw [hp]; rfl))) d).trans ?_
    unfold tileOut
    rw [h]

end Cert.State

end
-- ==== Proof.Output.lean ====
/- The call's result as one array: at batch entry `b`, query `i` and lane `n` the attention of head `n / 64`. -/
module

public import proofs.«01_k».proof.Proof.State

@[expose] public section

set_option maxRecDepth 16384

noncomputable section

namespace Cert.Output
open Cert.KernelIdeal Cert.KernelIdeal.Gen Idealize.ShloMosaic Idealize.ShloMosaic.TcCoe Idealize.SL.Sem Cert.Tile Cert.Points Cert.Cases Cert.Softmax Cert.State

/-- The product of query `i` and key `j` in head `h`. -/
def dot (qr kr : S32x2048x512.Idx → ℝ) (b h i j : ℕ) : ℝ := ∑ k : Fin 64, nat512 qr b i (h * 64 + k.val) * nat512 kr b j (h * 64 + k.val)

/-- One entry of the result. -/
def entry (qr kr : S32x2048x512.Idx → ℝ) (v : S32x2048x512.Idx → EReal) (lr : S32x2048x8.Idx → ℝ) (b i n : ℕ) : EReal :=
  attn (fun j => dot qr kr b (n / 64) i j - decay lr b (n / 64) j) i (fun j => nat512 v b j n) 2048

theorem dot0 (qr kr : S32x2048x512.Idx → ℝ) (b p i j : ℕ) : (∑ d : Fin 128, query0 qr b p i d * keys kr b p j d) = dot qr kr b (2 * p) i j := by
  refine (Fin.sum_univ_add (a := 64) (b := 64) fun d : Fin (64 + 64) => query0 qr b p i d * keys kr b p j d).trans ?_
  have z : (∑ k : Fin 64, query0 qr b p i (Fin.natAdd 64 k) * keys kr b p j (Fin.natAdd 64 k)) = 0 := by
    refine Finset.sum_eq_zero fun k _ => ?_
    unfold query0
    rw [if_neg (by simp [Fin.natAdd]), zero_mul]
  rw [z, add_zero]
  refine Finset.sum_congr rfl fun k _ => ?_
  unfold query0 keys
  rw [if_pos (by simp [Fin.castAdd])]
  have e : p * 128 + (Fin.castAdd 64 k).val = 2 * p * 64 + k.val := by simp [Fin.castAdd]; omega
  rw [e]

theorem dot1 (qr kr : S32x2048x512.Idx → ℝ) (b p i j : ℕ) : (∑ d : Fin 128, query1 qr b p i d * keys kr b p j d) = dot qr kr b (2 * p + 1) i j := by
  refine (Fin.sum_univ_add (a := 64) (b := 64) fun d : Fin (64 + 64) => query1 qr b p i d * keys kr b p j d).trans ?_
  have z : (∑ k : Fin 64, query1 qr b p i (Fin.castAdd 64 k) * keys kr b p j (Fin.castAdd 64 k)) = 0 := by
    refine Finset.sum_eq_zero fun k _ => ?_
    unfold query1
    rw [if_neg (by simp [Fin.castAdd]), zero_mul]
  rw [z, zero_add]
  refine Finset.sum_congr rfl fun k _ => ?_
  unfold query1 keys
  rw [if_pos (by simp [Fin.natAdd])]
  have e : p * 128 + (Fin.natAdd 64 k).val = (2 * p + 1) * 64 + k.val := by simp [Fin.natAdd]; omega
  rw [e]

theorem tile_entry (qr kr : S32x2048x512.Idx → ℝ) (v : S32x2048x512.Idx → EReal) (lr : S32x2048x8.Idx → ℝ) (b p i : ℕ) (d : Fin 128) :
    tileOut qr kr v lr b p i d = entry qr kr v lr b i (p * 128 + d.val) := by
  unfold tileOut rowOut entry
  split
  · have e : (p * 128 + d.val) / 64 = 2 * p := by omega
    rw [e]
    congr 1
    funext j
    unfold score
    rw [dot0]
  · have e : (p * 128 + d.val) / 64 = 2 * p + 1 := by omega
    rw [e]
    congr 1
    funext j
    unfold score
    rw [dot1]

/-- The result's array. -/
def out (qr kr : S32x2048x512.Idx → ℝ) (v : S32x2048x512.Idx → EReal) (lr : S32x2048x8.Idx → ℝ) : Vec Ideal S32x2048x512 .bf16 :=
  fun y => entry qr kr v lr (y 0).val (y 1).val (y 2).val

variable {m : (ℓ : Loc nD τ sig) → Buf (Elt Ideal) ℓ} {c : Dev nD}
variable {qr kr : S32x2048x512.Idx → ℝ} {lr : S32x2048x8.Idx → ℝ}

theorem array (H : Reals m c qr kr lr) : (dats m 0 c).arrAt 4 cfg0.N = out qr kr (Av m c) lr := by
  refine (dats m 0 c).arrAt_eq_of_covers 4 _ covers fun t hf y => ?_
  blk_simp
  rw [after0_4]
  have key : ∀ y : S1x256x128.Idx, (outsAt0 m c t.val t.isLt).1 y
      = entry qr kr (Av m c) lr (t.val / 32) (t.val % 8 * 256 + (y 1).val) (t.val / 8 % 4 * 128 + (y 2).val) := fun y => by
    have hy : y = ix3 0 (y 1) (y 2) := by
      funext a
      fin_cases a
      · exact Subsingleton.elim (α := Fin 1) _ _
      · rfl
      · rfl
    rw [hy]
    exact (out_at H t (y 1) (y 2)).trans (tile_entry _ _ _ _ _ _ _ _)
  refine (key y).trans ?_
  unfold out
  blk_simp [idx t]
end Cert.Output

end
-- ==== Proof.Reference.lean ====
/- The reference's result, read entry by entry: the attention of each head, its decays' differences added to the scores. -/
module

public import proofs.«01_k».proof.Proof.Gen.ReferenceIdeal.Read
public import proofs.«01_k».proof.Proof.Output

@[expose] public section

set_option maxRecDepth 16384

noncomputable section

namespace Cert.Reference
open Cert.ReferenceIdeal Cert.ReferenceIdeal.Gen Cert.ReferenceIdeal.Read Idealize.ShloMosaic Idealize.ShloMosaic.TcCoe Idealize.SL.Sem Cert.Softmax
open Cert.State (nat512 nat8 decay nat512_at nat8_at)
open Cert.Output (dot entry)

/-! ## The running sum -/

theorem fold_add {α : Type} (l : List α) (g : α → EReal) (a : EReal) : l.foldl (fun r n => r + g n) a = a + (l.map g).sum := by
  induction l generalizing a with
  | nil => simp
  | cons x l ih => rw [List.foldl_cons, ih, List.map_cons, List.sum_cons, add_assoc]

theorem window_sum (f : ℕ → EReal) (j : ℕ) (hj : j < 2048) :
    (∑ n ∈ Finset.range 2048, if 2047 ≤ j + n then f (j + n - 2047) else 0) = ∑ t ∈ Finset.range (j + 1), f t := by
  have e : 2048 = (2047 - j) + (j + 1) := by omega
  have e' : Finset.range 2048 = Finset.range ((2047 - j) + (j + 1)) := congrArg _ e
  rw [e', Finset.sum_range_add, Finset.sum_eq_zero fun n hn => if_neg (by have := Finset.mem_range.mp hn; omega), zero_add]
  exact Finset.sum_congr rfl fun n hn => by
    rw [if_pos (by omega)]
    congr 1
    have := Finset.mem_range.mp hn
    omega

abbrev Win : Shape := ⟨3, ![1, 2048, 1]⟩

theorem win_at (n : Fin Win.numel) : (Win.rowMajor.symm n 0).val = 0 ∧ (Win.rowMajor.symm n 1).val = n.val ∧ (Win.rowMajor.symm n 2).val = 0 := by
  have h := Shape.rowMajor_val_three (Win.rowMajor.symm n)
  rw [Equiv.apply_symm_apply] at h
  have h0 : (Win.rowMajor.symm n 0).val < 1 := (Win.rowMajor.symm n 0).isLt
  have h2 : (Win.rowMajor.symm n 2).val < 1 := (Win.rowMajor.symm n 2).isLt
  refine ⟨by omega, ?_, by omega⟩
  have h' : n.val = ((Win.rowMajor.symm n 0).val * 2048 + (Win.rowMajor.symm n 1).val) * 1 + (Win.rowMajor.symm n 2).val := h
  omega

theorem scan_at (x3 : FVec Ideal S32x2048x8 .f32) (b : Fin 32) (h : Fin 8) (f : ℕ → EReal) (hf : ∀ t : Fin 2048, x3 (ix3 b t h) = f t.val) (j : Fin 2048) :
    val_main_v4 (F := Ideal) x3 (ix3 b j h) = ∑ t ∈ Finset.range (j.val + 1), f t := by
  unfold val_main_v4 Host.reduceWindowAdd
  rw [Ideal.hostReduceWindowAdd_def]
  have h0 : (val_main_call0_call0_v0 (F := Ideal)) (Shape.Idx.first h_S_) = (0 : EReal) := by
    unfold val_main_call0_call0_v0 val_main_call0_call0_cst
    pointwise []
  rw [h0]
  unfold Ideal.hostReduceWindowAdd Host.reduceWindow
  refine (fold_add _ _ _).trans ?_
  rw [zero_add, ← window_sum f j.val j.isLt, ← Fin.sum_univ_eq_sum_range (fun n => if 2047 ≤ j.val + n then f (j.val + n - 2047) else 0) 2048]
  refine (Fin.sum_univ_def _).symm.trans ?_
  have hN : Win.numel = 2048 := by decide
  refine Fintype.sum_equiv (finCongr hN) _ _ fun n => ?_
  obtain ⟨w0, w1, w2⟩ := win_at n
  have hn : n.val < 2048 := lt_of_lt_of_eq n.isLt hN
  show _ = if 2047 ≤ j.val + n.val then f (j.val + n.val - 2047) else 0
  dsimp only
  split
  · next hin =>
    have a1 : 2047 ≤ j.val * 1 + (Win.rowMajor.symm n 1).val ∧ _ := hin 1
    rw [w1] at a1
    rw [if_pos (by omega)]
    refine (congrArg x3 (funext fun a => Fin.ext ?_)).trans (hf ⟨j.val + n.val - 2047, by have := j.isLt; omega⟩)
    match a with
    | ⟨0, _⟩ =>
      show b.val * 1 + (Win.rowMajor.symm n 0).val - 0 = b.val
      omega
    | ⟨1, _⟩ =>
      show j.val * 1 + (Win.rowMajor.symm n 1).val - 2047 = j.val + n.val - 2047
      omega
    | ⟨2, _⟩ =>
      show h.val * 1 + (Win.rowMajor.symm n 2).val - 0 = h.val
      omega
  · next hin =>
    rw [if_neg fun hle => hin fun a => by
      match a with
      | ⟨0, _⟩ =>
        show 0 ≤ b.val * 1 + (Win.rowMajor.symm n 0).val ∧ b.val * 1 + (Win.rowMajor.symm n 0).val - 0 < 32
        have := b.isLt
        omega
      | ⟨1, _⟩ =>
        show 2047 ≤ j.val * 1 + (Win.rowMajor.symm n 1).val ∧ j.val * 1 + (Win.rowMajor.symm n 1).val - 2047 < 2048
        have := j.isLt
        omega
      | ⟨2, _⟩ =>
        show 0 ≤ h.val * 1 + (Win.rowMajor.symm n 2).val ∧ h.val * 1 + (Win.rowMajor.symm n 2).val - 0 < 8
        have := h.isLt
        omega]

theorem max_at (x0 : FVec Ideal S32x2048x512 .bf16) (x1 : FVec Ideal S32x2048x512 .f32) (x3 : FVec Ideal S32x2048x8 .f32) (b : Fin 32) (h : Fin 8) (i : Fin 2048) :
    val_main_v20 (F := Ideal) x0 x1 x3 (ix3 b h i) = Finset.univ.fold max (⊥ : EReal) fun k : Fin 2048 => val_main_v19 (F := Ideal) x0 x1 x3 (ix4 b h i k) := by
  unfold val_main_v20 val_main_cst_0
  generalize val_main_v19 (F := Ideal) x0 x1 x3 = y
  pointwise []
  rw [Tile.lowest]

/-! ## The scores -/

variable (x0 : FVec Ideal S32x2048x512 .bf16) (x1 x2 : FVec Ideal S32x2048x512 .f32) (x3 : FVec Ideal S32x2048x8 .f32)

theorem sum_i (b : Fin 32) (h : Fin 8) (i k : Fin 2048) : val_main_v9 (F := Ideal) x3 (ix4 b h i k) = val_main_v4 (F := Ideal) x3 (ix3 b i h) := by
  rw [val_main_v9_apply, val_main_v8_apply, val_main_v5_apply]
  exact congrArg _ (funext fun a => match a with | ⟨0, _⟩ => rfl | ⟨1, _⟩ => rfl | ⟨2, _⟩ => rfl)

theorem sum_k (b : Fin 32) (h : Fin 8) (i k : Fin 2048) : val_main_v12 (F := Ideal) x3 (ix4 b h i k) = val_main_v4 (F := Ideal) x3 (ix3 b k h) := by
  rw [val_main_v12_apply, val_main_v11_apply, val_main_v5_apply]
  exact congrArg _ (funext fun a => match a with | ⟨0, _⟩ => rfl | ⟨1, _⟩ => rfl | ⟨2, _⟩ => rfl)

theorem head (h : Fin 8) (d : Fin 64) : h.val * 64 + d.val < 512 := by have := h.isLt; have := d.isLt; omega

theorem split1 (b : Fin 32) (j : Fin 2048) (h : Fin 8) (d : Fin 64) : idx_main_v1 (ix4 b j h d) = ix3 b j ⟨h.val * 64 + d.val, head h d⟩ := by
  have := b.isLt
  have := j.isLt
  have := h.isLt
  have := d.isLt
  refine funext fun a => Fin.ext ?_
  match a with
  | ⟨0, _⟩ => show (((b.val * 2048 + j.val) * 8 + h.val) * 64 + d.val) / 1048576 = b.val; omega
  | ⟨1, _⟩ => show (((b.val * 2048 + j.val) * 8 + h.val) * 64 + d.val) / 512 % 2048 = j.val; omega
  | ⟨2, _⟩ => show (((b.val * 2048 + j.val) * 8 + h.val) * 64 + d.val) % 512 = h.val * 64 + d.val; omega

theorem query_at (b : Fin 32) (j : Fin 2048) (h : Fin 8) (d : Fin 64) :
    val_main_v1 (F := Ideal) x0 (ix4 b j h d) = x0 (ix3 b j ⟨h.val * 64 + d.val, head h d⟩) := by
  rw [val_main_v1_apply, val_main_v0_apply, split1]
  rfl
theorem key_at (b : Fin 32) (j : Fin 2048) (h : Fin 8) (d : Fin 64) :
    val_main_v2 (F := Ideal) x1 (ix4 b j h d) = x1 (ix3 b j ⟨h.val * 64 + d.val, head h d⟩) := by
  rw [val_main_v2_apply]
  exact congrArg x1 (split1 b j h d)
theorem value_at (b : Fin 32) (j : Fin 2048) (h : Fin 8) (d : Fin 64) :
    val_main_v3 (F := Ideal) x2 (ix4 b j h d) = x2 (ix3 b j ⟨h.val * 64 + d.val, head h d⟩) := by
  rw [val_main_v3_apply]
  exact congrArg x2 (split1 b j h d)

variable {x0 x1 x3} {qr kr : S32x2048x512.Idx → ℝ} {lr : S32x2048x8.Idx → ℝ}

theorem dot_at (hq : ∀ i, x0 i = ((qr i : ℝ) : EReal)) (hk : ∀ i, x1 i = ((kr i : ℝ) : EReal)) (b : Fin 32) (h : Fin 8) (i k : Fin 2048) :
    val_main_v7 (F := Ideal) x0 x1 (ix4 b h i k) = ((dot qr kr b.val h.val i.val k.val : ℝ) : EReal) := by
  rw [val_main_v7_apply]
  unfold dot
  rw [coe_sum]
  refine Finset.sum_congr rfl fun d _ => ?_
  rw [show lidx_main_v7 (ix4 b h i k) d = ix4 b i h d from funext fun a => match a with | ⟨0, _⟩ => rfl | ⟨1, _⟩ => rfl | ⟨2, _⟩ => rfl | ⟨3, _⟩ => rfl,
    show ridx_main_v7 (ix4 b h i k) d = ix4 b k h d from funext fun a => match a with | ⟨0, _⟩ => rfl | ⟨1, _⟩ => rfl | ⟨2, _⟩ => rfl | ⟨3, _⟩ => rfl,
    query_at, key_at, hq, hk, nat512_at qr _ _ _ b.isLt i.isLt (head h d), nat512_at kr _ _ _ b.isLt k.isLt (head h d), EReal.coe_mul]

theorem decay_at (hl : ∀ i, x3 i = ((lr i : ℝ) : EReal)) (b : Fin 32) (h : Fin 8) (j : Fin 2048) :
    val_main_v4 (F := Ideal) x3 (ix3 b j h) = ((decay lr b.val h.val j.val : ℝ) : EReal) := by
  rw [scan_at x3 b h (fun t => ((nat8 lr b.val t h.val : ℝ) : EReal)) (fun t => by rw [hl, nat8_at lr _ _ _ b.isLt t.isLt h.isLt]) j]
  exact (coe_sum _ _).symm

/-- The score of key `j` for query `i`. -/
def lifted (qr kr : S32x2048x512.Idx → ℝ) (lr : S32x2048x8.Idx → ℝ) (b h i j : ℕ) : ℝ := (dot qr kr b h i j - decay lr b h j) + decay lr b h i

theorem score_at (hq : ∀ i, x0 i = ((qr i : ℝ) : EReal)) (hk : ∀ i, x1 i = ((kr i : ℝ) : EReal)) (hl : ∀ i, x3 i = ((lr i : ℝ) : EReal))
    (b : Fin 32) (h : Fin 8) (i k : Fin 2048) : val_main_v19 (F := Ideal) x0 x1 x3 (ix4 b h i k) = sc (lifted qr kr lr b.val h.val i.val) i.val k.val := by
  rw [val_main_v19_apply, val_main_call1_v1_apply, val_main_v18_apply, val_main_v16_apply, val_main_v14_apply, val_main_v6_apply, val_main_v17_apply,
    val_main_v15_apply, val_main_v6_apply, val_main_v13_apply, val_main_v10_apply, sum_i, sum_k, dot_at hq hk, decay_at hl, decay_at hl, val_main_call1_v2_apply]
  refine (Tile.pick_le (a := k.val) (b := i.val) (by have := k.isLt; omega) (by have := i.isLt; omega) _ _).trans ?_
  unfold sc
  refine if_congr Iff.rfl ?_ Tile.lowest
  show ((_ : EReal) + _) - _ = _
  rw [← EReal.coe_add, ← EReal.coe_sub]
  congr 1
  unfold lifted
  ring

theorem shift_attn (x : ℕ → ℝ) (c : ℝ) (i : ℕ) (v : ℕ → EReal) (n : ℕ) (hn : 0 < n) : attn (fun j => x j + c) i v n = attn x i v n := by
  rw [← attn_level x i v n hn (0 - c)]
  unfold attn
  simp only [wt_shift]

theorem prob_at (b : Fin 32) (h : Fin 8) (i k : Fin 2048) (s : Fin 2048 → EReal) (hs : ∀ k, val_main_v19 (F := Ideal) x0 x1 x3 (ix4 b h i k) = s k) :
    val_main_v30 (F := Ideal) x0 x1 x3 (ix4 b h i k)
      = Ideal.div (Ideal.exp (s k - Finset.univ.fold max (⊥ : EReal) s)) (∑ k : Fin 2048, Ideal.exp (s k - Finset.univ.fold max (⊥ : EReal) s)) := by
  have hm : ∀ k, val_main_v24 (F := Ideal) x0 x1 x3 (ix4 b h i k) = Finset.univ.fold max (⊥ : EReal) s := fun k => by
    rw [val_main_v24_apply, val_main_v23_apply, val_main_v22_apply, val_main_v21_apply]
    rw [show idx_main_v23 (idx_main_v24 (ix4 b h i k)) = ix3 b h i from funext fun a => match a with | ⟨0, _⟩ => rfl | ⟨1, _⟩ => rfl | ⟨2, _⟩ => rfl,
      max_at, show (fun k => val_main_v19 (F := Ideal) x0 x1 x3 (ix4 b h i k)) = s from funext hs]
    refine (congrArg (fun z : EReal => max z _) Tile.lowest).trans ?_
    exact max_eq_right bot_le
  have he : ∀ k, val_main_v26 (F := Ideal) x0 x1 x3 (ix4 b h i k) = Ideal.exp (s k - Finset.univ.fold max (⊥ : EReal) s) := fun k => by
    rw [val_main_v26_apply, val_main_v25_apply, hm, hs]
    rfl
  rw [val_main_v30_apply, he, val_main_v29_apply, val_main_v28_apply, val_main_v27_apply]
  refine congrArg (Ideal.div _) ?_
  have h0 : (val_main_cst_2 (F := Ideal)) (Shape.Idx.first h_S_) = (0 : EReal) := by
    unfold val_main_cst_2
    pointwise []
  rw [h0, zero_add]
  refine Finset.sum_congr rfl fun k _ => ?_
  rw [← he k]
  exact congrArg _ (funext fun a => match a with | ⟨0, _⟩ => rfl | ⟨1, _⟩ => rfl | ⟨2, _⟩ => rfl | ⟨3, _⟩ => rfl)

theorem result (hq : ∀ i, x0 i = ((qr i : ℝ) : EReal)) (hk : ∀ i, x1 i = ((kr i : ℝ) : EReal)) (hl : ∀ i, x3 i = ((lr i : ℝ) : EReal)) :
    val_main_v34 (F := Ideal) x0 x1 x2 x3 = Output.out qr kr x2 lr := by
  funext y
  have hb : (y 0).val < 32 := (y 0).isLt
  have hi : (y 1).val < 2048 := (y 1).isLt
  have hn : (y 2).val < 512 := (y 2).isLt
  have hh : (y 2).val / 64 < 8 := by omega
  have hd : (y 2).val % 64 < 64 := by omega
  rw [val_main_v34_apply]
  show val_main_v33 (F := Ideal) x0 x1 x2 x3 y = _
  rw [val_main_v33_apply, val_main_v32_apply, show idx_main_v32 (idx_main_v33 y) = ix4 (⟨(y 0).val, hb⟩ : Fin 32) (⟨(y 2).val / 64, hh⟩ : Fin 8) (⟨(y 2).val % 64, hd⟩ : Fin 64) (⟨(y 1).val, hi⟩ : Fin 2048) from by
    refine funext fun a => Fin.ext ?_
    match a with
    | ⟨0, _⟩ => show (((y 0).val * 2048 + (y 1).val) * 512 + (y 2).val) / 1048576 = (y 0).val; omega
    | ⟨1, _⟩ => show (((y 0).val * 2048 + (y 1).val) * 512 + (y 2).val) / 64 % 8 = (y 2).val / 64; omega
    | ⟨2, _⟩ => show (((y 0).val * 2048 + (y 1).val) * 512 + (y 2).val) % 64 = (y 2).val % 64; omega
    | ⟨3, _⟩ => show (((y 0).val * 2048 + (y 1).val) * 512 + (y 2).val) / 512 % 2048 = (y 1).val; omega]
  rw [val_main_v31_apply]
  unfold Output.out entry
  rw [← shift_attn _ (decay lr (y 0).val ((y 2).val / 64) (y 1).val) _ _ _ (by norm_num)]
  refine Eq.trans ?_ (softmax_attn (n := 2048) (by norm_num) (lifted qr kr lr (y 0).val ((y 2).val / 64) (y 1).val) (y 1).val (fun j => nat512 x2 (y 0).val j (y 2).val)
    (fun k => sc (lifted qr kr lr (y 0).val ((y 2).val / 64) (y 1).val) (y 1).val k.val) fun _ => rfl)
  refine Finset.sum_congr rfl fun k _ => ?_
  refine congrArg₂ (fun a b : EReal => a * b) ?_ ?_
  · refine Eq.trans ?_ (nat512_at x2 _ _ _ hb k.isLt hn).symm
    refine Eq.trans ?_ ((value_at x2 ⟨(y 0).val, hb⟩ k ⟨(y 2).val / 64, hh⟩ ⟨(y 2).val % 64, hd⟩).trans (congrArg (fun n => x2 (ix3 ⟨(y 0).val, hb⟩ k n)) (Fin.ext (by show (y 2).val / 64 * 64 + (y 2).val % 64 = (y 2).val; omega))))
    exact congrArg _ (funext fun a => match a with | ⟨0, _⟩ => rfl | ⟨1, _⟩ => rfl | ⟨2, _⟩ => rfl | ⟨3, _⟩ => rfl)
  · refine Eq.trans ?_ (prob_at ⟨(y 0).val, hb⟩ ⟨(y 2).val / 64, hh⟩ ⟨(y 1).val, hi⟩ k (fun k => sc (lifted qr kr lr (y 0).val ((y 2).val / 64) (y 1).val) (y 1).val k.val)
      fun k => score_at hq hk hl ⟨(y 0).val, hb⟩ ⟨(y 2).val / 64, hh⟩ ⟨(y 1).val, hi⟩ k)
    exact congrArg _ (funext fun a => match a with | ⟨0, _⟩ => rfl | ⟨1, _⟩ => rfl | ⟨2, _⟩ => rfl | ⟨3, _⟩ => rfl)

end Cert.Reference

end
-- ==== Proof.ProjPoints.lean ====
/- Where the blocks of the input projection lie: point `t` has rows `512 * t` to `512 * t + 511`. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.Proj
open Cert.Kernel2Ideal Cert.Kernel2Ideal.Gen Idealize.ShloMosaic Idealize.ShloMosaic.TcCoe Idealize.SL.Sem

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

theorem points : cfg0.N = 128 := N_0

theorem covers12 : (cfg0.win 12).Covers := by decide +kernel
theorem covers13 : (cfg0.win 13).Covers := by decide +kernel
theorem covers14 : (cfg0.win 14).Covers := by decide +kernel
theorem covers15 : (cfg0.win 15).Covers := by decide +kernel
theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel

variable (m : (ℓ : Loc nD τ sig) → Buf (Elt Ideal) ℓ) (c : Dev nD)

/-- The call's arguments. -/
abbrev A0 : FVec Ideal S32x2048x1024 .f32 := m ((c : Thread nD τ).loc main_arg0)
abbrev A1 : FVec Ideal S1024 .f32 := m ((c : Thread nD τ).loc main_arg1)
abbrev A2 : FVec Ideal S1024x5128 .f32 := m ((c : Thread nD τ).loc main_arg2)
abbrev A3 : FVec Ideal S8 .f32 := m ((c : Thread nD τ).loc main_arg3)
abbrev A4 : FVec Ideal S64 .f32 := m ((c : Thread nD τ).loc main_arg4)
abbrev A5 : FVec Ideal S64 .f32 := m ((c : Thread nD τ).loc main_arg5)
abbrev A6 : FVec Ideal S64 .f32 := m ((c : Thread nD τ).loc main_arg6)
abbrev A7 : FVec Ideal S64 .f32 := m ((c : Thread nD τ).loc main_arg7)

end Cert.Proj

end
-- ==== Proof.Heads.lean ====
/- Facts of arithmetic, away from any program: the head of a lane as the host computes it, the mean over one head's lanes
   taken by a product with the averaging matrix over all the lanes, and the logarithm of the logistic written in two ways. -/
module

public import proofs.«01_k».proof.Proof.Softmax

@[expose] public section

noncomputable section

namespace Cert.Heads

open Idealize.ShloMosaic

/-- The head of a lane, as the host's words compute it. -/
theorem head_word : ∀ k : Fin 512,
    Scalar.select
      (IntOp.andi
        (IntOp.cmpi CmpIPredicate.ne
          (if BitVec.ofNat 32 k.val = 0 then (0 : BitVec 32) else if (BitVec.ofNat 32 k.val).msb = true then -1 else 1)
          (if 64#32 = 0 then (0 : BitVec 32) else if (64#32).msb = true then -1 else 1))
        (IntOp.cmpi CmpIPredicate.ne (IntOp.remsi ArithUnit.host (BitVec.ofNat 32 k.val) 64#32) 0#32))
      (IntOp.subi (IntOp.divsi ArithUnit.host (BitVec.ofNat 32 k.val) 64#32) 1#32)
      (IntOp.divsi ArithUnit.host (BitVec.ofNat 32 k.val) 64#32) = BitVec.ofNat 32 (k.val / 64) := by
  decide +kernel

/-- Words below the modulus are equal when their numbers are. -/
theorem head_eq : ∀ a b : Fin 8, IntOp.cmpi CmpIPredicate.eq (BitVec.ofNat 32 a.val) (BitVec.ofNat 32 b.val)
    = if a.val = b.val then 1#1 else 0#1 := by
  decide +kernel

/-- The word of the weight is one over sixty-four. -/
theorem weight_word : Ideal.ofBits FTy.f32 1015021568#32 = ((1 / 64 : ℝ) : EReal) := by
  simp [Ideal.ofBits, Ideal.ieee]
  rw [← EReal.coe_mul]
  norm_num

/-- The word of the number of a head's lanes. -/
theorem lanes_word : Ideal.ofBits FTy.f32 1115684864#32 = ((64 : ℝ) : EReal) := by
  simp [Ideal.ofBits, Ideal.ieee]
  rw [← EReal.coe_mul]
  norm_num

/-- A sum over all lanes, head by head. -/
theorem sum_lanes (f : Fin 512 → EReal) :
    ∑ x, f x = ∑ h : Fin 8, ∑ d : Fin 64, f ⟨h.val * 64 + d.val, by omega⟩ := by
  rw [← Fintype.sum_prod_type']
  refine (Fintype.sum_equiv (finProdFinEquiv (m := 8) (n := 64)) _ _ fun x => ?_).symm
  congr 1
  apply Fin.ext
  simp [finProdFinEquiv]
  omega

/-- The squares of one head's lanes against the averaging matrix give their mean. -/
theorem mean_lanes (z : Fin 512 → EReal) (q : Fin 512) :
    ∑ x, z x * z x * (if x.val / 64 = q.val / 64 then ((1 / 64 : ℝ) : EReal) else 0)
      = Ideal.div (∑ d : Fin 64, z ⟨q.val / 64 * 64 + d.val, by omega⟩ * z ⟨q.val / 64 * 64 + d.val, by omega⟩)
          (Ideal.ofBits FTy.f32 1115684864#32) := by
  rw [lanes_word, Softmax.div_real (by norm_num), Softmax.coe_mul_sum _ _ (by norm_num), sum_lanes]
  rw [Finset.sum_eq_single (⟨q.val / 64, by omega⟩ : Fin 8)]
  · refine Finset.sum_congr rfl fun d _ => ?_
    rw [if_pos (by simp only; omega), mul_comm, one_div]
  · intro h _ hne
    refine Finset.sum_eq_zero fun d _ => ?_
    rw [if_neg, mul_zero]
    intro e
    apply hne
    apply Fin.ext
    simp only at e ⊢
    omega
  · intro h
    exact absurd (Finset.mem_univ _) h

/-- The logarithm of one plus an exponential is not `⊥`. -/
theorem log1p_exp_ne_bot (x : EReal) : Ideal.log1p (Ideal.exp x) ≠ ⊥ := by
  unfold Ideal.log1p
  induction x using EReal.rec with
  | bot =>
    rw [show Ideal.exp ⊥ = 0 from rfl, add_zero, show (1 : EReal) = ((1 : ℝ) : EReal) from rfl, Ideal.log_coe,
      if_neg (by norm_num)]
    exact EReal.coe_ne_bot _
  | top =>
    rw [show Ideal.exp ⊤ = ⊤ from rfl, EReal.add_top_of_ne_bot (by exact EReal.coe_ne_bot 1), Ideal.log_top]
    exact top_ne_bot
  | coe r =>
    have h : (1 : EReal) + ((Real.exp r : ℝ) : EReal) = ((1 + Real.exp r : ℝ) : EReal) := by push_cast; rfl
    have hp : ¬ (1 + Real.exp r ≤ 0) := by have := Real.exp_pos r; linarith
    rw [show Ideal.exp (r : EReal) = ((Real.exp r : ℝ) : EReal) from rfl, h, Ideal.log_coe, if_neg hp]
    exact EReal.coe_ne_bot _

/-- The logarithm of the logistic, by the lesser of a number and zero and by the greater of its negative and zero. -/
theorem log_logistic (z : EReal) :
    min z 0 - Ideal.log1p (Ideal.exp (-(FloatOps.absf (F := Ideal) (φ := .f32) z)))
      = -(if -z ≠ -z then -z else max (-z) 0 + Ideal.log1p (Ideal.exp (-(FloatOps.absf (F := Ideal) (φ := .f32) (-z))))) := by
  have ha : FloatOps.absf (F := Ideal) (φ := .f32) (-z) = FloatOps.absf (F := Ideal) (φ := .f32) z := by
    show max (-z) (-(-z)) = max z (-z)
    rw [neg_neg, max_comm]
  rw [if_neg (by simp), ha]
  generalize hL : Ideal.log1p (Ideal.exp (-(FloatOps.absf (F := Ideal) (φ := .f32) z))) = L
  have hb : L ≠ ⊥ := hL ▸ log1p_exp_ne_bot _
  have hm : max (-z) 0 ≠ ⊥ := fun h => by
    have : (0 : EReal) ≤ ⊥ := h ▸ le_max_right _ _
    simp at this
  rw [EReal.neg_add (Or.inl hm) (Or.inr hb), sub_eq_add_neg, sub_eq_add_neg]
  congr 1
  rcases le_total z 0 with h | h
  · rw [min_eq_left h, max_eq_left (by rw [← neg_zero]; exact EReal.neg_le_neg_iff.mpr h), neg_neg]
  · rw [min_eq_right h, max_eq_right (by rw [← neg_zero]; exact EReal.neg_le_neg_iff.mpr h), neg_zero]

end Cert.Heads

end
-- ==== Proof.ProjReads.lean ====
/- What each input block of the projection holds, in terms of the arguments. -/
module

public import proofs.«01_k».proof.Proof.ProjPoints
public import proofs.«01_k».proof.Proof.Heads
public import Idealize.ShloMosaic.Lib.Claim

@[expose] public section

set_option maxRecDepth 16384

noncomputable section

namespace Cert.Proj
open Cert.Kernel2Ideal Cert.Kernel2Ideal.Gen Idealize.ShloMosaic Idealize.ShloMosaic.TcCoe Idealize.SL.Sem
variable (m : (ℓ : Loc nD τ sig) → Buf (Elt Ideal) ℓ) (c : Dev nD)

/-- Row `p` of point `t`'s tokens is the row `512 * t + p`. -/
theorem x_read (t : Fin cfg0.N) (p : Fin 512) (n : Fin 65536) (hn : n.val = t.val * 512 + p.val) (k : Fin 1024) :
    iblk m c 0 t (ix2 p k) = A0 m c (ix3 ⟨n.val / 2048, by omega⟩ ⟨n.val % 2048, by omega⟩ k) := by
  have e : iblk m c 0 t (ix2 p k) = V m c main_v0 (ix2 n k) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The gain. -/
theorem g_read (t : Fin cfg0.N) (k : Fin 1024) : iblk m c 1 t (ix2 0 k) = A1 m c (ix1 k) := by
  have e : iblk m c 1 t (ix2 0 k) = V m c main_v3 (ix2 0 k) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The first columns of the weights. -/
theorem wa_read (t : Fin cfg0.N) (k : Fin 1024) (j : Fin 1536) : iblk m c 2 t (ix2 k j) = A2 m c (ix2 k ⟨j.val, by omega⟩) := by
  have e : iblk m c 2 t (ix2 k j) = V m c main_v5 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The forget columns, of which the first eight are used. -/
theorem wf_read (t : Fin cfg0.N) (k : Fin 1024) (j : Fin 128) (h : j.val < 8) : iblk m c 3 t (ix2 k j) = A2 m c (ix2 k ⟨1536 + j.val, by omega⟩) := by
  have e : iblk m c 3 t (ix2 k j) = V m c main_v8 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  rw [dif_pos h]

/-- The columns of the second mixer. -/
theorem wb_read (t : Fin cfg0.N) (k : Fin 1024) (j : Fin 1536) : iblk m c 4 t (ix2 k j) = A2 m c (ix2 k ⟨1544 + j.val, by omega⟩) := by
  have e : iblk m c 4 t (ix2 k j) = V m c main_v10 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The columns of the gates. -/
theorem wg_read (t : Fin cfg0.N) (k : Fin 1024) (j : Fin 2048) : iblk m c 5 t (ix2 k j) = A2 m c (ix2 k ⟨3080 + j.val, by omega⟩) := by
  have e : iblk m c 5 t (ix2 k j) = V m c main_v12 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The forget bias, of which the first eight lanes are used. -/
theorem bf_read (t : Fin cfg0.N) (j : Fin 128) (h : j.val < 8) : iblk m c 6 t (ix2 0 j) = A3 m c (ix1 ⟨j.val, h⟩) := by
  have e : iblk m c 6 t (ix2 0 j) = V m c main_v14 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  rw [dif_pos h]

/-- A gain of the heads, repeated over them. -/
theorem qna_read (t : Fin cfg0.N) (j : Fin 512) : iblk m c 7 t (ix2 0 j) = A4 m c (ix1 ⟨j.val % 64, by omega⟩) := by
  have e : iblk m c 7 t (ix2 0 j) = V m c main_v18 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem kna_read (t : Fin cfg0.N) (j : Fin 512) : iblk m c 8 t (ix2 0 j) = A5 m c (ix1 ⟨j.val % 64, by omega⟩) := by
  have e : iblk m c 8 t (ix2 0 j) = V m c main_v22 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem qnb_read (t : Fin cfg0.N) (j : Fin 512) : iblk m c 9 t (ix2 0 j) = A6 m c (ix1 ⟨j.val % 64, by omega⟩) := by
  have e : iblk m c 9 t (ix2 0 j) = V m c main_v26 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem knb_read (t : Fin cfg0.N) (j : Fin 512) : iblk m c 10 t (ix2 0 j) = A7 m c (ix1 ⟨j.val % 64, by omega⟩) := by
  have e : iblk m c 10 t (ix2 0 j) = V m c main_v30 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The averaging matrix: `1 / 64` between lanes of one head. -/
theorem msum_read (t : Fin cfg0.N) (k j : Fin 512) : iblk m c 11 t (ix2 k j) = if k.val / 64 = j.val / 64 then ((1 / 64 : ℝ) : EReal) else 0 := by
  have e : iblk m c 11 t (ix2 k j) = V m c main_v37 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  refine (congrArg₂ (fun a b : BitVec 32 => Scalar.select (IntOp.cmpi CmpIPredicate.eq a b) (Ideal.ofBits FTy.f32 1015021568#32) (0 : EReal)) (Heads.head_word k) (Heads.head_word j)).trans ?_
  rw [Heads.head_eq ⟨k.val / 64, by omega⟩ ⟨j.val / 64, by omega⟩, Heads.weight_word]
  by_cases h : k.val / 64 = j.val / 64
  · simp [h, Scalar.select]
  · simp [h, Scalar.select]

end Cert.Proj

end
-- ==== Proof.ProjPlain.lean ====
/- The columns of the projection that leave it as they are, and the gates. -/
module

public import proofs.«01_k».proof.Proof.ProjReads

@[expose] public section

set_option maxRecDepth 16384

noncomputable section

namespace Cert.Proj
open Cert.Kernel2Ideal Cert.Kernel2Ideal.Gen Idealize.ShloMosaic Idealize.ShloMosaic.TcCoe Idealize.SL.Sem Cert.Reference2Ideal.Read
variable (m : (ℓ : Loc nD τ sig) → Buf (Elt Ideal) ℓ) (c : Dev nD)

/-- A value of the first mixer. -/
theorem values_a_at (t : Fin cfg0.N) (p : Fin 512) (n : Fin 65536) (hn : n.val = t.val * 512 + p.val) (q : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v90 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v90, val_main_v16, val_main_v13, val_main_v12, val_main_v11, val_main_v10, val_main_v9, val_main_v8, val_main_v7, val_main_v6, val_main_v4, val_main_v2, val_main_v1, val_main_cst, val_main_v0, val_main_v3, val_main_cst_0, val_main_v5, val_main_cst_1]
  simp only [x_read m c t p n hn, g_read, wa_read, wb_read, wg_read, ← Nat.add_assoc, Nat.reduceAdd]

/-- The values of the first mixer. -/
theorem values_a : (dats m 0 c).arrAt 14 cfg0.N = val_main_v90 (F := Ideal) (A0 m c) (A1 m c) (A2 m c) := by
  refine (dats m 0 c).arrAt_eq_of_covers 14 _ covers14 fun t hf y => ?_
  have ht : t.val < 128 := points ▸ t.isLt
  have hy : (y 0).val < 512 := (y 0).isLt
  have e : ((View.whole main_v38_2).slice (win0_14.rect t)).emb y = ix2 ⟨t.val * 512 + (y 0).val, by omega⟩ (y 1) := by
    blk_ext [idx t]
  blk_simp
  rw [after0_14, e]
  exact (congrArg _ (eq_ix2 y)).trans (values_a_at m c t (y 0) _ rfl (y 1))

/-- A value of the second mixer. -/
theorem values_b_at (t : Fin cfg0.N) (p : Fin 512) (n : Fin 65536) (hn : n.val = t.val * 512 + p.val) (q : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v95 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v95, val_main_v20, val_main_v13, val_main_v12, val_main_v11, val_main_v10, val_main_v9, val_main_v8, val_main_v7, val_main_v6, val_main_v4, val_main_v2, val_main_v1, val_main_cst, val_main_v0, val_main_v3, val_main_cst_0, val_main_v5, val_main_cst_1]
  simp only [x_read m c t p n hn, g_read, wa_read, wb_read, wg_read, ← Nat.add_assoc, Nat.reduceAdd]

/-- The values of the second mixer. -/
theorem values_b : (dats m 0 c).arrAt 18 cfg0.N = val_main_v95 (F := Ideal) (A0 m c) (A1 m c) (A2 m c) := by
  refine (dats m 0 c).arrAt_eq_of_covers 18 _ covers18 fun t hf y => ?_
  have ht : t.val < 128 := points ▸ t.isLt
  have hy : (y 0).val < 512 := (y 0).isLt
  have e : ((View.whole main_v38_6).slice (win0_18.rect t)).emb y = ix2 ⟨t.val * 512 + (y 0).val, by omega⟩ (y 1) := by
    blk_ext [idx t]
  blk_simp
  rw [after0_18, e]
  exact (congrArg _ (eq_ix2 y)).trans (values_b_at m c t (y 0) _ rfl (y 1))

/-- A gate of the first mixer. -/
theorem gates_a_at (t : Fin cfg0.N) (p : Fin 512) (n : Fin 65536) (hn : n.val = t.val * 512 + p.val) (q : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v103 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v103, val_main_v102, val_main_v101, val_main_v100, val_main_cst_17, val_main_v99, val_main_v97, val_main_v96, val_main_v21, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v98, val_main_cst_16]
  simp only [x_read m c t p n hn, g_read, wa_read, wb_read, wg_read, zero_sub, ← Nat.add_assoc, Nat.reduceAdd]

/-- The gates of the first mixer. -/
theorem gates_a : (dats m 0 c).arrAt 19 cfg0.N = val_main_v103 (F := Ideal) (A0 m c) (A1 m c) (A2 m c) := by
  refine (dats m 0 c).arrAt_eq_of_covers 19 _ covers19 fun t hf y => ?_
  have ht : t.val < 128 := points ▸ t.isLt
  have hy : (y 0).val < 512 := (y 0).isLt
  have e : ((View.whole main_v38_7).slice (win0_19.rect t)).emb y = ix2 ⟨t.val * 512 + (y 0).val, by omega⟩ (y 1) := by
    blk_ext [idx t]
  blk_simp
  rw [after0_19, e]
  exact (congrArg _ (eq_ix2 y)).trans (gates_a_at m c t (y 0) _ rfl (y 1))

/-- A gate of the second mixer. -/
theorem gates_b_at (t : Fin cfg0.N) (p : Fin 512) (n : Fin 65536) (hn : n.val = t.val * 512 + p.val) (q : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v111 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v111, val_main_v110, val_main_v109, val_main_v107, val_main_v105, val_main_v104, val_main_v22, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v106, val_main_cst_18, val_main_v108, val_main_cst_19]
  simp only [x_read m c t p n hn, g_read, wa_read, wb_read, wg_read, zero_sub, ← Nat.add_assoc, Nat.reduceAdd]

/-- The gates of the second mixer. -/
theorem gates_b : (dats m 0 c).arrAt 20 cfg0.N = val_main_v111 (F := Ideal) (A0 m c) (A1 m c) (A2 m c) := by
  refine (dats m 0 c).arrAt_eq_of_covers 20 _ covers20 fun t hf y => ?_
  have ht : t.val < 128 := points ▸ t.isLt
  have hy : (y 0).val < 512 := (y 0).isLt
  have e : ((View.whole main_v38_8).slice (win0_20.rect t)).emb y = ix2 ⟨t.val * 512 + (y 0).val, by omega⟩ (y 1) := by
    blk_ext [idx t]
  blk_simp
  rw [after0_20, e]
  exact (congrArg _ (eq_ix2 y)).trans (gates_b_at m c t (y 0) _ rfl (y 1))

end Cert.Proj

end
-- ==== Proof.ProjHeads.lean ====
/- The log forget values and the normed queries and keys. -/
module

public import proofs.«01_k».proof.Proof.ProjReads

@[expose] public section

set_option maxRecDepth 16384

noncomputable section

namespace Cert.Proj
open Cert.Kernel2Ideal Cert.Kernel2Ideal.Gen Idealize.ShloMosaic Idealize.ShloMosaic.TcCoe Idealize.SL.Sem Cert.Reference2Ideal.Read
variable (m : (ℓ : Loc nD τ sig) → Buf (Elt Ideal) ℓ) (c : Dev nD)

/-- A log forget value. -/
theorem forget_at (t : Fin cfg0.N) (p : Fin 512) (n : Fin 65536) (hn : n.val = t.val * 512 + p.val) (q : Fin 8) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v91 (F := Ideal) (A0 m c) (A1 m c) (A2 m c) (A3 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v91, val_main_v86, val_main_call0_v1, val_main_call0_call0_v11, val_main_call0_call0_v1, val_main_call0_call0_v0, val_main_call0_call0_cst, val_main_call0_v0, val_main_v85, val_main_v17, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v84, val_main_v83, val_main_call0_call0_v10, val_main_call0_call0_v9, val_main_call0_call0_v8, val_main_call0_call0_v7, val_main_call0_call0_v3, val_main_call0_call0_v2, val_main_call0_call0_v4, val_main_call0_call0_v6, val_main_call0_call0_v5]
  simp only [x_read m c t p n hn, g_read, wf_read m c t _ ⟨q.val, by omega⟩ q.isLt, bf_read m c t ⟨q.val, by omega⟩ q.isLt, zero_sub]
  exact Heads.log_logistic _

/-- The log forget values. -/
theorem forget : (dats m 0 c).arrAt 15 cfg0.N = val_main_v91 (F := Ideal) (A0 m c) (A1 m c) (A2 m c) (A3 m c) := by
  refine (dats m 0 c).arrAt_eq_of_covers 15 _ covers15 fun t hf y => ?_
  have ht : t.val < 128 := points ▸ t.isLt
  have hy : (y 0).val < 512 := (y 0).isLt
  have e : ((View.whole main_v38_3).slice (win0_15.rect t)).emb y = ix2 ⟨t.val * 512 + (y 0).val, by omega⟩ (y 1) := by
    blk_ext [idx t]
  blk_simp
  rw [after0_15, e]
  exact (congrArg _ (eq_ix2 y)).trans (forget_at m c t (y 0) _ rfl (y 1))

/-- A query of the first mixer. -/
theorem queries_a_at (t : Fin cfg0.N) (p : Fin 512) (n : Fin 65536) (hn : n.val = t.val * 512 + p.val) (q : Fin 512) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v88 (F := Ideal) (A0 m c) (A1 m c) (A2 m c) (A4 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v88, val_main_v87, val_main_v38, val_main_v36, val_main_v33, val_main_v23, val_main_v14, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v32, val_main_v31, val_main_v30, val_main_v28, val_main_v26, val_main_v25, val_main_cst_2, val_main_v24, val_main_v27, val_main_cst_3, val_main_v29, val_main_cst_4, val_main_v35, val_main_v34, val_main_v37, val_main_cst_5]
  simp only [x_read m c t p n hn, g_read, wa_read, wb_read, qna_read, msum_read, Heads.mean_lanes, ← Nat.add_assoc, Nat.reduceAdd]

/-- The queries of the first mixer. -/
theorem queries_a : (dats m 0 c).arrAt 12 cfg0.N = val_main_v88 (F := Ideal) (A0 m c) (A1 m c) (A2 m c) (A4 m c) := by
  refine (dats m 0 c).arrAt_eq_of_covers 12 _ covers12 fun t hf y => ?_
  have ht : t.val < 128 := points ▸ t.isLt
  have hy : (y 0).val < 512 := (y 0).isLt
  have e : ((View.whole main_v38_0).slice (win0_12.rect t)).emb y = ix2 ⟨t.val * 512 + (y 0).val, by omega⟩ (y 1) := by
    blk_ext [idx t]
  blk_simp
  rw [after0_12, e]
  exact (congrArg _ (eq_ix2 y)).trans (queries_a_at m c t (y 0) _ rfl (y 1))

/-- A key of the first mixer. -/
theorem keys_a_at (t : Fin cfg0.N) (p : Fin 512) (n : Fin 65536) (hn : n.val = t.val * 512 + p.val) (q : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v89 (F := Ideal) (A0 m c) (A1 m c) (A2 m c) (A5 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v89, val_main_v52, val_main_v49, val_main_v39, val_main_v15, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v48, val_main_v47, val_main_v46, val_main_v44, val_main_v42, val_main_v41, val_main_cst_6, val_main_v40, val_main_v43, val_main_cst_7, val_main_v45, val_main_cst_8, val_main_v51, val_main_v50]
  simp only [x_read m c t p n hn, g_read, wa_read, wb_read, kna_read, msum_read, Heads.mean_lanes, ← Nat.add_assoc, Nat.reduceAdd]

/-- The keys of the first mixer. -/
theorem keys_a : (dats m 0 c).arrAt 13 cfg0.N = val_main_v89 (F := Ideal) (A0 m c) (A1 m c) (A2 m c) (A5 m c) := by
  refine (dats m 0 c).arrAt_eq_of_covers 13 _ covers13 fun t hf y => ?_
  have ht : t.val < 128 := points ▸ t.isLt
  have hy : (y 0).val < 512 := (y 0).isLt
  have e : ((View.whole main_v38_1).slice (win0_13.rect t)).emb y = ix2 ⟨t.val * 512 + (y 0).val, by omega⟩ (y 1) := by
    blk_ext [idx t]
  blk_simp
  rw [after0_13, e]
  exact (congrArg _ (eq_ix2 y)).trans (keys_a_at m c t (y 0) _ rfl (y 1))

/-- A query of the second mixer. -/
theorem queries_b_at (t : Fin cfg0.N) (p : Fin 512) (n : Fin 65536) (hn : n.val = t.val * 512 + p.val) (q : Fin 512) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v93 (F := Ideal) (A0 m c) (A1 m c) (A2 m c) (A6 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v93, val_main_v92, val_main_v68, val_main_v66, val_main_v63, val_main_v53, val_main_v18, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v62, val_main_v61, val_main_v60, val_main_v58, val_main_v56, val_main_v55, val_main_cst_9, val_main_v54, val_main_v57, val_main_cst_10, val_main_v59, val_main_cst_11, val_main_v65, val_main_v64, val_main_v67, val_main_cst_12]
  simp only [x_read m c t p n hn, g_read, wa_read, wb_read, qnb_read, msum_read, Heads.mean_lanes, ← Nat.add_assoc, Nat.reduceAdd]

/-- The queries of the second mixer. -/
theorem queries_b : (dats m 0 c).arrAt 16 cfg0.N = val_main_v93 (F := Ideal) (A0 m c) (A1 m c) (A2 m c) (A6 m c) := by
  refine (dats m 0 c).arrAt_eq_of_covers 16 _ covers16 fun t hf y => ?_
  have ht : t.val < 128 := points ▸ t.isLt
  have hy : (y 0).val < 512 := (y 0).isLt
  have e : ((View.whole main_v38_4).slice (win0_16.rect t)).emb y = ix2 ⟨t.val * 512 + (y 0).val, by omega⟩ (y 1) := by
    blk_ext [idx t]
  blk_simp
  rw [after0_16, e]
  exact (congrArg _ (eq_ix2 y)).trans (queries_b_at m c t (y 0) _ rfl (y 1))

/-- A key of the second mixer. -/
theorem keys_b_at (t : Fin cfg0.N) (p : Fin 512) (n : Fin 65536) (hn : n.val = t.val * 512 + p.val) (q : Fin 512) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v94 (F := Ideal) (A0 m c) (A1 m c) (A2 m c) (A7 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v94, val_main_v82, val_main_v79, val_main_v69, val_main_v19, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v78, val_main_v77, val_main_v76, val_main_v74, val_main_v72, val_main_v71, val_main_cst_13, val_main_v70, val_main_v73, val_main_cst_14, val_main_v75, val_main_cst_15, val_main_v81, val_main_v80]
  simp only [x_read m c t p n hn, g_read, wa_read, wb_read, knb_read, msum_read, Heads.mean_lanes, ← Nat.add_assoc, Nat.reduceAdd]

/-- The keys of the second mixer. -/
theorem keys_b : (dats m 0 c).arrAt 17 cfg0.N = val_main_v94 (F := Ideal) (A0 m c) (A1 m c) (A2 m c) (A7 m c) := by
  refine (dats m 0 c).arrAt_eq_of_covers 17 _ covers17 fun t hf y => ?_
  have ht : t.val < 128 := points ▸ t.isLt
  have hy : (y 0).val < 512 := (y 0).isLt
  have e : ((View.whole main_v38_5).slice (win0_17.rect t)).emb y = ix2 ⟨t.val * 512 + (y 0).val, by omega⟩ (y 1) := by
    blk_ext [idx t]
  blk_simp
  rw [after0_17, e]
  exact (congrArg _ (eq_ix2 y)).trans (keys_b_at m c t (y 0) _ rfl (y 1))

end Cert.Proj

end
-- ==== Proof.Merge.lean ====
/- The call that merges the two mixers under their gates and adds the product to the residual, row by row. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.Merge
open Cert.Kernel3Ideal Cert.Kernel3Ideal.Gen Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

theorem covers9 : (cfg0.win 9).Covers := by decide +kernel
theorem covers10 : (cfg0.win 10).Covers := by decide +kernel

variable (m : (ℓ : Loc nD τ sig) → Buf (Elt Ideal) ℓ) (c : Dev nD)

/-- The call's arguments. -/
abbrev A0 : FVec Ideal S65536x1024 .f32 := m ((c : Thread nD τ).loc main_arg0)
abbrev A1 : FVec Ideal S65536x512 .bf16 := m ((c : Thread nD τ).loc main_arg1)
abbrev A2 : FVec Ideal S65536x512 .bf16 := m ((c : Thread nD τ).loc main_arg2)
abbrev A3 : FVec Ideal S65536x1024 .bf16 := m ((c : Thread nD τ).loc main_arg3)
abbrev A4 : FVec Ideal S65536x1024 .bf16 := m ((c : Thread nD τ).loc main_arg4)
abbrev A5 : FVec Ideal S512x1024 .f32 := m ((c : Thread nD τ).loc main_arg5)
abbrev A6 : FVec Ideal S512x1024 .f32 := m ((c : Thread nD τ).loc main_arg6)
abbrev A7 : FVec Ideal S1024x1024 .f32 := m ((c : Thread nD τ).loc main_arg7)
abbrev A8 : FVec Ideal S1024 .f32 := m ((c : Thread nD τ).loc main_arg8)

open Cert.Reference3Ideal.Read in
/-- The residual that the call leaves is the reference's. -/
theorem residual : (dats m 0 c).arrAt 9 cfg0.N = val_main_v10 (F := Ideal) (A0 m c) (A1 m c) (A2 m c) (A3 m c) (A4 m c) (A5 m c) (A6 m c) (A7 m c) := by
  refine (dats m 0 c).arrAt_eq_of_covers 9 _ covers9 fun t hf y => ?_
  blk_simp
  rw [after0_9]
  frame_out
  rw [eq_ix2 y, eq_ix2 (((View.whole main_v4_0).slice (win0_9.rect t)).emb _)]
  pointwise [k0_pay1, k0_pay2, k0_pay3, k0_pay4, val_main_v0, val_main_v1, val_main_v2, val_main_v3, val_main_v4, val_main_v5, val_main_v6, val_main_v7, val_main_v8, val_main_v9, val_main_v10]
  blk_point [iblk, V, idx t]

open Cert.Reference3Ideal.Read in
/-- The normed residual that the call leaves is the reference's. -/
theorem normed : (dats m 0 c).arrAt 10 cfg0.N = val_main_v24 (F := Ideal) (A0 m c) (A1 m c) (A2 m c) (A3 m c) (A4 m c) (A5 m c) (A6 m c) (A7 m c) (A8 m c) := by
  refine (dats m 0 c).arrAt_eq_of_covers 10 _ covers10 fun t hf y => ?_
  blk_simp
  rw [after0_10]
  frame_out
  rw [eq_ix2 y, eq_ix2 (((View.whole main_v4_1).slice (win0_10.rect t)).emb _)]
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1]
  blk_point [iblk, V, idx t]

end Cert.Merge

end
-- ==== Proof.Final.lean ====
/- The call that adds the experts' rows and the gated per-layer input, row by row. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Final
open Cert.Kernel4Ideal Cert.Kernel4Ideal.Gen Idealize.ShloMosaic Idealize.ShloMosaic.TcCoe Idealize.SL.Sem

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

theorem covers : (cfg0.win 6).Covers := by decide +kernel

variable (m : (ℓ : Loc nD τ sig) → Buf (Elt Ideal) ℓ) (c : Dev nD)

/-- The call's arguments. -/
abbrev A0 : FVec Ideal S65536x1024 .f32 := m ((c : Thread nD τ).loc main_arg0)
abbrev A1 : FVec Ideal S65536x1024 .f32 := m ((c : Thread nD τ).loc main_arg1)
abbrev A2 : FVec Ideal S65536x256 .f32 := m ((c : Thread nD τ).loc main_arg2)
abbrev A3 : FVec Ideal S1024 .f32 := m ((c : Thread nD τ).loc main_arg3)
abbrev A4 : FVec Ideal S1024x1024 .f32 := m ((c : Thread nD τ).loc main_arg4)
abbrev A5 : FVec Ideal S256x1024 .f32 := m ((c : Thread nD τ).loc main_arg5)

open Cert.Reference4Ideal.Read in
/-- The array that the call leaves is the reference's. -/
theorem array : (dats m 0 c).arrAt 6 cfg0.N = val_main_v23 (F := Ideal) (A0 m c) (A1 m c) (A2 m c) (A3 m c) (A4 m c) (A5 m c) := by
  refine (dats m 0 c).arrAt_eq_of_covers 6 _ covers fun t hf y => ?_
  blk_simp
  rw [after0_6]
  frame_out
  rw [eq_ix2 y, eq_ix2 (((View.whole main_v3).slice (win0_6.rect t)).emb _)]
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3]
  simp only [zero_sub]
  blk_point [iblk, V, idx t]

end Cert.Final

end
-- ==== Proof.Calls.lean ====
/- The claims of the projection, of the merge and of the last call. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.ProjPlain
public import proofs.«01_k».proof.Proof.ProjHeads
public import proofs.«01_k».proof.Proof.Merge
public import proofs.«01_k».proof.Proof.Final
public import Idealize.ShloMosaic.Lib.Claim

@[expose] public section

set_option maxRecDepth 16384

noncomputable section

namespace Cert.Calls

open Idealize.ShloMosaic Idealize.SL.Sem

theorem frame_proj : Cert.quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Value.run m g)

set_option maxHeartbeats 4000000 in
theorem proj : Cert.algebraic_Kernel2Ideal_Reference2Ideal := fun m g m' g' _ hagree => by
  refine ⟨fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 19 Cert.Kernel2Ideal.cfg0.N, fun c => (Cert.Kernel2Ideal.Gen.dats m 0 c).arrAt 20 Cert.Kernel2Ideal.cfg0.N,
    Cert.Kernel2Ideal.Value.run_blocks m g, ?_⟩
  refine (θ_run Cert.Reference2Ideal.defs _ _).mono (fun r h c => ⟨(h c).1.trans ((Cert.Reference2Ideal.Read.val_main_v88_eq _ _ _ _).trans ?_), (h c).2.1.trans ((Cert.Reference2Ideal.Read.val_main_v89_eq _ _ _ _).trans ?_), (h c).2.2.1.trans ((Cert.Reference2Ideal.Read.val_main_v90_eq _ _ _).trans ?_), (h c).2.2.2.1.trans ((Cert.Reference2Ideal.Read.val_main_v91_eq m' c).trans ?_), (h c).2.2.2.2.1.trans ((Cert.Reference2Ideal.Read.val_main_v93_eq _ _ _ _).trans ?_), (h c).2.2.2.2.2.1.trans ((Cert.Reference2Ideal.Read.val_main_v94_eq _ _ _ _).trans ?_), (h c).2.2.2.2.2.2.1.trans ((Cert.Reference2Ideal.Read.val_main_v95_eq _ _ _).trans ?_), (h c).2.2.2.2.2.2.2.1.trans ((Cert.Reference2Ideal.Read.val_main_v103_eq _ _ _).trans ?_), (h c).2.2.2.2.2.2.2.2.1.trans ((Cert.Reference2Ideal.Read.val_main_v111_eq _ _ _).trans ?_), (h c).2.2.2.2.2.2.2.2.2⟩)
    (Cert.Reference2Ideal.Value.run m' g')
  · obtain ⟨h0, h1, h2, h3, h4, h5, h6, h7⟩ := hagree c
    rw [h0, h1, h2, h4]
    exact (Cert.Proj.queries_a m c).symm
  · obtain ⟨h0, h1, h2, h3, h4, h5, h6, h7⟩ := hagree c
    rw [h0, h1, h2, h5]
    exact (Cert.Proj.keys_a m c).symm
  · obtain ⟨h0, h1, h2, h3, h4, h5, h6, h7⟩ := hagree c
    rw [h0, h1, h2]
    exact (Cert.Proj.values_a m c).symm
  · obtain ⟨h0, h1, h2, h3, h4, h5, h6, h7⟩ := hagree c
    rw [h0, h1, h2, h3]
    exact (Cert.Proj.forget m c).symm
  · obtain ⟨h0, h1, h2, h3, h4, h5, h6, h7⟩ := hagree c
    rw [h0, h1, h2, h6]
    exact (Cert.Proj.queries_b m c).symm
  · obtain ⟨h0, h1, h2, h3, h4, h5, h6, h7⟩ := hagree c
    rw [h0, h1, h2, h7]
    exact (Cert.Proj.keys_b m c).symm
  · obtain ⟨h0, h1, h2, h3, h4, h5, h6, h7⟩ := hagree c
    rw [h0, h1, h2]
    exact (Cert.Proj.values_b m c).symm
  · obtain ⟨h0, h1, h2, h3, h4, h5, h6, h7⟩ := hagree c
    rw [h0, h1, h2]
    exact (Cert.Proj.gates_a m c).symm
  · obtain ⟨h0, h1, h2, h3, h4, h5, h6, h7⟩ := hagree c
    rw [h0, h1, h2]
    exact (Cert.Proj.gates_b m c).symm

theorem frame_merge : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

set_option maxHeartbeats 4000000 in
theorem merge : Cert.algebraic_Kernel3Ideal_Reference3Ideal := fun m g m' g' _ hagree => by
  refine ⟨fun c => (Cert.Kernel3Ideal.Gen.dats m 0 c).arrAt 9 Cert.Kernel3Ideal.cfg0.N, fun c => (Cert.Kernel3Ideal.Gen.dats m 0 c).arrAt 10 Cert.Kernel3Ideal.cfg0.N,
    Cert.Kernel3Ideal.Value.run_blocks m g, ?_⟩
  refine (θ_run Cert.Reference3Ideal.defs _ _).mono (fun r h c => ⟨(h c).1.trans ((Cert.Reference3Ideal.Read.val_main_v10_eq _ _ _ _ _ _ _ _).trans ?_), (h c).2.1.trans ((Cert.Reference3Ideal.Read.val_main_v24_eq _ _ _ _ _ _ _ _ _).trans ?_), (h c).2.2⟩)
    (Cert.Reference3Ideal.Value.run m' g')
  · obtain ⟨h0, h1, h2, h3, h4, h5, h6, h7, h8⟩ := hagree c
    rw [h0, h1, h2, h3, h4, h5, h6, h7]
    exact (Cert.Merge.residual m c).symm
  · obtain ⟨h0, h1, h2, h3, h4, h5, h6, h7, h8⟩ := hagree c
    rw [h0, h1, h2, h3, h4, h5, h6, h7, h8]
    exact (Cert.Merge.normed m c).symm

theorem frame_final : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

set_option maxHeartbeats 4000000 in
theorem final : Cert.algebraic_Kernel4Ideal_Reference4Ideal := fun m g m' g' _ hagree => by
  refine ⟨fun c => (Cert.Kernel4Ideal.Gen.dats m 0 c).arrAt 6 Cert.Kernel4Ideal.cfg0.N,
    Cert.Kernel4Ideal.Value.run_blocks m g, ?_⟩
  refine (θ_run Cert.Reference4Ideal.defs _ _).mono (fun r h c => ⟨(h c).1.trans ((Cert.Reference4Ideal.Read.val_main_v23_eq _ _ _ _ _ _).trans ?_), (h c).2⟩)
    (Cert.Reference4Ideal.Value.run m' g')
  · obtain ⟨h0, h1, h2, h3, h4, h5⟩ := hagree c
    rw [h0, h1, h2, h3, h4, h5]
    exact (Cert.Final.array m c).symm

end Cert.Calls

end
-- ==== Proof.SampleProjPoints.lean ====
/- Over the sample, the projection is one block of 256 rows. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.SampleProj
open Cert.Kernel5Ideal Cert.Kernel5Ideal.Gen Idealize.ShloMosaic Idealize.ShloMosaic.TcCoe Idealize.SL.Sem

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] :=
  (by decide +kernel : ∀ t : Fin grid0.N, _)

theorem points : cfg0.N = 1 := N_0

theorem covers12 : (cfg0.win 12).Covers := by decide +kernel
theorem covers13 : (cfg0.win 13).Covers := by decide +kernel
theorem covers14 : (cfg0.win 14).Covers := by decide +kernel
theorem covers15 : (cfg0.win 15).Covers := by decide +kernel
theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel

variable (m : (ℓ : Loc nD τ sig) → Buf (Elt Ideal) ℓ) (c : Dev nD)

/-- The call's arguments. -/
abbrev A0 : FVec Ideal S16x16x1024 .f32 := m ((c : Thread nD τ).loc main_arg0)
abbrev A1 : FVec Ideal S1024 .f32 := m ((c : Thread nD τ).loc main_arg1)
abbrev A2 : FVec Ideal S1024x5128 .f32 := m ((c : Thread nD τ).loc main_arg2)
abbrev A3 : FVec Ideal S8 .f32 := m ((c : Thread nD τ).loc main_arg3)
abbrev A4 : FVec Ideal S64 .f32 := m ((c : Thread nD τ).loc main_arg4)
abbrev A5 : FVec Ideal S64 .f32 := m ((c : Thread nD τ).loc main_arg5)
abbrev A6 : FVec Ideal S64 .f32 := m ((c : Thread nD τ).loc main_arg6)
abbrev A7 : FVec Ideal S64 .f32 := m ((c : Thread nD τ).loc main_arg7)

end Cert.SampleProj

end
-- ==== Proof.SampleProjReads.lean ====
/- Over the sample, what each input block of the projection holds, in terms of the arguments. -/
module

public import proofs.«01_k».proof.Proof.SampleProjPoints
public import proofs.«01_k».proof.Proof.Heads
public import Idealize.ShloMosaic.Lib.Claim

@[expose] public section

set_option maxRecDepth 16384

noncomputable section

namespace Cert.SampleProj
open Cert.Kernel5Ideal Cert.Kernel5Ideal.Gen Idealize.ShloMosaic Idealize.ShloMosaic.TcCoe Idealize.SL.Sem
variable (m : (ℓ : Loc nD τ sig) → Buf (Elt Ideal) ℓ) (c : Dev nD)

/-- Row `p` of the block. -/
theorem x_read (t : Fin cfg0.N) (p : Fin 256) (n : Fin 256) (hn : n.val = t.val * 256 + p.val) (k : Fin 1024) :
    iblk m c 0 t (ix2 p k) = A0 m c (ix3 ⟨n.val / 16, by omega⟩ ⟨n.val % 16, by omega⟩ k) := by
  have e : iblk m c 0 t (ix2 p k) = V m c main_v0 (ix2 n k) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The gain. -/
theorem g_read (t : Fin cfg0.N) (k : Fin 1024) : iblk m c 1 t (ix2 0 k) = A1 m c (ix1 k) := by
  have e : iblk m c 1 t (ix2 0 k) = V m c main_v3 (ix2 0 k) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The first columns of the weights. -/
theorem wa_read (t : Fin cfg0.N) (k : Fin 1024) (j : Fin 1536) : iblk m c 2 t (ix2 k j) = A2 m c (ix2 k ⟨j.val, by omega⟩) := by
  have e : iblk m c 2 t (ix2 k j) = V m c main_v5 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The forget columns, of which the first eight are used. -/
theorem wf_read (t : Fin cfg0.N) (k : Fin 1024) (j : Fin 128) (h : j.val < 8) : iblk m c 3 t (ix2 k j) = A2 m c (ix2 k ⟨1536 + j.val, by omega⟩) := by
  have e : iblk m c 3 t (ix2 k j) = V m c main_v8 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  rw [dif_pos h]

/-- The columns of the second mixer. -/
theorem wb_read (t : Fin cfg0.N) (k : Fin 1024) (j : Fin 1536) : iblk m c 4 t (ix2 k j) = A2 m c (ix2 k ⟨1544 + j.val, by omega⟩) := by
  have e : iblk m c 4 t (ix2 k j) = V m c main_v10 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The columns of the gates. -/
theorem wg_read (t : Fin cfg0.N) (k : Fin 1024) (j : Fin 2048) : iblk m c 5 t (ix2 k j) = A2 m c (ix2 k ⟨3080 + j.val, by omega⟩) := by
  have e : iblk m c 5 t (ix2 k j) = V m c main_v12 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The forget bias, of which the first eight lanes are used. -/
theorem bf_read (t : Fin cfg0.N) (j : Fin 128) (h : j.val < 8) : iblk m c 6 t (ix2 0 j) = A3 m c (ix1 ⟨j.val, h⟩) := by
  have e : iblk m c 6 t (ix2 0 j) = V m c main_v14 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  rw [dif_pos h]

/-- A gain of the heads, repeated over them. -/
theorem qna_read (t : Fin cfg0.N) (j : Fin 512) : iblk m c 7 t (ix2 0 j) = A4 m c (ix1 ⟨j.val % 64, by omega⟩) := by
  have e : iblk m c 7 t (ix2 0 j) = V m c main_v18 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem kna_read (t : Fin cfg0.N) (j : Fin 512) : iblk m c 8 t (ix2 0 j) = A5 m c (ix1 ⟨j.val % 64, by omega⟩) := by
  have e : iblk m c 8 t (ix2 0 j) = V m c main_v22 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem qnb_read (t : Fin cfg0.N) (j : Fin 512) : iblk m c 9 t (ix2 0 j) = A6 m c (ix1 ⟨j.val % 64, by omega⟩) := by
  have e : iblk m c 9 t (ix2 0 j) = V m c main_v26 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- A gain of the heads, repeated over them. -/
theorem knb_read (t : Fin cfg0.N) (j : Fin 512) : iblk m c 10 t (ix2 0 j) = A7 m c (ix1 ⟨j.val % 64, by omega⟩) := by
  have e : iblk m c 10 t (ix2 0 j) = V m c main_v30 (ix2 0 j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  pointwise []

/-- The averaging matrix: `1 / 64` between lanes of one head. -/
theorem msum_read (t : Fin cfg0.N) (k j : Fin 512) : iblk m c 11 t (ix2 k j) = if k.val / 64 = j.val / 64 then ((1 / 64 : ℝ) : EReal) else 0 := by
  have e : iblk m c 11 t (ix2 k j) = V m c main_v37 (ix2 k j) := by
    blk_ext [iblk, idx t]
  rw [e]
  simp only [V, hostOps0, hostOps0_1, hostOps0_2, hostOps0_3, hostOps0_4, hostOps0_5, hostOps0_6, hostOps0_7, hostOps0_8, List.flatten_cons, List.flatten_nil, List.append_nil, List.cons_append, List.nil_append]
  entry_read
  simp only [StableHlo.TRef.ofBuf_toBuf, StableHlo.TRef.ofBuf, StableHlo.TRef.toBuf, cast_eq]
  pointwise []
  refine (congrArg₂ (fun a b : BitVec 32 => Scalar.select (IntOp.cmpi CmpIPredicate.eq a b) (Ideal.ofBits FTy.f32 1015021568#32) (0 : EReal)) (Heads.head_word k) (Heads.head_word j)).trans ?_
  rw [Heads.head_eq ⟨k.val / 64, by omega⟩ ⟨j.val / 64, by omega⟩, Heads.weight_word]
  by_cases h : k.val / 64 = j.val / 64
  · simp [h, Scalar.select]
  · simp [h, Scalar.select]

end Cert.SampleProj

end
-- ==== Proof.SampleProjPlain.lean ====
/- Over the sample, the columns of the projection that leave it as they are, and the gates. -/
module

public import proofs.«01_k».proof.Proof.SampleProjReads

@[expose] public section

set_option maxRecDepth 16384

noncomputable section

namespace Cert.SampleProj
open Cert.Kernel5Ideal Cert.Kernel5Ideal.Gen Idealize.ShloMosaic Idealize.ShloMosaic.TcCoe Idealize.SL.Sem Cert.Reference5Ideal.Read
variable (m : (ℓ : Loc nD τ sig) → Buf (Elt Ideal) ℓ) (c : Dev nD)

/-- A value of the first mixer. -/
theorem values_a_at (t : Fin cfg0.N) (p : Fin 256) (n : Fin 256) (hn : n.val = t.val * 256 + p.val) (q : Fin 512) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v90 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v90, val_main_v16, val_main_v13, val_main_v12, val_main_v11, val_main_v10, val_main_v9, val_main_v8, val_main_v7, val_main_v6, val_main_v4, val_main_v2, val_main_v1, val_main_cst, val_main_v0, val_main_v3, val_main_cst_0, val_main_v5, val_main_cst_1]
  simp only [x_read m c t p n hn, g_read, wa_read, wb_read, wg_read, ← Nat.add_assoc, Nat.reduceAdd]

/-- The values of the first mixer. -/
theorem values_a : (dats m 0 c).arrAt 14 cfg0.N = val_main_v90 (F := Ideal) (A0 m c) (A1 m c) (A2 m c) := by
  refine (dats m 0 c).arrAt_eq_of_covers 14 _ covers14 fun t hf y => ?_
  have ht : t.val < 1 := points ▸ t.isLt
  have hy : (y 0).val < 256 := (y 0).isLt
  have e : ((View.whole main_v38_2).slice (win0_14.rect t)).emb y = ix2 ⟨t.val * 256 + (y 0).val, by omega⟩ (y 1) := by
    blk_ext [idx t]
  blk_simp
  rw [after0_14, e]
  exact (congrArg _ (eq_ix2 y)).trans (values_a_at m c t (y 0) _ rfl (y 1))

/-- A value of the second mixer. -/
theorem values_b_at (t : Fin cfg0.N) (p : Fin 256) (n : Fin 256) (hn : n.val = t.val * 256 + p.val) (q : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v95 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v95, val_main_v20, val_main_v13, val_main_v12, val_main_v11, val_main_v10, val_main_v9, val_main_v8, val_main_v7, val_main_v6, val_main_v4, val_main_v2, val_main_v1, val_main_cst, val_main_v0, val_main_v3, val_main_cst_0, val_main_v5, val_main_cst_1]
  simp only [x_read m c t p n hn, g_read, wa_read, wb_read, wg_read, ← Nat.add_assoc, Nat.reduceAdd]

/-- The values of the second mixer. -/
theorem values_b : (dats m 0 c).arrAt 18 cfg0.N = val_main_v95 (F := Ideal) (A0 m c) (A1 m c) (A2 m c) := by
  refine (dats m 0 c).arrAt_eq_of_covers 18 _ covers18 fun t hf y => ?_
  have ht : t.val < 1 := points ▸ t.isLt
  have hy : (y 0).val < 256 := (y 0).isLt
  have e : ((View.whole main_v38_6).slice (win0_18.rect t)).emb y = ix2 ⟨t.val * 256 + (y 0).val, by omega⟩ (y 1) := by
    blk_ext [idx t]
  blk_simp
  rw [after0_18, e]
  exact (congrArg _ (eq_ix2 y)).trans (values_b_at m c t (y 0) _ rfl (y 1))

/-- A gate of the first mixer. -/
theorem gates_a_at (t : Fin cfg0.N) (p : Fin 256) (n : Fin 256) (hn : n.val = t.val * 256 + p.val) (q : Fin 1024) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v103 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v103, val_main_v102, val_main_v101, val_main_v100, val_main_cst_17, val_main_v99, val_main_v97, val_main_v96, val_main_v21, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v98, val_main_cst_16]
  simp only [x_read m c t p n hn, g_read, wa_read, wb_read, wg_read, zero_sub, ← Nat.add_assoc, Nat.reduceAdd]

/-- The gates of the first mixer. -/
theorem gates_a : (dats m 0 c).arrAt 19 cfg0.N = val_main_v103 (F := Ideal) (A0 m c) (A1 m c) (A2 m c) := by
  refine (dats m 0 c).arrAt_eq_of_covers 19 _ covers19 fun t hf y => ?_
  have ht : t.val < 1 := points ▸ t.isLt
  have hy : (y 0).val < 256 := (y 0).isLt
  have e : ((View.whole main_v38_7).slice (win0_19.rect t)).emb y = ix2 ⟨t.val * 256 + (y 0).val, by omega⟩ (y 1) := by
    blk_ext [idx t]
  blk_simp
  rw [after0_19, e]
  exact (congrArg _ (eq_ix2 y)).trans (gates_a_at m c t (y 0) _ rfl (y 1))

/-- A gate of the second mixer. -/
theorem gates_b_at (t : Fin cfg0.N) (p : Fin 256) (n : Fin 256) (hn : n.val = t.val * 256 + p.val) (q : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v111 (F := Ideal) (A0 m c) (A1 m c) (A2 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v111, val_main_v110, val_main_v109, val_main_v107, val_main_v105, val_main_v104, val_main_v22, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v106, val_main_cst_18, val_main_v108, val_main_cst_19]
  simp only [x_read m c t p n hn, g_read, wa_read, wb_read, wg_read, zero_sub, ← Nat.add_assoc, Nat.reduceAdd]

/-- The gates of the second mixer. -/
theorem gates_b : (dats m 0 c).arrAt 20 cfg0.N = val_main_v111 (F := Ideal) (A0 m c) (A1 m c) (A2 m c) := by
  refine (dats m 0 c).arrAt_eq_of_covers 20 _ covers20 fun t hf y => ?_
  have ht : t.val < 1 := points ▸ t.isLt
  have hy : (y 0).val < 256 := (y 0).isLt
  have e : ((View.whole main_v38_8).slice (win0_20.rect t)).emb y = ix2 ⟨t.val * 256 + (y 0).val, by omega⟩ (y 1) := by
    blk_ext [idx t]
  blk_simp
  rw [after0_20, e]
  exact (congrArg _ (eq_ix2 y)).trans (gates_b_at m c t (y 0) _ rfl (y 1))

end Cert.SampleProj

end
-- ==== Proof.SampleProjHeads.lean ====
/- Over the sample, the log forget values and the normed queries and keys. -/
module

public import proofs.«01_k».proof.Proof.SampleProjReads

@[expose] public section

set_option maxRecDepth 16384

noncomputable section

namespace Cert.SampleProj
open Cert.Kernel5Ideal Cert.Kernel5Ideal.Gen Idealize.ShloMosaic Idealize.ShloMosaic.TcCoe Idealize.SL.Sem Cert.Reference5Ideal.Read
variable (m : (ℓ : Loc nD τ sig) → Buf (Elt Ideal) ℓ) (c : Dev nD)

/-- A log forget value. -/
theorem forget_at (t : Fin cfg0.N) (p : Fin 256) (n : Fin 256) (hn : n.val = t.val * 256 + p.val) (q : Fin 8) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v91 (F := Ideal) (A0 m c) (A1 m c) (A2 m c) (A3 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v91, val_main_v86, val_main_call0_v1, val_main_call0_call0_v11, val_main_call0_call0_v1, val_main_call0_call0_v0, val_main_call0_call0_cst, val_main_call0_v0, val_main_v85, val_main_v17, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v84, val_main_v83, val_main_call0_call0_v10, val_main_call0_call0_v9, val_main_call0_call0_v8, val_main_call0_call0_v7, val_main_call0_call0_v3, val_main_call0_call0_v2, val_main_call0_call0_v4, val_main_call0_call0_v6, val_main_call0_call0_v5]
  simp only [x_read m c t p n hn, g_read, wf_read m c t _ ⟨q.val, by omega⟩ q.isLt, bf_read m c t ⟨q.val, by omega⟩ q.isLt, zero_sub]
  exact Heads.log_logistic _

/-- The log forget values. -/
theorem forget : (dats m 0 c).arrAt 15 cfg0.N = val_main_v91 (F := Ideal) (A0 m c) (A1 m c) (A2 m c) (A3 m c) := by
  refine (dats m 0 c).arrAt_eq_of_covers 15 _ covers15 fun t hf y => ?_
  have ht : t.val < 1 := points ▸ t.isLt
  have hy : (y 0).val < 256 := (y 0).isLt
  have e : ((View.whole main_v38_3).slice (win0_15.rect t)).emb y = ix2 ⟨t.val * 256 + (y 0).val, by omega⟩ (y 1) := by
    blk_ext [idx t]
  blk_simp
  rw [after0_15, e]
  exact (congrArg _ (eq_ix2 y)).trans (forget_at m c t (y 0) _ rfl (y 1))

/-- A query of the first mixer. -/
theorem queries_a_at (t : Fin cfg0.N) (p : Fin 256) (n : Fin 256) (hn : n.val = t.val * 256 + p.val) (q : Fin 512) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v88 (F := Ideal) (A0 m c) (A1 m c) (A2 m c) (A4 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v88, val_main_v87, val_main_v38, val_main_v36, val_main_v33, val_main_v23, val_main_v14, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v32, val_main_v31, val_main_v30, val_main_v28, val_main_v26, val_main_v25, val_main_cst_2, val_main_v24, val_main_v27, val_main_cst_3, val_main_v29, val_main_cst_4, val_main_v35, val_main_v34, val_main_v37, val_main_cst_5]
  simp only [x_read m c t p n hn, g_read, wa_read, wb_read, qna_read, msum_read, Heads.mean_lanes, ← Nat.add_assoc, Nat.reduceAdd]

/-- The queries of the first mixer. -/
theorem queries_a : (dats m 0 c).arrAt 12 cfg0.N = val_main_v88 (F := Ideal) (A0 m c) (A1 m c) (A2 m c) (A4 m c) := by
  refine (dats m 0 c).arrAt_eq_of_covers 12 _ covers12 fun t hf y => ?_
  have ht : t.val < 1 := points ▸ t.isLt
  have hy : (y 0).val < 256 := (y 0).isLt
  have e : ((View.whole main_v38_0).slice (win0_12.rect t)).emb y = ix2 ⟨t.val * 256 + (y 0).val, by omega⟩ (y 1) := by
    blk_ext [idx t]
  blk_simp
  rw [after0_12, e]
  exact (congrArg _ (eq_ix2 y)).trans (queries_a_at m c t (y 0) _ rfl (y 1))

/-- A key of the first mixer. -/
theorem keys_a_at (t : Fin cfg0.N) (p : Fin 256) (n : Fin 256) (hn : n.val = t.val * 256 + p.val) (q : Fin 512) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v89 (F := Ideal) (A0 m c) (A1 m c) (A2 m c) (A5 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v89, val_main_v52, val_main_v49, val_main_v39, val_main_v15, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v48, val_main_v47, val_main_v46, val_main_v44, val_main_v42, val_main_v41, val_main_cst_6, val_main_v40, val_main_v43, val_main_cst_7, val_main_v45, val_main_cst_8, val_main_v51, val_main_v50]
  simp only [x_read m c t p n hn, g_read, wa_read, wb_read, kna_read, msum_read, Heads.mean_lanes, ← Nat.add_assoc, Nat.reduceAdd]

/-- The keys of the first mixer. -/
theorem keys_a : (dats m 0 c).arrAt 13 cfg0.N = val_main_v89 (F := Ideal) (A0 m c) (A1 m c) (A2 m c) (A5 m c) := by
  refine (dats m 0 c).arrAt_eq_of_covers 13 _ covers13 fun t hf y => ?_
  have ht : t.val < 1 := points ▸ t.isLt
  have hy : (y 0).val < 256 := (y 0).isLt
  have e : ((View.whole main_v38_1).slice (win0_13.rect t)).emb y = ix2 ⟨t.val * 256 + (y 0).val, by omega⟩ (y 1) := by
    blk_ext [idx t]
  blk_simp
  rw [after0_13, e]
  exact (congrArg _ (eq_ix2 y)).trans (keys_a_at m c t (y 0) _ rfl (y 1))

/-- A query of the second mixer. -/
theorem queries_b_at (t : Fin cfg0.N) (p : Fin 256) (n : Fin 256) (hn : n.val = t.val * 256 + p.val) (q : Fin 512) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v93 (F := Ideal) (A0 m c) (A1 m c) (A2 m c) (A6 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v93, val_main_v92, val_main_v68, val_main_v66, val_main_v63, val_main_v53, val_main_v18, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v62, val_main_v61, val_main_v60, val_main_v58, val_main_v56, val_main_v55, val_main_cst_9, val_main_v54, val_main_v57, val_main_cst_10, val_main_v59, val_main_cst_11, val_main_v65, val_main_v64, val_main_v67, val_main_cst_12]
  simp only [x_read m c t p n hn, g_read, wa_read, wb_read, qnb_read, msum_read, Heads.mean_lanes, ← Nat.add_assoc, Nat.reduceAdd]

/-- The queries of the second mixer. -/
theorem queries_b : (dats m 0 c).arrAt 16 cfg0.N = val_main_v93 (F := Ideal) (A0 m c) (A1 m c) (A2 m c) (A6 m c) := by
  refine (dats m 0 c).arrAt_eq_of_covers 16 _ covers16 fun t hf y => ?_
  have ht : t.val < 1 := points ▸ t.isLt
  have hy : (y 0).val < 256 := (y 0).isLt
  have e : ((View.whole main_v38_4).slice (win0_16.rect t)).emb y = ix2 ⟨t.val * 256 + (y 0).val, by omega⟩ (y 1) := by
    blk_ext [idx t]
  blk_simp
  rw [after0_16, e]
  exact (congrArg _ (eq_ix2 y)).trans (queries_b_at m c t (y 0) _ rfl (y 1))

/-- A key of the second mixer. -/
theorem keys_b_at (t : Fin cfg0.N) (p : Fin 256) (n : Fin 256) (hn : n.val = t.val * 256 + p.val) (q : Fin 512) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q)
      = val_main_v94 (F := Ideal) (A0 m c) (A1 m c) (A2 m c) (A7 m c) (ix2 n q) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, val_main_v94, val_main_v82, val_main_v79, val_main_v69, val_main_v19, val_main_v13, val_main_v12, val_main_v11, val_main_v10, val_main_v9, val_main_v8, val_main_v7, val_main_v6, val_main_v4, val_main_v2, val_main_v1, val_main_cst, val_main_v0, val_main_v3, val_main_cst_0, val_main_v5, val_main_cst_1, val_main_v78, val_main_v77, val_main_v76, val_main_v74, val_main_v72, val_main_v71, val_main_cst_13, val_main_v70, val_main_v73, val_main_cst_14, val_main_v75, val_main_cst_15, val_main_v81, val_main_v80]
  simp only [x_read m c t p n hn, g_read, wa_read, wb_read, knb_read, msum_read, Heads.mean_lanes, ← Nat.add_assoc, Nat.reduceAdd]

/-- The keys of the second mixer. -/
theorem keys_b : (dats m 0 c).arrAt 17 cfg0.N = val_main_v94 (F := Ideal) (A0 m c) (A1 m c) (A2 m c) (A7 m c) := by
  refine (dats m 0 c).arrAt_eq_of_covers 17 _ covers17 fun t hf y => ?_
  have ht : t.val < 1 := points ▸ t.isLt
  have hy : (y 0).val < 256 := (y 0).isLt
  have e : ((View.whole main_v38_5).slice (win0_17.rect t)).emb y = ix2 ⟨t.val * 256 + (y 0).val, by omega⟩ (y 1) := by
    blk_ext [idx t]
  blk_simp
  rw [after0_17, e]
  exact (congrArg _ (eq_ix2 y)).trans (keys_b_at m c t (y 0) _ rfl (y 1))

end Cert.SampleProj

end
-- ==== Proof.SampleMerge.lean ====
/- Over the sample, the call that merges the two mixers under their gates and adds the product to the residual, row by row. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.SampleMerge
open Cert.Kernel6Ideal Cert.Kernel6Ideal.Gen Idealize.ShloMosaic Idealize.ShloMosaic.TcCoe Idealize.SL.Sem

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![t.val, 0] ∧ win0_10.index t = ![t.val, 0] :=
  (by decide +kernel : ∀ t : Fin grid0.N, _)

theorem covers9 : (cfg0.win 9).Covers := by decide +kernel
theorem covers10 : (cfg0.win 10).Covers := by decide +kernel

variable (m : (ℓ : Loc nD τ sig) → Buf (Elt Ideal) ℓ) (c : Dev nD)

/-- The call's arguments. -/
abbrev A0 : FVec Ideal S256x1024 .f32 := m ((c : Thread nD τ).loc main_arg0)
abbrev A1 : FVec Ideal S256x512 .bf16 := m ((c : Thread nD τ).loc main_arg1)
abbrev A2 : FVec Ideal S256x512 .bf16 := m ((c : Thread nD τ).loc main_arg2)
abbrev A3 : FVec Ideal S256x1024 .bf16 := m ((c : Thread nD τ).loc main_arg3)
abbrev A4 : FVec Ideal S256x1024 .bf16 := m ((c : Thread nD τ).loc main_arg4)
abbrev A5 : FVec Ideal S512x1024 .f32 := m ((c : Thread nD τ).loc main_arg5)
abbrev A6 : FVec Ideal S512x1024 .f32 := m ((c : Thread nD τ).loc main_arg6)
abbrev A7 : FVec Ideal S1024x1024 .f32 := m ((c : Thread nD τ).loc main_arg7)
abbrev A8 : FVec Ideal S1024 .f32 := m ((c : Thread nD τ).loc main_arg8)

open Cert.Reference6Ideal.Read in
/-- The residual that the call leaves is the reference's. -/
theorem residual : (dats m 0 c).arrAt 9 cfg0.N = val_main_v10 (F := Ideal) (A0 m c) (A1 m c) (A2 m c) (A3 m c) (A4 m c) (A5 m c) (A6 m c) (A7 m c) := by
  refine (dats m 0 c).arrAt_eq_of_covers 9 _ covers9 fun t hf y => ?_
  blk_simp
  rw [after0_9]
  frame_out
  rw [eq_ix2 y, eq_ix2 (((View.whole main_v4_0).slice (win0_9.rect t)).emb _)]
  pointwise [k0_pay1, k0_pay2, k0_pay3, k0_pay4, val_main_v0, val_main_v1, val_main_v2, val_main_v3, val_main_v4, val_main_v5, val_main_v6, val_main_v7, val_main_v8, val_main_v9, val_main_v10]
  blk_point [iblk, V, idx t]

open Cert.Reference6Ideal.Read in
/-- The normed residual that the call leaves is the reference's. -/
theorem normed : (dats m 0 c).arrAt 10 cfg0.N = val_main_v24 (F := Ideal) (A0 m c) (A1 m c) (A2 m c) (A3 m c) (A4 m c) (A5 m c) (A6 m c) (A7 m c) (A8 m c) := by
  refine (dats m 0 c).arrAt_eq_of_covers 10 _ covers10 fun t hf y => ?_
  blk_simp
  rw [after0_10]
  frame_out
  rw [eq_ix2 y, eq_ix2 (((View.whole main_v4_1).slice (win0_10.rect t)).emb _)]
  pointwise [k0_pay1, k0_pay2, k0_pay3, k0_pay4, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1]
  blk_point [iblk, V, idx t]

end Cert.SampleMerge

end
-- ==== Proof.SampleFinal.lean ====
/- Over the sample, the call that adds the experts' rows and the gated per-layer input, row by row. -/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.SampleFinal
open Cert.Kernel7Ideal Cert.Kernel7Ideal.Gen Idealize.ShloMosaic Idealize.ShloMosaic.TcCoe Idealize.SL.Sem

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

theorem covers : (cfg0.win 6).Covers := by decide +kernel

variable (m : (ℓ : Loc nD τ sig) → Buf (Elt Ideal) ℓ) (c : Dev nD)

/-- The call's arguments. -/
abbrev A0 : FVec Ideal S256x1024 .f32 := m ((c : Thread nD τ).loc main_arg0)
abbrev A1 : FVec Ideal S256x1024 .f32 := m ((c : Thread nD τ).loc main_arg1)
abbrev A2 : FVec Ideal S256x256 .f32 := m ((c : Thread nD τ).loc main_arg2)
abbrev A3 : FVec Ideal S1024 .f32 := m ((c : Thread nD τ).loc main_arg3)
abbrev A4 : FVec Ideal S1024x1024 .f32 := m ((c : Thread nD τ).loc main_arg4)
abbrev A5 : FVec Ideal S256x1024 .f32 := m ((c : Thread nD τ).loc main_arg5)

open Cert.Reference7Ideal.Read in
/-- The array that the call leaves is the reference's. -/
theorem array : (dats m 0 c).arrAt 6 cfg0.N = val_main_v23 (F := Ideal) (A0 m c) (A1 m c) (A2 m c) (A3 m c) (A4 m c) (A5 m c) := by
  refine (dats m 0 c).arrAt_eq_of_covers 6 _ covers fun t hf y => ?_
  blk_simp
  rw [after0_6]
  frame_out
  rw [eq_ix2 y, eq_ix2 (((View.whole main_v3).slice (win0_6.rect t)).emb _)]
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3]
  simp only [zero_sub]
  blk_point [iblk, V, idx t]

end Cert.SampleFinal

end
-- ==== Proof.SampleCalls.lean ====
/- Over the sample, the claims of the projection, of the merge and of the last call. -/
module

public import proofs.«01_k».proof.Defs
public import proofs.«01_k».proof.Proof.Gen.Reference5Ideal.Run
public import proofs.«01_k».proof.Proof.Gen.Reference6Ideal.Run
public import proofs.«01_k».proof.Proof.Gen.Reference7Ideal.Run
public import proofs.«01_k».proof.Proof.SampleProjPlain
public import proofs.«01_k».proof.Proof.SampleProjHeads
public import proofs.«01_k».proof.Proof.SampleMerge
public import proofs.«01_k».proof.Proof.SampleFinal
public import Idealize.ShloMosaic.Lib.Claim

@[expose] public section

set_option maxRecDepth 16384

noncomputable section

namespace Cert.SampleCalls

open Idealize.ShloMosaic Idealize.SL.Sem

theorem frame_proj : Cert.quiescent_Reference5Ideal := fun m g _ =>
  (θ_run Cert.Reference5Ideal.defs _ _).mono (fun r h => ⟨fun c => (h c).2.2.2.2.2.2.2.2.2, sem_eq_zero_of_no_sems (by decide) r.2⟩)
    (Cert.Reference5Ideal.Value.run m g)

set_option maxHeartbeats 4000000 in
theorem proj : Cert.algebraic_Kernel5Ideal_Reference5Ideal := fun m g m' g' _ hagree => by
  refine ⟨fun c => (Cert.Kernel5Ideal.Gen.dats m 0 c).arrAt 12 Cert.Kernel5Ideal.cfg0.N, fun c => (Cert.Kernel5Ideal.Gen.dats m 0 c).arrAt 13 Cert.Kernel5Ideal.cfg0.N, fun c => (Cert.Kernel5Ideal.Gen.dats m 0 c).arrAt 14 Cert.Kernel5Ideal.cfg0.N, fun c => (Cert.Kernel5Ideal.Gen.dats m 0 c).arrAt 15 Cert.Kernel5Ideal.cfg0.N, fun c => (Cert.Kernel5Ideal.Gen.dats m 0 c).arrAt 16 Cert.Kernel5Ideal.cfg0.N, fun c => (Cert.Kernel5Ideal.Gen.dats m 0 c).arrAt 17 Cert.Kernel5Ideal.cfg0.N, fun c => (Cert.Kernel5Ideal.Gen.dats m 0 c).arrAt 18 Cert.Kernel5Ideal.cfg0.N, fun c => (Cert.Kernel5Ideal.Gen.dats m 0 c).arrAt 19 Cert.Kernel5Ideal.cfg0.N, fun c => (Cert.Kernel5Ideal.Gen.dats m 0 c).arrAt 20 Cert.Kernel5Ideal.cfg0.N,
    Cert.Kernel5Ideal.Value.run_blocks m g, ?_⟩
  refine (θ_run Cert.Reference5Ideal.defs _ _).mono (fun r h c => ⟨(h c).1.trans ((Cert.Reference5Ideal.Read.val_main_v88_eq _ _ _ _).trans ?_), (h c).2.1.trans ((Cert.Reference5Ideal.Read.val_main_v89_eq _ _ _ _).trans ?_), (h c).2.2.1.trans ((Cert.Reference5Ideal.Read.val_main_v90_eq _ _ _).trans ?_), (h c).2.2.2.1.trans ((Cert.Reference5Ideal.Read.val_main_v91_eq m' c).trans ?_), (h c).2.2.2.2.1.trans ((Cert.Reference5Ideal.Read.val_main_v93_eq _ _ _ _).trans ?_), (h c).2.2.2.2.2.1.trans ((Cert.Reference5Ideal.Read.val_main_v94_eq _ _ _ _).trans ?_), (h c).2.2.2.2.2.2.1.trans ((Cert.Reference5Ideal.Read.val_main_v95_eq _ _ _).trans ?_), (h c).2.2.2.2.2.2.2.1.trans ((Cert.Reference5Ideal.Read.val_main_v103_eq _ _ _).trans ?_), (h c).2.2.2.2.2.2.2.2.1.trans ((Cert.Reference5Ideal.Read.val_main_v111_eq _ _ _).trans ?_), (h c).2.2.2.2.2.2.2.2.2⟩)
    (Cert.Reference5Ideal.Value.run m' g')
  · obtain ⟨h0, h1, h2, h3, h4, h5, h6, h7⟩ := hagree c
    rw [h0, h1, h2, h4]
    exact (Cert.SampleProj.queries_a m c).symm
  · obtain ⟨h0, h1, h2, h3, h4, h5, h6, h7⟩ := hagree c
    rw [h0, h1, h2, h5]
    exact (Cert.SampleProj.keys_a m c).symm
  · obtain ⟨h0, h1, h2, h3, h4, h5, h6, h7⟩ := hagree c
    rw [h0, h1, h2]
    exact (Cert.SampleProj.values_a m c).symm
  · obtain ⟨h0, h1, h2, h3, h4, h5, h6, h7⟩ := hagree c
    rw [h0, h1, h2, h3]
    exact (Cert.SampleProj.forget m c).symm
  · obtain ⟨h0, h1, h2, h3, h4, h5, h6, h7⟩ := hagree c
    rw [h0, h1, h2, h6]
    exact (Cert.SampleProj.queries_b m c).symm
  · obtain ⟨h0, h1, h2, h3, h4, h5, h6, h7⟩ := hagree c
    rw [h0, h1, h2, h7]
    exact (Cert.SampleProj.keys_b m c).symm
  · obtain ⟨h0, h1, h2, h3, h4, h5, h6, h7⟩ := hagree c
    rw [h0, h1, h2]
    exact (Cert.SampleProj.values_b m c).symm
  · obtain ⟨h0, h1, h2, h3, h4, h5, h6, h7⟩ := hagree c
    rw [h0, h1, h2]
    exact (Cert.SampleProj.gates_a m c).symm
  · obtain ⟨h0, h1, h2, h3, h4, h5, h6, h7⟩ := hagree c
    rw [h0, h1, h2]
    exact (Cert.SampleProj.gates_b m c).symm

theorem frame_merge : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

set_option maxHeartbeats 4000000 in
theorem merge : Cert.algebraic_Kernel6Ideal_Reference6Ideal := fun m g m' g' _ hagree => by
  refine ⟨fun c => (Cert.Kernel6Ideal.Gen.dats m 0 c).arrAt 9 Cert.Kernel6Ideal.cfg0.N, fun c => (Cert.Kernel6Ideal.Gen.dats m 0 c).arrAt 10 Cert.Kernel6Ideal.cfg0.N,
    Cert.Kernel6Ideal.Value.run_blocks m g, ?_⟩
  refine (θ_run Cert.Reference6Ideal.defs _ _).mono (fun r h c => ⟨(h c).1.trans ((Cert.Reference6Ideal.Read.val_main_v10_eq _ _ _ _ _ _ _ _).trans ?_), (h c).2.1.trans ((Cert.Reference6Ideal.Read.val_main_v24_eq _ _ _ _ _ _ _ _ _).trans ?_), (h c).2.2⟩)
    (Cert.Reference6Ideal.Value.run m' g')
  · obtain ⟨h0, h1, h2, h3, h4, h5, h6, h7, h8⟩ := hagree c
    rw [h0, h1, h2, h3, h4, h5, h6, h7]
    exact (Cert.SampleMerge.residual m c).symm
  · obtain ⟨h0, h1, h2, h3, h4, h5, h6, h7, h8⟩ := hagree c
    rw [h0, h1, h2, h3, h4, h5, h6, h7, h8]
    exact (Cert.SampleMerge.normed m c).symm

theorem frame_final : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

set_option maxHeartbeats 4000000 in
theorem final : Cert.algebraic_Kernel7Ideal_Reference7Ideal := fun m g m' g' _ hagree => by
  refine ⟨fun c => (Cert.Kernel7Ideal.Gen.dats m 0 c).arrAt 6 Cert.Kernel7Ideal.cfg0.N,
    Cert.Kernel7Ideal.Value.run_blocks m g, ?_⟩
  refine (θ_run Cert.Reference7Ideal.defs _ _).mono (fun r h c => ⟨(h c).1.trans ((Cert.Reference7Ideal.Read.val_main_v23_eq _ _ _ _ _ _).trans ?_), (h c).2⟩)
    (Cert.Reference7Ideal.Value.run m' g')
  · obtain ⟨h0, h1, h2, h3, h4, h5⟩ := hagree c
    rw [h0, h1, h2, h3, h4, h5]
    exact (Cert.SampleFinal.array m c).symm

end Cert.SampleCalls

end
-- ==== Proof.BandTile.lean ====
/- One query tile of the band attention, as vector operations: the scores of 768 keys for each of a pair's two heads, masked,
   their weights, and the weighted mean of the values. Each piece read at an index, and the blocks the grid points leave. -/
module

public import proofs.«01_k».proof.Proof.TileAt
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Band

open Cert.Kernel8Ideal Cert.Kernel8Ideal.Gen Idealize.ShloMosaic Idealize.ShloMosaic.TcCoe Idealize.SL.Sem

def lower : IVec S256x128 1 :=
  broadcastTo S256x128 (shapeCast S1x128 (cmpi .slt (iota .tc S1x128 32 [1] iota_S1x128_d1_w32) (broadcast S1x128 64#32)) shapeCasts_S1x128_S1x128) broadcasts_S1x128_S256x128
def upper : IVec S256x128 1 :=
  broadcastTo S256x128 (shapeCast S1x128 (cmpi .sge (iota .tc S1x128 32 [1] iota_S1x128_d1_w32) (broadcast S1x128 64#32)) shapeCasts_S1x128_S1x128) broadcasts_S1x128_S256x128

/-- The tile's queries twice over, first with the first head's lanes alone, then with the second's. -/
def twice (q : FVec Ideal S1x256x128 .bf16) : FVec Ideal S512x128 .bf16 :=
  concatenate S512x128 0 [⟨S256x128, select lower (shapeCast S256x128 q shapeCasts_S1x256x128_S256x128) (broadcast S256x128 (Scalar.ofBits .bf16 0x0000#16))⟩,
    ⟨S256x128, select upper (shapeCast S256x128 q shapeCasts_S1x256x128_S256x128) (broadcast S256x128 (Scalar.ofBits .bf16 0x0000#16))⟩]
    concatenates_S256x128_S256x128_S512x128_d0

def dots (q : FVec Ideal S1x256x128 .bf16) (k : FVec Ideal S768x128 .bf16) : FVec Ideal S512x768 .f32 :=
  matmul dot_S512x128_S768x128_S512x768_1_1_0_0_n_n none (twice q) k (constant S512x768 .f32 0x00000000#32)

/-- The products with the bias added, masked before the first key. -/
def masked (e : IVec S1x768 1) (s : FVec Ideal S256x768 .f32) (b : FVec Ideal S1x256x768 .f32) : FVec Ideal S256x768 .f32 :=
  select (broadcastTo S256x768 (shapeCast S1x768 e shapeCasts_S1x768_S1x768) broadcasts_S1x768_S256x768)
    (addf s (shapeCast S256x768 b shapeCasts_S1x256x768_S256x768)) (broadcast S256x768 (Named.named κ "mask" 0xF149F2CA#32))

def s0 (e : IVec S1x768 1) (q : FVec Ideal S1x256x128 .bf16) (k : FVec Ideal S768x128 .bf16) (b : FVec Ideal S1x256x768 .f32) : FVec Ideal S256x768 .f32 :=
  masked e (extractStridedSlice S256x768 ![0, 0] (dots q k) slices_S512x768_o0_0_S256x768) b
def s1 (e : IVec S1x768 1) (q : FVec Ideal S1x256x128 .bf16) (k : FVec Ideal S768x128 .bf16) (b : FVec Ideal S1x256x768 .f32) : FVec Ideal S256x768 .f32 :=
  masked e (extractStridedSlice S256x768 ![256, 0] (dots q k) slices_S512x768_o256_0_S256x768) b

def top (s : FVec Ideal S256x768 .f32) : FVec Ideal S256x1 .f32 :=
  shapeCast S256x1 (multiReduction .maximumf [1] S256 s 0xFF800000#32 reduces_S256x768_S256 (.inl rfl) rfl) shapeCasts_S256_S256x1
def weights (s : FVec Ideal S256x768 .f32) : FVec Ideal S256x768 .f32 :=
  exp (subf s (broadcastTo S256x768 (top s) broadcasts_S256x1_S256x768))
def total (s : FVec Ideal S256x768 .f32) : FVec Ideal S256x1 .f32 :=
  shapeCast S256x1 (multiReduction .add [1] S256 (weights s) 0x00000000#32 reduces_S256x768_S256 (.inl rfl) rfl) shapeCasts_S256_S256x1
def mix (x y : FVec Ideal S256x768 .f32) (v : FVec Ideal S768x128 .bf16) : FVec Ideal S512x128 .f32 :=
  matmul dot_S512x768_S768x128_S512x128_1_0_0_1_n_n none
    (concatenate S512x768 0 [⟨S256x768, truncf .bf16 (weights x) bitsLt_bf16_f32⟩, ⟨S256x768, truncf .bf16 (weights y) bitsLt_bf16_f32⟩] concatenates_S256x768_S256x768_S512x768_d0)
    v (constant S512x128 .f32 0x00000000#32)
def over (o : FVec Ideal S256x128 .f32) (l : FVec Ideal S256x1 .f32) : FVec Ideal S256x128 .f32 :=
  divf o (broadcastTo S256x128 l broadcasts_S256x1_S256x128)

/-- The two heads' results side by side. -/
def pair (x y : FVec Ideal S256x768 .f32) (v : FVec Ideal S768x128 .bf16) : FVec Ideal S1x256x128 .bf16 :=
  shapeCast S1x256x128 (truncf .bf16 (select lower
    (over (extractStridedSlice S256x128 ![0, 0] (mix x y v) slices_S512x128_o0_0_S256x128) (total x))
    (over (extractStridedSlice S256x128 ![256, 0] (mix x y v) slices_S512x128_o256_0_S256x128) (total y))) bitsLt_bf16_f32) shapeCasts_S256x128_S1x256x128

def tile (e : IVec S1x768 1) (q : FVec Ideal S1x256x128 .bf16) (k v : FVec Ideal S768x128 .bf16) (b0 b1 : FVec Ideal S1x256x768 .f32) : FVec Ideal S1x256x128 .bf16 :=
  pair (s0 e q k b0) (s1 e q k b1) v

/-! ## What the grid points leave -/

/-- The padded keys and values kept over a row of tiles. -/
abbrev Kv := Vec Ideal S2560x512 .bf16 × Vec Ideal S2560x512 .bf16

def win (K : Vec Ideal S2560x512 .bf16) (o : Fin 2 → ℕ) (h : ∀ a, o a + S768x128.size a ≤ S2560x512.size a) : FVec Ideal S768x128 .bf16 :=
  View.ld (Val := Elt Ideal) (S := S2560x512) (e' := .bf16) K (Rect.unit (s := S2560x512) o S768x128.size h)
def lanes (q : Vec Ideal S1x256x512 .bf16) (o : Fin 3 → ℕ) (h : ∀ a, o a + S1x256x128.size a ≤ S1x256x512.size a) : FVec Ideal S1x256x128 .bf16 :=
  View.ld (Val := Elt Ideal) (S := S1x256x512) (e' := .bf16) q (Rect.unit (s := S1x256x512) o S1x256x128.size h)
def table (b : Vec Ideal S8x256x768 .f32) (o : Fin 3 → ℕ) (h : ∀ a, o a + S1x256x768.size a ≤ S8x256x768.size a) : FVec Ideal S1x256x768 .f32 :=
  View.ld (Val := Elt Ideal) (S := S8x256x768) (e' := .f32) b (Rect.unit (s := S8x256x768) o S1x256x768.size h)

def tiles (i : grid0.Coords) (q : Vec Ideal S1x256x512 .bf16) (b : Vec Ideal S8x256x768 .f32) (S : Kv) : Vec Ideal S1x256x512 .bf16 :=
  View.canon (Val := Elt Ideal) (s := S1x256x512) (e := .bf16)
    [⟨Rect.unit (s := S1x256x512) ![0, 0, 384] S1x256x128.size inb_S1x256x512_S1x256x128_0_0_384,
      tile (k0_pay7 i) (lanes q ![0, 0, 384] inb_S1x256x512_S1x256x128_0_0_384) (win S.1 (k0_off4 i) (k0_off4_inb i)) (win S.2 (k0_off4 i) (k0_off4_inb i))
        (table b ![6, 0, 0] inb_S8x256x768_S1x256x768_6_0_0) (table b ![7, 0, 0] inb_S8x256x768_S1x256x768_7_0_0)⟩,
     ⟨Rect.unit (s := S1x256x512) ![0, 0, 256] S1x256x128.size inb_S1x256x512_S1x256x128_0_0_256,
      tile (k0_pay7 i) (lanes q ![0, 0, 256] inb_S1x256x512_S1x256x128_0_0_256) (win S.1 (k0_off3 i) (k0_off3_inb i)) (win S.2 (k0_off3 i) (k0_off3_inb i))
        (table b ![4, 0, 0] inb_S8x256x768_S1x256x768_4_0_0) (table b ![5, 0, 0] inb_S8x256x768_S1x256x768_5_0_0)⟩,
     ⟨Rect.unit (s := S1x256x512) ![0, 0, 128] S1x256x128.size inb_S1x256x512_S1x256x128_0_0_128,
      tile (k0_pay7 i) (lanes q ![0, 0, 128] inb_S1x256x512_S1x256x128_0_0_128) (win S.1 (k0_off2 i) (k0_off2_inb i)) (win S.2 (k0_off2 i) (k0_off2_inb i))
        (table b ![2, 0, 0] inb_S8x256x768_S1x256x768_2_0_0) (table b ![3, 0, 0] inb_S8x256x768_S1x256x768_3_0_0)⟩,
     ⟨Rect.unit (s := S1x256x512) ![0, 0, 0] S1x256x128.size inb_S1x256x512_S1x256x128_0_0_0,
      tile (k0_pay7 i) (lanes q ![0, 0, 0] inb_S1x256x512_S1x256x128_0_0_0) (win S.1 (k0_off1 i) (k0_off1_inb i)) (win S.2 (k0_off1 i) (k0_off1_inb i))
        (table b ![0, 0, 0] inb_S8x256x768_S1x256x768_0_0_0) (table b ![1, 0, 0] inb_S8x256x768_S1x256x768_1_0_0)⟩]

variable (m : (ℓ : Loc nD τ sig) → Buf (Elt Ideal) ℓ) (c : Dev nD)

/-- What the first tile of a row keeps: 512 rows of zeros, then the keys, and the values. -/
def fresh (t : Fin cfg0.N) : Kv :=
  (View.canon (Val := Elt Ideal) (s := S2560x512) (e := .bf16) [⟨Rect.unit ![512, 0] ![2048, 512] inb_S2560x512_S2048x512_512_0, k0_pay5 (iblk m c 1 t)⟩,
      ⟨Rect.unit ![0, 0] ![512, 512] inb_S2560x512_S512x512_0_0, k0_pay3 (F := Ideal)⟩],
   View.canon (Val := Elt Ideal) (s := S2560x512) (e := .bf16) [⟨Rect.unit ![512, 0] ![2048, 512] inb_S2560x512_S2048x512_512_0, k0_pay6 (iblk m c 2 t)⟩,
      ⟨Rect.unit ![0, 0] ![512, 512] inb_S2560x512_S512x512_0_0, k0_pay4 (F := Ideal)⟩])

theorem keep_B (t : Fin cfg0.N) (h0 : ¬t.val % 8 = 0)  :
    (outsAt0 m c t.val t.isLt).2 = (outsAt0 m c (t.val - 1) (Nat.lt_of_le_of_lt (Nat.sub_le _ _) t.isLt)).2 := by
  rw [outsAt0_B m c t h0]
  rfl
theorem keep_A (t : Fin cfg0.N) (h0 : t.val % 8 = 0) : (outsAt0 m c t.val t.isLt).2 = fresh m c t := by
  rw [outsAt0_A m c t h0]
  refine Prod.ext ?_ ?_
  · frame_out
  · frame_out
set_option maxHeartbeats 1000000 in
theorem out_B (t : Fin cfg0.N) (h0 : ¬t.val % 8 = 0) :
    (outsAt0 m c t.val t.isLt).1 = tiles (grid0.coords t) (iblk m c 0 t) (iblk m c 3 t) (outsAt0 m c (t.val - 1) (Nat.lt_of_le_of_lt (Nat.sub_le _ _) t.isLt)).2 := by
  rw [outsAt0_B m c t h0]
  frame_out
  simp only [Idealize.ShloMosaic.read_unread_whole]
  generalize (outsAt0 m c (t.val - 1) _).2 = S
  generalize iblk m c 0 t = q
  generalize iblk m c 3 t = b
  dsimp only [tiles, tile, pair, over, mix, total, weights, top, s0, s1, masked, dots, twice, lower, upper, win, lanes, table, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay1]
  refine congrArg _ (List.cons_eq_cons.mpr ⟨?_, List.cons_eq_cons.mpr ⟨?_, List.cons_eq_cons.mpr ⟨?_, List.cons_eq_cons.mpr ⟨?_, rfl⟩⟩⟩⟩) <;>
    refine congrArg (Sigma.mk _) ?_ <;> with_reducible congr 60
  all_goals first
    | with_reducible exact Memref.IsWhole.read_unread _ _
    | with_reducible exact Idealize.ShloMosaic.read_unread_whole _ _ _
    | with_reducible refine congrArg (fun s : FVec Ideal S256x768 .f32 => multiReduction (F := Ideal) .maximumf [1] S256 s 0xFF800000#32 reduces_S256x768_S256 (.inl rfl) rfl) ?_
      with_reducible congr 60
  all_goals first
    | with_reducible exact Memref.IsWhole.read_unread _ _
    | with_reducible exact Idealize.ShloMosaic.read_unread_whole _ _ _
set_option maxHeartbeats 1000000 in
theorem out_A (t : Fin cfg0.N) (h0 : t.val % 8 = 0) :
    (outsAt0 m c t.val t.isLt).1 = tiles (grid0.coords t) (iblk m c 0 t) (iblk m c 3 t) (fresh m c t) := by
  rw [outsAt0_A m c t h0]
  frame_out
  generalize iblk m c 0 t = q
  generalize iblk m c 3 t = b
  generalize iblk m c 1 t = k
  generalize iblk m c 2 t = v
  dsimp only [tiles, tile, pair, over, mix, total, weights, top, s0, s1, masked, dots, twice, lower, upper, win, lanes, table, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay1]
  refine congrArg _ (List.cons_eq_cons.mpr ⟨?_, List.cons_eq_cons.mpr ⟨?_, List.cons_eq_cons.mpr ⟨?_, List.cons_eq_cons.mpr ⟨?_, rfl⟩⟩⟩⟩) <;>
    refine congrArg (Sigma.mk _) ?_ <;> with_reducible congr 60
  all_goals first
    | with_reducible exact Memref.IsWhole.read_unread _ _
    | with_reducible refine (View.read_writes_junk_eq_canon _ _).trans ?_
      frame_out
    | with_reducible refine congrArg (fun s : FVec Ideal S256x768 .f32 => multiReduction (F := Ideal) .maximumf [1] S256 s 0xFF800000#32 reduces_S256x768_S256 (.inl rfl) rfl) ?_
      with_reducible congr 60
  all_goals first
    | with_reducible exact Memref.IsWhole.read_unread _ _
    | with_reducible refine (View.read_writes_junk_eq_canon _ _).trans ?_
      frame_out

end Cert.Band

end
-- ==== Proof.BandAt.lean ====
/- The vector operations of a band tile, read at an index. -/
module

public import proofs.«01_k».proof.Proof.BandTile

@[expose] public section

set_option maxRecDepth 16384

noncomputable section

namespace Cert.Band

open Cert.Kernel8Ideal Cert.Kernel8Ideal.Gen Idealize.ShloMosaic Idealize.ShloMosaic.TcCoe Idealize.SL.Sem

theorem twice_first (q : FVec Ideal S1x256x128 .bf16) (r : Fin 256) (d : Fin 128) :
    twice q (ix2 ⟨r.val, by omega⟩ d) = if d.val < 64 then (q (ix3 0 r d) : EReal) else 0 := by
  unfold twice; pointwise [lower, upper]
  exact Tile.pick_lt (by omega) (by omega) _ _
theorem twice_second (q : FVec Ideal S1x256x128 .bf16) (r : Fin 256) (d : Fin 128) :
    twice q (ix2 ⟨256 + r.val, by omega⟩ d) = if 64 ≤ d.val then (q (ix3 0 r d) : EReal) else 0 := by
  unfold twice; pointwise [lower, upper]
  exact Tile.pick_ge (by omega) (by omega) _ _
theorem dots_at (q : FVec Ideal S1x256x128 .bf16) (k : FVec Ideal S768x128 .bf16) (r : Fin 512) (j : Fin 768) :
    dots q k (ix2 r j) = ∑ d : Fin 128, (twice q (ix2 r d) : EReal) * k (ix2 j d) := by
  unfold dots; pointwise []
theorem masked_at (e : IVec S1x768 1) (s : FVec Ideal S256x768 .f32) (b : FVec Ideal S1x256x768 .f32) (r : Fin 256) (j : Fin 768) :
    masked e s b (ix2 r j) = Scalar.select (e (ix2 0 j)) ((s (ix2 r j) : EReal) + b (ix3 0 r j)) (⊥ : EReal) := by
  unfold masked; pointwise []
  rfl
theorem s0_at (e : IVec S1x768 1) (q : FVec Ideal S1x256x128 .bf16) (k : FVec Ideal S768x128 .bf16) (b : FVec Ideal S1x256x768 .f32) (r : Fin 256) (j : Fin 768) :
    s0 e q k b (ix2 r j) = Scalar.select (e (ix2 0 j)) ((dots q k (ix2 ⟨r.val, by omega⟩ j) : EReal) + b (ix3 0 r j)) (⊥ : EReal) := by
  unfold s0; rw [masked_at]; pointwise []
theorem s1_at (e : IVec S1x768 1) (q : FVec Ideal S1x256x128 .bf16) (k : FVec Ideal S768x128 .bf16) (b : FVec Ideal S1x256x768 .f32) (r : Fin 256) (j : Fin 768) :
    s1 e q k b (ix2 r j) = Scalar.select (e (ix2 0 j)) ((dots q k (ix2 ⟨256 + r.val, by omega⟩ j) : EReal) + b (ix3 0 r j)) (⊥ : EReal) := by
  unfold s1; rw [masked_at]; pointwise []
theorem top_at (s : FVec Ideal S256x768 .f32) (r : Fin 256) :
    top s (ix2 r 0) = Finset.univ.fold max (⊥ : EReal) fun k : Fin 768 => s (ix2 r k) := by
  unfold top; pointwise []
  rw [Tile.lowest]
theorem weights_at (s : FVec Ideal S256x768 .f32) (r : Fin 256) (j : Fin 768) :
    weights s (ix2 r j) = Ideal.exp ((s (ix2 r j) : EReal) - top s (ix2 r 0)) := by
  unfold weights; pointwise []
theorem total_at (s : FVec Ideal S256x768 .f32) (r : Fin 256) :
    total s (ix2 r 0) = ∑ k : Fin 768, (weights s (ix2 r k) : EReal) := by
  unfold total; pointwise []
theorem mix_first (x y : FVec Ideal S256x768 .f32) (v : FVec Ideal S768x128 .bf16) (r : Fin 256) (d : Fin 128) :
    mix x y v (ix2 ⟨r.val, by omega⟩ d) = ∑ k : Fin 768, (weights x (ix2 r k) : EReal) * v (ix2 k d) := by
  unfold mix; pointwise []
theorem mix_second (x y : FVec Ideal S256x768 .f32) (v : FVec Ideal S768x128 .bf16) (r : Fin 256) (d : Fin 128) :
    mix x y v (ix2 ⟨256 + r.val, by omega⟩ d) = ∑ k : Fin 768, (weights y (ix2 r k) : EReal) * v (ix2 k d) := by
  unfold mix; pointwise []

/-- A row's weighted values over its weights. -/
def quot (f : Fin 768 → EReal) (w : Fin 768 → EReal) : EReal :=
  Ideal.div (∑ k : Fin 768, Ideal.exp (f k - Finset.univ.fold max (⊥ : EReal) f) * w k) (∑ k : Fin 768, Ideal.exp (f k - Finset.univ.fold max (⊥ : EReal) f))

theorem pair_at (x y : FVec Ideal S256x768 .f32) (v : FVec Ideal S768x128 .bf16) (r : Fin 256) (d : Fin 128) :
    pair x y v (ix3 0 r d) = if d.val < 64 then quot (fun k => x (ix2 r k)) (fun k => v (ix2 k d)) else quot (fun k => y (ix2 r k)) (fun k => v (ix2 k d)) := by
  have hx : ∀ z : FVec Ideal S256x768 .f32, ∀ k, (weights z (ix2 r k) : EReal) = Ideal.exp (z (ix2 r k) - Finset.univ.fold max (⊥ : EReal) fun k : Fin 768 => (z (ix2 r k) : EReal)) := fun z k => by
    rw [weights_at, top_at]
  have e : pair x y v (ix3 0 r d) = if d.val < 64 then Ideal.div (mix x y v (ix2 ⟨r.val, by omega⟩ d)) (total x (ix2 r 0)) else Ideal.div (mix x y v (ix2 ⟨256 + r.val, by omega⟩ d)) (total y (ix2 r 0)) := by
    unfold pair over; pointwise [lower]
    exact Tile.pick_lt (by omega) (by omega) _ _
  rw [e, mix_first, mix_second, total_at, total_at]
  simp only [hx]
  rfl

theorem win_at (K : Vec Ideal S2560x512 .bf16) (o : Fin 2 → ℕ) (h) (a b : ℕ) (e : o = ![a, b]) (j : Fin 768) (d : Fin 128) (ha : a + j.val < 2560) (hb : b + d.val < 512) :
    win K o h (ix2 j d) = K (ix2 ⟨a + j.val, ha⟩ ⟨b + d.val, hb⟩) := by
  subst e; unfold win; rw [View.ld_unit]; pointwise []
theorem lanes_at (q : Vec Ideal S1x256x512 .bf16) (b : ℕ) (h) (r : Fin 256) (d : Fin 128) (hb : b + d.val < 512) :
    lanes q ![0, 0, b] h (ix3 0 r d) = q (ix3 0 r ⟨b + d.val, hb⟩) := by
  unfold lanes; rw [View.ld_unit]; pointwise []
theorem table_at (t : Vec Ideal S8x256x768 .f32) (b : ℕ) (h) (r : Fin 256) (j : Fin 768) (hb : b < 8) :
    table t ![b, 0, 0] h (ix3 0 r j) = t (ix3 ⟨b, hb⟩ r j) := by
  unfold table; rw [View.ld_unit]; pointwise []
theorem exists_word : ∀ q : Fin 8, ∀ j : Fin 768, IntOp.cmpi .sge (BitVec.ofNat 32 j.val) (Scalar.subi (512#32) (Scalar.muli (BitVec.ofNat 32 q.val) 256#32))
    = BitVec.ofBool (decide (512 ≤ q.val * 256 + j.val)) := by
  decide +kernel
/-- A window's key exists if it is no earlier than the first. -/
theorem exists_at (i : grid0.Coords) (q : ℕ) (hq : (i 1).val = q) (h8 : q < 8) (j : Fin 768) {α : Type} (x y : α) :
    Scalar.select (k0_pay7 i (ix2 0 j)) x y = if 512 ≤ q * 256 + j.val then x else y := by
  pointwise [k0_pay7]
  rw [hq, exists_word ⟨q, h8⟩ j, WordCmp.select_ofBool]
  simp
theorem off_word : ∀ q : Fin 8, (Scalar.indexCast (Scalar.muli (BitVec.ofNat 32 q.val) 256#32)).toNat = q.val * 256 := by
  decide +kernel
theorem off_at (i : grid0.Coords) (q : ℕ) (hq : (i 1).val = q) (h8 : q < 8) :
    k0_off1 i = ![q * 256, 0] ∧ k0_off2 i = ![q * 256, 128] ∧ k0_off3 i = ![q * 256, 256] ∧ k0_off4 i = ![q * 256, 384] := by
  have e := off_word ⟨q, h8⟩
  subst hq
  exact ⟨congrArg (fun n => ![n, 0]) e, congrArg (fun n => ![n, 128]) e, congrArg (fun n => ![n, 256]) e, congrArg (fun n => ![n, 384]) e⟩

end Cert.Band

end
-- ==== Proof.BandBias.lean ====
/- The table of the bias as the host lays it out before the band call, read at a head, a query of the tile and a key of the window. -/
module

public import proofs.«01_k».proof.Proof.BandTile
public import proofs.«01_k».proof.Proof.Heads

@[expose] public section

set_option maxRecDepth 16384

noncomputable section

namespace Cert.Band

open Cert.Kernel8Ideal Cert.Kernel8Ideal.Gen Idealize.ShloMosaic Idealize.ShloMosaic.TcCoe Idealize.SL.Sem

variable (m : (ℓ : Loc nD τ sig) → Buf (Elt Ideal) ℓ) (c : Dev nD)

/-- The host's table gathers the columns of the bias. -/
theorem gathered {α : Type} (x : S8x257.Idx → α) (w : IVec S1023x1 32) (h : Fin 8) (n : Fin 1023) :
    Host.gather gather_S8x257_S1023x1_S8x1023_0_1_n_n_1_1_81 x w (ix2 h n) = x (ix2 h ⟨min (w (ix2 n 0)).toInt.toNat 256, by omega⟩) := by
  unfold Host.gather
  congr 1
  funext a
  refine Fin.ext ?_
  show gather_S8x257_S1023x1_S8x1023_0_1_n_n_1_1_81.start (ix2 h n) w a + gather_S8x257_S1023x1_S8x1023_0_1_n_n_1_1_81.batchCoord (ix2 h n) a
      + gather_S8x257_S1023x1_S8x1023_0_1_n_n_1_1_81.offCoord (ix2 h n) a = _
  match a with
  | ⟨0, _⟩ =>
    rw [GatherDims.batchCoord_eq_zero _ _ _ (fun h => by simp [gather_S8x257_S1023x1_S8x1023_0_1_n_n_1_1_81] at h)]
    unfold GatherDims.start
    rw [dif_neg (show (⟨0, by decide⟩ : Fin 2) ∉ gather_S8x257_S1023x1_S8x1023_0_1_n_n_1_1_81.startIndexMap from by decide)]
    show 0 + 0 + h.val = h.val
    omega
  | ⟨1, _⟩ =>
    rw [GatherDims.batchCoord_eq_zero _ _ _ (fun h => by simp [gather_S8x257_S1023x1_S8x1023_0_1_n_n_1_1_81] at h),
      GatherDims.offCoord_eq_zero _ _ _ (fun h => ((GatherDims.mem_sKept _ _).mp h).1 (List.mem_singleton.mpr rfl))]
    unfold GatherDims.start
    rw [dif_pos (show (⟨1, by decide⟩ : Fin 2) ∈ gather_S8x257_S1023x1_S8x1023_0_1_n_n_1_1_81.startIndexMap from List.mem_singleton.mpr rfl)]
    have e : gather_S8x257_S1023x1_S8x1023_0_1_n_n_1_1_81.siIdx (ix2 h n) ⟨List.idxOf (⟨1, by decide⟩ : Fin 2) gather_S8x257_S1023x1_S8x1023_0_1_n_n_1_1_81.startIndexMap,
        List.idxOf_lt_length_iff.2 (List.mem_singleton.mpr rfl)⟩ = ix2 n 0 := by
      funext b; refine Fin.ext ?_
      match b with
      | ⟨0, _⟩ => rfl
      | ⟨1, _⟩ => rfl
    rw [e]
    rfl

theorem lt (t : Fin cfg0.N) : t.val < 256 := t.isLt
set_option maxRecDepth 65536 in
theorem idx : ∀ t : Fin cfg0.N, win0_0.index t = ![t.val / 8, t.val % 8, 0] ∧ win0_1.index t = ![t.val / 8, 0, 0]
    ∧ win0_2.index t = ![t.val / 8, 0, 0] ∧ win0_3.index t = ![0, 0, 0] ∧ win0_4.index t = ![t.val / 8, t.val % 8, 0] ∧ (grid0.coords t 1).val = t.val % 8 := by
  show ∀ t : Fin grid0.N, _
  decide +kernel

theorem bias_block (t : Fin cfg0.N) (h : Fin 8) (i : Fin 256) (j : Fin 768) : iblk m c 3 t (ix3 h i j) = V m c main_v41 (ix3 h i j) := by
  blk_ext [iblk, idx t]

/-- The call's arguments. -/
abbrev Bq : FVec Ideal S32x2048x512 .bf16 := m ((c : Thread nD τ).loc main_arg0)
abbrev Bk : FVec Ideal S32x2048x512 .f32 := m ((c : Thread nD τ).loc main_arg1)
abbrev Bv : FVec Ideal S32x2048x512 .f32 := m ((c : Thread nD τ).loc main_arg2)
abbrev Br : FVec Ideal S8x257 .f32 := m ((c : Thread nD τ).loc main_arg3)

theorem band_word : ∀ a : Fin 4, ∀ j : Fin 768,
    IntOp.andi (IntOp.cmpi CmpIPredicate.sge (BitVec.ofNat 32 j.val) (IntOp.muli (BitVec.ofNat 32 a.val) 64#32))
      (IntOp.cmpi CmpIPredicate.slt (BitVec.ofNat 32 j.val) (IntOp.addi (IntOp.addi (IntOp.muli (BitVec.ofNat 32 a.val) 64#32) 512#32) 64#32))
      = BitVec.ofBool (decide (a.val * 64 ≤ j.val ∧ j.val < a.val * 64 + 576)) := by
  decide +kernel

/-- The column of the bias as the host's words compute it: clipped to 128 on both sides, then counted from the lowest. -/
def clip (w : BitVec 32) : BitVec 32 :=
  Scalar.select (IntOp.cmpi CmpIPredicate.slt (IntOp.addi (IntOp.minsi (128#32) (IntOp.maxsi (4294967168#32) w)) 128#32) 0#32)
    (IntOp.addi (IntOp.addi (IntOp.minsi (128#32) (IntOp.maxsi (4294967168#32) w)) 128#32) 257#32)
    (IntOp.addi (IntOp.minsi (128#32) (IntOp.maxsi (4294967168#32) w)) 128#32)

theorem window_word : ∀ n : Fin 1023, min (clip (IntOp.subi (IntOp.subi (BitVec.ofNat 32 n.val) 255#32) 512#32)).toInt.toNat 256 = min (n.val - 639) 256 := by
  decide +kernel

theorem bias_at (h : Fin 8) (i : Fin 256) (j : Fin 768) :
    V m c main_v41 (ix3 h i j) = if i.val / 64 * 64 ≤ j.val ∧ j.val < i.val / 64 * 64 + 576
      then (Br m c) (ix2 h ⟨min (j.val - (384 + i.val)) 256, by omega⟩) else (⊥ : EReal) := by
  generalize hR : (if i.val / 64 * 64 ≤ j.val ∧ j.val < i.val / 64 * 64 + 576 then (Br m c) (ix2 h ⟨min (j.val - (384 + i.val)) 256, by omega⟩) else (⊥ : EReal)) = R
  simp only [V, hostOps0, hostOps0_1, hostOps0_2, hostOps0_3, hostOps0_4, hostOps0_5, List.flatten_cons, List.flatten_nil, List.append_nil, List.cons_append, List.nil_append]
  entry_read
  simp only [StableHlo.TRef.ofBuf_toBuf, StableHlo.TRef.ofBuf, StableHlo.TRef.toBuf, cast_eq]
  pointwise []
  have hw := Heads.head_word ⟨i.val, by omega⟩
  generalize hG : Host.gather gather_S8x257_S1023x1_S8x1023_0_1_n_n_1_1_81 _ _ _ = G
  refine (congrArg (fun w : BitVec 32 => Scalar.select (IntOp.andi (IntOp.cmpi .sge (BitVec.ofNat 32 j.val) (IntOp.muli w 64#32))
    (IntOp.cmpi .slt (BitVec.ofNat 32 j.val) (IntOp.addi (IntOp.addi (IntOp.muli w 64#32) 512#32) 64#32))) G (Ideal.ofBits FTy.f32 4286578688#32)) hw).trans ?_
  dsimp only
  rw [band_word ⟨i.val / 64, by omega⟩ j, WordCmp.select_ofBool, ← hR, Tile.lowest]
  simp only [decide_eq_true_eq]
  refine if_congr Iff.rfl ?_ rfl
  rw [← hG]
  refine Eq.trans (congrArg (a₂ := ix2 h ⟨255 - i.val + j.val, by omega⟩) (Host.gather gather_S8x257_S1023x1_S8x1023_0_1_n_n_1_1_81 _ _) ?_) ?_
  · funext a
    refine Fin.ext ?_
    match a with
    | ⟨0, _⟩ => rfl
    | ⟨1, _⟩ =>
      show (i.rev.val * 1024 + j.val) % 1023 = 255 - i.val + j.val
      rw [Fin.val_rev]
      omega
  refine (gathered _ _ h _).trans ?_
  refine congrArg (fun k : Fin 257 => Br m c (ix2 h k)) (Fin.ext ?_)
  show min _ 256 = min (j.val - (384 + i.val)) 256
  pointwise []
  exact (window_word ⟨255 - i.val + j.val, by omega⟩).trans (by show min (255 - i.val + j.val - 639) 256 = _; omega)

end Cert.Band

end
-- ==== Proof.BandMath.lean ====
/- The arithmetic of one row of band attention, away from any program: scores that count at some keys only, the
   weighted mean of the values over all keys, and the same mean over a window that holds every key counted. -/
module

public import proofs.«01_k».proof.Proof.Softmax

@[expose] public section

noncomputable section

namespace Cert.Band

open Idealize.ShloMosaic Cert.Softmax

variable (p : ℕ → Prop) [DecidablePred p] (x : ℕ → ℝ)

/-- The score of key `k`: real where it counts, the lowest elsewhere. -/
def bs (k : ℕ) : EReal := if p k then (x k : EReal) else ⊥
/-- The weight of key `k` against the level `M`. -/
def bw (M : ℝ) (k : ℕ) : ℝ := if p k then Real.exp (x k - M) else 0

theorem bw_nonneg (M : ℝ) (k : ℕ) : 0 ≤ bw p x M k := by
  unfold bw; split
  · exact (Real.exp_pos _).le
  · exact le_rfl
theorem exp_bs (M : ℝ) (k : ℕ) : Ideal.exp (bs p x k - (M : EReal)) = (bw p x M k : EReal) := by
  unfold bs bw; split
  · rw [← EReal.coe_sub, Ideal.exp_coe]
  · rw [EReal.bot_sub, Ideal.exp_bot, EReal.coe_zero]
theorem bw_level (m M : ℝ) (k : ℕ) : Real.exp (m - M) * bw p x m k = bw p x M k := by
  unfold bw; split
  · rw [← Real.exp_add]; congr 1; ring
  · rw [mul_zero]
theorem bs_ne_top (k : ℕ) : bs p x k ≠ ⊤ := by
  unfold bs; split
  exacts [EReal.coe_ne_top _, bot_ne_top]
theorem bw_sum_pos (M : ℝ) (N k₀ : ℕ) (hk : k₀ < N) (h : p k₀) : 0 < ∑ k ∈ Finset.range N, bw p x M k := by
  refine Finset.sum_pos' (fun k _ => bw_nonneg p x M k) ⟨k₀, Finset.mem_range.mpr hk, ?_⟩
  unfold bw; rw [if_pos h]; exact Real.exp_pos _

/-- The mean of the values under the weights. -/
def mean (v : ℕ → EReal) (N : ℕ) : EReal :=
  (((∑ k ∈ Finset.range N, bw p x 0 k)⁻¹ : ℝ) : EReal) * ∑ k ∈ Finset.range N, (bw p x 0 k : EReal) * v k

theorem mean_level (v : ℕ → EReal) (N k₀ : ℕ) (hk : k₀ < N) (h : p k₀) (M : ℝ) :
    (((∑ k ∈ Finset.range N, bw p x M k)⁻¹ : ℝ) : EReal) * ∑ k ∈ Finset.range N, (bw p x M k : EReal) * v k = mean p x v N := by
  have hL := bw_sum_pos p x 0 N k₀ hk h
  have he : ∀ k, bw p x M k = Real.exp (0 - M) * bw p x 0 k := fun k => (bw_level p x 0 M k).symm
  have h1 : ∑ k ∈ Finset.range N, bw p x M k = Real.exp (0 - M) * ∑ k ∈ Finset.range N, bw p x 0 k := by
    rw [Finset.mul_sum]; exact Finset.sum_congr rfl fun k _ => he k
  have h2 : ∑ k ∈ Finset.range N, (bw p x M k : EReal) * v k = (Real.exp (0 - M) : EReal) * ∑ k ∈ Finset.range N, (bw p x 0 k : EReal) * v k := by
    rw [coe_mul_sum _ _ (Real.exp_pos _).le]
    refine Finset.sum_congr rfl fun k _ => ?_
    rw [he k, EReal.coe_mul, mul_assoc]
  rw [h1, h2, ← mul_assoc, ← EReal.coe_mul]
  unfold mean
  congr 2
  have := (Real.exp_pos (0 - M)).ne'
  field_simp

/-- The weights normalised one by one, then summed against the values. -/
theorem direct {N : ℕ} (v : ℕ → EReal) (k₀ : Fin N) (h : p k₀) (s : Fin N → EReal) (hs : ∀ k : Fin N, s k = bs p x k) :
    ∑ k : Fin N, v k * Ideal.div (Ideal.exp (s k - Finset.univ.fold max (⊥ : EReal) s)) (∑ k : Fin N, Ideal.exp (s k - Finset.univ.fold max (⊥ : EReal) s))
      = mean p x v N := by
  obtain ⟨m, hm⟩ := fold_max_real s (fun k => by rw [hs k]; exact bs_ne_top p x k) k₀ (by rw [hs]; unfold bs; rw [if_pos h]; exact EReal.coe_ne_bot _)
  have he : ∀ k : Fin N, Ideal.exp (s k - Finset.univ.fold max (⊥ : EReal) s) = (bw p x m k : EReal) := fun k => by
    rw [hm, hs k, exp_bs]
  simp only [he]
  rw [← coe_sum, Fin.sum_univ_eq_sum_range (fun k => bw p x m k) N]
  have hL := bw_sum_pos p x m N k₀ k₀.isLt h
  rw [← mean_level p x v N k₀ k₀.isLt h m, coe_mul_sum _ _ (inv_nonneg.mpr hL.le),
    ← Fin.sum_univ_eq_sum_range (fun k => (((∑ k ∈ Finset.range N, bw p x m k)⁻¹ : ℝ) : EReal) * ((bw p x m k : EReal) * v k)) N]
  refine Finset.sum_congr rfl fun k _ => ?_
  rw [div_real hL.ne', mul_comm, mul_assoc]

/-- A sum over all keys is the sum over a window of the padded keys that holds every key at which the summand is not zero. -/
theorem window_sum {α : Type} [AddCommMonoid α] (f : ℕ → α) (a W N : ℕ) (hN : a + W ≤ 512 + N) (hf : ∀ k, ¬(a ≤ k + 512 ∧ k + 512 < a + W) → f k = 0) :
    ∑ k ∈ Finset.range N, f k = ∑ j ∈ Finset.range W, if 512 ≤ a + j then f (a + j - 512) else 0 := by
  let g : ℕ → α := fun P => if 512 ≤ P then f (P - 512) else 0
  have e1 : ∑ P ∈ Finset.range (512 + N), g P = ∑ k ∈ Finset.range N, f k := by
    rw [Finset.sum_range_add, Finset.sum_eq_zero fun P hP => if_neg (by have := Finset.mem_range.mp hP; omega), zero_add]
    refine Finset.sum_congr rfl fun k _ => ?_
    show (if 512 ≤ 512 + k then f (512 + k - 512) else 0) = _
    rw [if_pos (by omega), Nat.add_sub_cancel_left]
  have e2 : ∑ P ∈ Finset.range (512 + N), g P = ∑ j ∈ Finset.range W, g (a + j) := by
    rw [show 512 + N = a + W + (512 + N - (a + W)) from by omega, Finset.sum_range_add, Finset.sum_range_add,
      Finset.sum_eq_zero (s := Finset.range a) fun P hP => ?_, Finset.sum_eq_zero (s := Finset.range (512 + N - (a + W))) fun P hP => ?_, zero_add, add_zero]
    · show (if _ then _ else _) = _
      split
      · exact hf _ (by omega)
      · rfl
    · have := Finset.mem_range.mp hP
      show (if _ then _ else _) = _
      split
      · exact hf _ (by omega)
      · rfl
  rw [← e1, e2]

/-- The mean over a window of `W` padded keys from `a` on. -/
theorem window {W : ℕ} (v : ℕ → EReal) (a N : ℕ) (hN : a + W ≤ 512 + N) (hp : ∀ k, p k → a ≤ k + 512 ∧ k + 512 < a + W)
    (k₀ : ℕ) (hk : k₀ < N) (h : p k₀) (f : Fin W → EReal) (hf : ∀ j : Fin W, f j = if 512 ≤ a + j.val then bs p x (a + j.val - 512) else ⊥)
    (w : Fin W → EReal) (hw : ∀ j : Fin W, 512 ≤ a + j.val → w j = v (a + j.val - 512)) :
    Ideal.div (∑ j : Fin W, Ideal.exp (f j - Finset.univ.fold max (⊥ : EReal) f) * w j) (∑ j : Fin W, Ideal.exp (f j - Finset.univ.fold max (⊥ : EReal) f))
      = mean p x v N := by
  have hh := hp k₀ h
  obtain ⟨m, hm⟩ := fold_max_real f (fun j => by rw [hf j]; split; exacts [bs_ne_top p x _, bot_ne_top]) ⟨k₀ + 512 - a, by omega⟩ (by
    rw [hf]
    have e : a + (k₀ + 512 - a) - 512 = k₀ := by omega
    rw [if_pos (by simp only; omega)]
    simp only [e]
    unfold bs; rw [if_pos h]; exact EReal.coe_ne_bot _)
  have he : ∀ j : Fin W, Ideal.exp (f j - Finset.univ.fold max (⊥ : EReal) f) = ((if 512 ≤ a + j.val then bw p x m (a + j.val - 512) else 0 : ℝ) : EReal) := fun j => by
    rw [hm, hf j]
    split
    · exact exp_bs p x m _
    · rw [EReal.bot_sub, Ideal.exp_bot, EReal.coe_zero]
  have h1 : ∑ j : Fin W, Ideal.exp (f j - Finset.univ.fold max (⊥ : EReal) f) = ((∑ k ∈ Finset.range N, bw p x m k : ℝ) : EReal) := by
    rw [window_sum (fun k => bw p x m k) a W N hN fun k hk => if_neg fun hk' => hk (hp k hk'), ← Fin.sum_univ_eq_sum_range (fun j => if 512 ≤ a + j then bw p x m (a + j - 512) else 0) W, coe_sum]
    exact Finset.sum_congr rfl fun j _ => he j
  have h2 : ∑ j : Fin W, Ideal.exp (f j - Finset.univ.fold max (⊥ : EReal) f) * w j = ∑ k ∈ Finset.range N, (bw p x m k : EReal) * v k := by
    rw [window_sum (fun k => (bw p x m k : EReal) * v k) a W N hN fun k hk => by
        show ((if _ then _ else _ : ℝ) : EReal) * _ = 0
        rw [if_neg fun hk' => hk (hp k hk'), EReal.coe_zero, zero_mul], ← Fin.sum_univ_eq_sum_range (fun j => if 512 ≤ a + j then (bw p x m (a + j - 512) : EReal) * v (a + j - 512) else 0) W]
    refine Finset.sum_congr rfl fun j _ => ?_
    rw [he j]
    by_cases hj : 512 ≤ a + j.val
    · rw [if_pos hj, if_pos hj, hw j hj]
    · rw [if_neg hj, if_neg hj, EReal.coe_zero, zero_mul]
  rw [h1, h2, div_real (bw_sum_pos p x m N k₀ hk h).ne', mean_level p x v N k₀ hk h m]

end Cert.Band

end
-- ==== Proof.BandState.lean ====
/- What each grid point of the band call leaves in its output block, and the call's result as one array. -/
module

public import proofs.«01_k».proof.Proof.BandAt
public import proofs.«01_k».proof.Proof.BandBias
public import proofs.«01_k».proof.Proof.BandMath
public import proofs.«01_k».proof.Proof.Output

@[expose] public section

set_option maxRecDepth 16384

noncomputable section

namespace Cert.Band

open Cert.Kernel8Ideal Cert.Kernel8Ideal.Gen Idealize.ShloMosaic Idealize.ShloMosaic.TcCoe Idealize.SL.Sem
open Cert.State (nat512 nat512_at keys values query0 query1)
open Cert.Output (dot dot0 dot1)

/-- Key `k` lies in the band of query `i`: from eight chunks of 64 before the query's own to its end. -/
abbrev inBand (i k : ℕ) : Prop := i / 64 * 64 ≤ k + 512 ∧ k < i / 64 * 64 + 64
instance (i : ℕ) : DecidablePred (inBand i) := fun k => inferInstanceAs (Decidable (i / 64 * 64 ≤ k + 512 ∧ k < i / 64 * 64 + 64))

/-- The bias of head `h` at a column, nothing outside the heads. -/
def col (br : S8x257.Idx → ℝ) (h n : ℕ) : ℝ := if g : h < 8 then br (ix2 ⟨h, g⟩ ⟨min n 256, by omega⟩) else 0
/-- The score of key `k` for query `i`, in the band. -/
def xs (qr kr : S32x2048x512.Idx → ℝ) (br : S8x257.Idx → ℝ) (b h i k : ℕ) : ℝ := dot qr kr b h i k + col br h (k + 128 - i)
/-- One entry of the result. -/
def bentry (qr kr : S32x2048x512.Idx → ℝ) (v : S32x2048x512.Idx → EReal) (br : S8x257.Idx → ℝ) (b i n : ℕ) : EReal :=
  mean (inBand i) (xs qr kr br b (n / 64) i) (fun k => nat512 v b k n) 2048

/-! ## One tile -/

/-- What a tile reads: its queries in row `r`, keys and values from padded position `a` on, and the bias of the pair's heads. -/
structure Reads (e : IVec S1x768 1) (Q : FVec Ideal S1x256x128 .bf16) (K V : FVec Ideal S768x128 .bf16) (b0 b1 : FVec Ideal S1x256x768 .f32)
    (qr kr : S32x2048x512.Idx → ℝ) (v : S32x2048x512.Idx → EReal) (br : S8x257.Idx → ℝ) (b p a : ℕ) (r : Fin 256) : Prop where
  q : ∀ d : Fin 128, Q (ix3 0 r d) = ((nat512 qr b (a + r.val) (p * 128 + d.val) : ℝ) : EReal)
  k : ∀ (j : Fin 768) (d : Fin 128), 512 ≤ a + j.val → K (ix2 j d) = ((keys kr b p (a + j.val - 512) d : ℝ) : EReal)
  v : ∀ (j : Fin 768) (d : Fin 128), 512 ≤ a + j.val → V (ix2 j d) = values v b p d (a + j.val - 512)
  b0 : ∀ j : Fin 768, b0 (ix3 0 r j) = if r.val / 64 * 64 ≤ j.val ∧ j.val < r.val / 64 * 64 + 576 then ((col br (2 * p) (j.val - (384 + r.val)) : ℝ) : EReal) else ⊥
  b1 : ∀ j : Fin 768, b1 (ix3 0 r j) = if r.val / 64 * 64 ≤ j.val ∧ j.val < r.val / 64 * 64 + 576 then ((col br (2 * p + 1) (j.val - (384 + r.val)) : ℝ) : EReal) else ⊥
  e : ∀ (j : Fin 768) (x y : EReal), Scalar.select (e (ix2 0 j)) x y = if 512 ≤ a + j.val then x else y

/-- A row of products and biases, as scores of the keys. -/
theorem row_at (a q : ℕ) (ha : a = q * 256) (r : Fin 256) (x : ℕ → ℝ) (c : ℕ → ℝ) (f : Fin 768 → EReal) (s b : Fin 768 → EReal)
    (hf : ∀ j, f j = if 512 ≤ a + j.val then s j + b j else ⊥) (hs : ∀ j, 512 ≤ a + j.val → s j = ((x (a + j.val - 512) : ℝ) : EReal))
    (hb : ∀ j, b j = if r.val / 64 * 64 ≤ j.val ∧ j.val < r.val / 64 * 64 + 576 then ((c (j.val - (384 + r.val)) : ℝ) : EReal) else ⊥) (j : Fin 768) :
    f j = if 512 ≤ a + j.val then bs (inBand (a + r.val)) (fun k => x k + c (k + 128 - (a + r.val))) (a + j.val - 512) else ⊥ := by
  rw [hf]
  by_cases h : 512 ≤ a + j.val
  · rw [if_pos h, if_pos h, hs j h, hb j]
    unfold bs
    by_cases g : r.val / 64 * 64 ≤ j.val ∧ j.val < r.val / 64 * 64 + 576
    · rw [if_pos g, if_pos (show inBand (a + r.val) (a + j.val - 512) from by constructor <;> omega), ← EReal.coe_add]
      show _ = ((x (a + j.val - 512) + c (a + j.val - 512 + 128 - (a + r.val)) : ℝ) : EReal)
      rw [show a + j.val - 512 + 128 - (a + r.val) = j.val - (384 + r.val) from by omega]
    · rw [if_neg g, if_neg (show ¬inBand (a + r.val) (a + j.val - 512) from fun g' => g (by have := g'.1; have := g'.2; omega)), EReal.add_bot]
  · rw [if_neg h, if_neg h]

variable {qr kr : S32x2048x512.Idx → ℝ} {v : S32x2048x512.Idx → EReal} {br : S8x257.Idx → ℝ}

theorem first_dot {e Q K V b0 b1 b p a r} (R : Reads e Q K V b0 b1 qr kr v br b p a r) (j : Fin 768) (h : 512 ≤ a + j.val) :
    (dots Q K (ix2 ⟨r.val, by omega⟩ j) : EReal) = ((dot qr kr b (2 * p) (a + r.val) (a + j.val - 512) : ℝ) : EReal) := by
  rw [dots_at, ← dot0, Softmax.coe_sum]
  refine Finset.sum_congr rfl fun d _ => ?_
  rw [twice_first, R.k j d h, R.q d, EReal.coe_mul]
  unfold query0
  split
  · rfl
  · rw [EReal.coe_zero]
theorem second_dot {e Q K V b0 b1 b p a r} (R : Reads e Q K V b0 b1 qr kr v br b p a r) (j : Fin 768) (h : 512 ≤ a + j.val) :
    (dots Q K (ix2 ⟨256 + r.val, by omega⟩ j) : EReal) = ((dot qr kr b (2 * p + 1) (a + r.val) (a + j.val - 512) : ℝ) : EReal) := by
  rw [dots_at, ← dot1, Softmax.coe_sum]
  refine Finset.sum_congr rfl fun d _ => ?_
  rw [twice_second, R.k j d h, R.q d, EReal.coe_mul]
  unfold query1
  split
  · rfl
  · rw [EReal.coe_zero]

theorem tile_at {e Q K V b0 b1 b p a r} (R : Reads e Q K V b0 b1 qr kr v br b p a r) (q : ℕ) (ha : a = q * 256) (hq : q < 8) (d : Fin 128) :
    tile e Q K V b0 b1 (ix3 0 r d) = bentry qr kr v br b (a + r.val) (p * 128 + d.val) := by
  unfold tile
  rw [pair_at]
  have hr := r.isLt
  have own : inBand (a + r.val) (a + r.val) := by constructor <;> omega
  have inside : ∀ k, inBand (a + r.val) k → a ≤ k + 512 ∧ k + 512 < a + 768 := fun k hk => by
    have := hk.1; have := hk.2
    constructor <;> omega
  unfold bentry
  by_cases hd : d.val < 64
  · rw [if_pos hd, show (p * 128 + d.val) / 64 = 2 * p from by omega]
    exact window (inBand (a + r.val)) (xs qr kr br b (2 * p) (a + r.val)) _ a 2048 (by omega) inside (a + r.val) (by omega) own _
      (row_at a q ha r (dot qr kr b (2 * p) (a + r.val)) (col br (2 * p)) _ (fun j => dots Q K (ix2 ⟨r.val, by omega⟩ j)) (fun j => b0 (ix3 0 r j))
        (fun j => (s0_at _ _ _ _ _ _).trans (R.e j _ _)) (fun j h => first_dot R j h) R.b0) _ (fun j h => R.v j d h)
  · rw [if_neg hd, show (p * 128 + d.val) / 64 = 2 * p + 1 from by omega]
    exact window (inBand (a + r.val)) (xs qr kr br b (2 * p + 1) (a + r.val)) _ a 2048 (by omega) inside (a + r.val) (by omega) own _
      (row_at a q ha r (dot qr kr b (2 * p + 1) (a + r.val)) (col br (2 * p + 1)) _ (fun j => dots Q K (ix2 ⟨256 + r.val, by omega⟩ j)) (fun j => b1 (ix3 0 r j))
        (fun j => (s1_at _ _ _ _ _ _).trans (R.e j _ _)) (fun j h => second_dot R j h) R.b1) _ (fun j h => R.v j d h)

/-! ## The grid points -/

variable (m : (ℓ : Loc nD τ sig) → Buf (Elt Ideal) ℓ) (c : Dev nD)

theorem q_block (t : Fin cfg0.N) (r : Fin 256) (n : Fin 512) :
    iblk m c 0 t (ix3 0 r n) = Bq m c (ix3 ⟨t.val / 8, by have := lt t; omega⟩ ⟨t.val % 8 * 256 + r.val, by omega⟩ n) := by
  blk_ext [iblk, V, idx t]
theorem k_block (t : Fin cfg0.N) (j : Fin 2048) (n : Fin 512) :
    iblk m c 1 t (ix3 0 j n) = Bk m c (ix3 ⟨t.val / 8, by have := lt t; omega⟩ j n) := by
  blk_ext [iblk, V, idx t]
theorem v_block (t : Fin cfg0.N) (j : Fin 2048) (n : Fin 512) :
    iblk m c 2 t (ix3 0 j n) = Bv m c (ix3 ⟨t.val / 8, by have := lt t; omega⟩ j n) := by
  blk_ext [iblk, V, idx t]

/-- The first point of point `t`'s row. -/
def base (t : Fin cfg0.N) : Fin cfg0.N := ⟨t.val / 8 * 8, lt_of_le_of_lt (by omega) t.isLt⟩

/-- Along a row every point keeps what the first one set. -/
theorem kept (n : ℕ) (hn : n < cfg0.N) : (outsAt0 m c n hn).2 = fresh m c (base ⟨n, hn⟩) := by
  induction n using Nat.strong_induction_on with
  | _ n ih =>
    by_cases h : n % 8 = 0
    · rw [keep_A m c ⟨n, hn⟩ h]
      congr 1
      exact Fin.ext (by simp only [base]; omega)
    · rw [keep_B m c ⟨n, hn⟩ h, ih (n - 1) (by omega) _]
      congr 1
      exact Fin.ext (by simp only [base]; omega)

theorem out_tiles (t : Fin cfg0.N) : (outsAt0 m c t.val t.isLt).1 = tiles (grid0.coords t) (iblk m c 0 t) (iblk m c 3 t) (fresh m c (base t)) := by
  by_cases h : t.val % 8 = 0
  · rw [out_A m c t h]
    congr 2
    exact Fin.ext (by simp only [base]; omega)
  · rw [out_B m c t h, kept]
    congr 2
    exact Fin.ext (by simp only [base]; omega)

theorem pad_at (x : FVec Ideal S2048x512 .bf16) (L) (j : ℕ) (n : Fin 512) (hj : 512 ≤ j) (hj' : j < 2560) :
    View.canon (Val := Elt Ideal) (s := S2560x512) (e := .bf16) (⟨Rect.unit ![512, 0] ![2048, 512] inb_S2560x512_S2048x512_512_0, x⟩ :: L) (ix2 ⟨j, hj'⟩ n)
      = x (ix2 ⟨j - 512, by omega⟩ n) := by
  refine Eq.trans (congrArg _ ?_) (View.canon_cons_emb (Rect.unit (s := S2560x512) ![512, 0] ![2048, 512] inb_S2560x512_S2048x512_512_0) x L (ix2 ⟨j - 512, by omega⟩ n))
  funext a
  refine Fin.ext ?_
  rw [Rect.emb_apply]
  match a with
  | ⟨0, _⟩ => show j = 512 + 1 * (j - 512); omega
  | ⟨1, _⟩ => show n.val = 0 + 1 * n.val; omega

theorem kb_at (x : Vec Ideal S1x2048x512 .f32) (j : Fin 2048) (n : Fin 512) : k0_pay5 (F := Ideal) x (ix2 j n) = x (ix3 0 j n) := by
  pointwise [k0_pay5]
theorem vb_at (x : Vec Ideal S1x2048x512 .f32) (j : Fin 2048) (n : Fin 512) : k0_pay6 (F := Ideal) x (ix2 j n) = x (ix3 0 j n) := by
  pointwise [k0_pay6]

end Cert.Band

end
-- ==== Proof.BandOut.lean ====
/- The band call's result as one array: each grid point's block is its tiles, each tile's entries the means over the bands. -/
module

public import proofs.«01_k».proof.Proof.BandState

@[expose] public section

set_option maxRecDepth 16384

noncomputable section

namespace Cert.Band

open Cert.Kernel8Ideal Cert.Kernel8Ideal.Gen Idealize.ShloMosaic Idealize.ShloMosaic.TcCoe Idealize.SL.Sem
open Cert.State (nat512 nat512_at keys values)

theorem covers : (cfg0.win 4).Covers := by decide +kernel

theorem fresh_k (m : (ℓ : Loc nD τ sig) → Buf (Elt Ideal) ℓ) (c : Dev nD) (t : Fin cfg0.N) (j : ℕ) (n : Fin 512) (hj : 512 ≤ j) (hj' : j < 2560) :
    (fresh m c t).1 (ix2 ⟨j, hj'⟩ n) = Bk m c (ix3 ⟨t.val / 8, by have := lt t; omega⟩ ⟨j - 512, by omega⟩ n) := by
  rw [fresh]
  dsimp only
  generalize hx : k0_pay5 (F := Ideal) (iblk m c 1 t) = x
  rw [pad_at x _ j n hj hj', ← hx, kb_at]
  exact k_block m c t _ _
theorem fresh_v (m : (ℓ : Loc nD τ sig) → Buf (Elt Ideal) ℓ) (c : Dev nD) (t : Fin cfg0.N) (j : ℕ) (n : Fin 512) (hj : 512 ≤ j) (hj' : j < 2560) :
    (fresh m c t).2 (ix2 ⟨j, hj'⟩ n) = Bv m c (ix3 ⟨t.val / 8, by have := lt t; omega⟩ ⟨j - 512, by omega⟩ n) := by
  rw [fresh]
  dsimp only
  generalize hx : k0_pay6 (F := Ideal) (iblk m c 2 t) = x
  rw [pad_at x _ j n hj hj', ← hx, vb_at]
  exact v_block m c t _ _

/-- The call's result. -/
def out (qr kr : S32x2048x512.Idx → ℝ) (v : S32x2048x512.Idx → EReal) (br : S8x257.Idx → ℝ) : Vec Ideal S32x2048x512 .bf16 :=
  fun y => bentry qr kr v br (y 0).val (y 1).val (y 2).val

variable {m : (ℓ : Loc nD τ sig) → Buf (Elt Ideal) ℓ} {c : Dev nD}
variable {qr kr : S32x2048x512.Idx → ℝ} {br : S8x257.Idx → ℝ}

/-- The queries, the keys and the bias are real. -/
structure Reals (m : (ℓ : Loc nD τ sig) → Buf (Elt Ideal) ℓ) (c : Dev nD) (qr kr : S32x2048x512.Idx → ℝ) (br : S8x257.Idx → ℝ) : Prop where
  q : ∀ i, Bq m c i = ((qr i : ℝ) : EReal)
  k : ∀ i, Bk m c i = ((kr i : ℝ) : EReal)
  r : ∀ i, Br m c i = ((br i : ℝ) : EReal)

theorem bias_real (H : Reals m c qr kr br) (t : Fin cfg0.N) (h : ℕ) (hh : h < 8) (r : Fin 256) (j : Fin 768) :
    iblk m c 3 t (ix3 ⟨h, hh⟩ r j) = if r.val / 64 * 64 ≤ j.val ∧ j.val < r.val / 64 * 64 + 576 then ((col br h (j.val - (384 + r.val)) : ℝ) : EReal) else ⊥ := by
  refine ((bias_block m c t _ r j).trans (bias_at m c _ r j)).trans (if_congr Iff.rfl ?_ rfl)
  rw [H.r]
  unfold col
  rw [dif_pos hh]

theorem reads (H : Reals m c qr kr br) (t : Fin cfg0.N) (r : Fin 256) (p : ℕ) (hp : p < 4) (o : Fin 2 → ℕ) (ho) (e : o = ![t.val % 8 * 256, p * 128]) (hl) (h0) (h1) :
    Reads (k0_pay7 (grid0.coords t)) (lanes (iblk m c 0 t) ![0, 0, p * 128] hl) (win (fresh m c (base t)).1 o ho) (win (fresh m c (base t)).2 o ho)
      (table (iblk m c 3 t) ![2 * p, 0, 0] h0) (table (iblk m c 3 t) ![2 * p + 1, 0, 0] h1) qr kr (Bv m c) br (t.val / 8) p (t.val % 8 * 256) r := by
  have ht := lt t
  have hr := r.isLt
  have hb : (base t).val / 8 = t.val / 8 := by simp only [base]; omega
  refine ⟨fun d => ?_, fun j d h => ?_, fun j d h => ?_, fun j => ?_, fun j => ?_, fun j x y => ?_⟩
  · rw [lanes_at _ _ _ _ _ (show p * 128 + d.val < 512 by omega), q_block, H.q, nat512_at qr _ _ _ (by omega) (by omega) (by omega)]
  · have hj := j.isLt
    rw [win_at _ _ _ _ _ e j d (by omega) (show p * 128 + d.val < 512 by omega), fresh_k m c (base t) _ _ h (by omega), H.k]
    unfold keys
    rw [nat512_at kr _ _ _ (by omega) (by omega) (by omega)]
    refine congrArg (fun b : Fin 32 => ((kr (ix3 b _ _) : ℝ) : EReal)) (Fin.ext hb)
  · have hj := j.isLt
    rw [win_at _ _ _ _ _ e j d (by omega) (show p * 128 + d.val < 512 by omega), fresh_v m c (base t) _ _ h (by omega)]
    unfold values
    rw [nat512_at (Bv m c) _ _ _ (by omega) (by omega) (by omega)]
    refine congrArg (fun b : Fin 32 => Bv m c (ix3 b _ _)) (Fin.ext hb)
  · rw [table_at _ _ _ _ _ (show 2 * p < 8 by omega)]
    exact bias_real H t _ _ r j
  · rw [table_at _ _ _ _ _ (show 2 * p + 1 < 8 by omega)]
    exact bias_real H t _ _ r j
  · exact exists_at _ _ (idx t).2.2.2.2.2 (by omega) j x y

theorem hit (b : ℕ) (h : ∀ a, ![0, 0, b] a + S1x256x128.size a ≤ S1x256x512.size a) (w : FVec Ideal S1x256x128 .bf16) (L) (r : Fin 256) (n : Fin 512) (hb : b ≤ n.val) (hn : n.val - b < 128) :
    View.canon (Val := Elt Ideal) (s := S1x256x512) (e := .bf16) (⟨Rect.unit (s := S1x256x512) ![0, 0, b] S1x256x128.size h, w⟩ :: L) (ix3 0 r n)
      = w (ix3 0 r ⟨n.val - b, hn⟩) := by
  refine Eq.trans (congrArg _ ?_) (View.canon_cons_emb (Rect.unit (s := S1x256x512) ![0, 0, b] S1x256x128.size h) w L (ix3 0 r ⟨n.val - b, hn⟩))
  funext a
  refine Fin.ext ?_
  rw [Rect.emb_apply]
  match a with
  | ⟨0, _⟩ => rfl
  | ⟨1, _⟩ => show r.val = 0 + 1 * r.val; omega
  | ⟨2, _⟩ => show n.val = b + 1 * (n.val - b); omega

theorem miss (b : ℕ) (h : ∀ a, ![0, 0, b] a + S1x256x128.size a ≤ S1x256x512.size a) (w : FVec Ideal S1x256x128 .bf16) (L) (r : Fin 256) (n : Fin 512) (hb : n.val < b) :
    View.canon (Val := Elt Ideal) (s := S1x256x512) (e := .bf16) (⟨Rect.unit (s := S1x256x512) ![0, 0, b] S1x256x128.size h, w⟩ :: L) (ix3 0 r n)
      = View.canon (Val := Elt Ideal) (s := S1x256x512) (e := .bf16) L (ix3 0 r n) := by
  refine View.canon_cons_of_not_mem _ L ?_
  intro hm
  obtain ⟨i, hi, he⟩ := (LoadRect.mem_set _).mp hm (2 : Fin 3)
  have he' : n.val = b + 1 * i := he
  omega

theorem out_at (H : Reals m c qr kr br) (t : Fin cfg0.N) (r : Fin 256) (n : Fin 512) :
    (outsAt0 m c t.val t.isLt).1 (ix3 0 r n) = bentry qr kr (Bv m c) br (t.val / 8) (t.val % 8 * 256 + r.val) n.val := by
  rw [out_tiles]
  have hn := n.isLt
  have o := off_at (grid0.coords t) _ (idx t).2.2.2.2.2 (by omega)
  unfold tiles
  by_cases h3 : 384 ≤ n.val
  · rw [hit 384 _ _ _ r n h3 (by omega)]
    exact (tile_at (reads H t r 3 (by omega) _ _ o.2.2.2 _ _ _) _ rfl (by omega) _).trans (congrArg (bentry qr kr (Bv m c) br _ _) (by show 3 * 128 + (n.val - 384) = _; omega))
  rw [miss 384 _ _ _ r n (by omega)]
  by_cases h2 : 256 ≤ n.val
  · rw [hit 256 _ _ _ r n h2 (by omega)]
    exact (tile_at (reads H t r 2 (by omega) _ _ o.2.2.1 _ _ _) _ rfl (by omega) _).trans (congrArg (bentry qr kr (Bv m c) br _ _) (by show 2 * 128 + (n.val - 256) = _; omega))
  rw [miss 256 _ _ _ r n (by omega)]
  by_cases h1 : 128 ≤ n.val
  · rw [hit 128 _ _ _ r n h1 (by omega)]
    exact (tile_at (reads H t r 1 (by omega) _ _ o.2.1 _ _ _) _ rfl (by omega) _).trans (congrArg (bentry qr kr (Bv m c) br _ _) (by show 1 * 128 + (n.val - 128) = _; omega))
  rw [miss 128 _ _ _ r n (by omega), hit 0 _ _ _ r n (by omega) (by omega)]
  exact (tile_at (reads H t r 0 (by omega) _ _ o.1 _ _ _) _ rfl (by omega) _).trans (congrArg (bentry qr kr (Bv m c) br _ _) (by show 0 * 128 + (n.val - 0) = _; omega))

theorem array (H : Reals m c qr kr br) : (dats m 0 c).arrAt 4 cfg0.N = out qr kr (Bv m c) br := by
  refine (dats m 0 c).arrAt_eq_of_covers 4 _ covers fun t hf y => ?_
  blk_simp
  rw [after0_4]
  have key : ∀ y : S1x256x512.Idx, (outsAt0 m c t.val t.isLt).1 y
      = bentry qr kr (Bv m c) br (t.val / 8) (t.val % 8 * 256 + (y 1).val) (y 2).val := fun y => by
    have hy : y = ix3 0 (y 1) (y 2) := by
      funext a
      fin_cases a
      · exact Subsingleton.elim (α := Fin 1) _ _
      · rfl
      · rfl
    rw [hy]
    exact out_at H t (y 1) (y 2)
  refine (key y).trans ?_
  unfold out
  blk_simp [idx t]

end Cert.Band

end
-- ==== Proof.BandWords.lean ====
/- The words with which the band reference computes a position's chunk, its band and the column of its bias, as numbers. -/
module

public import proofs.«01_k».proof.Proof.BandBias

@[expose] public section

set_option maxRecDepth 16384

noncomputable section

namespace Cert.Band

open Idealize.ShloMosaic

theorem chunk_word : ∀ a : Fin 32, ∀ b : Fin 64,
    Scalar.select
      (IntOp.andi
        (IntOp.cmpi CmpIPredicate.ne
          (if BitVec.ofNat 32 (a.val * 64 + b.val) = 0 then (0 : BitVec 32) else if (BitVec.ofNat 32 (a.val * 64 + b.val)).msb = true then -1 else 1)
          (if 64#32 = 0 then (0 : BitVec 32) else if (64#32).msb = true then -1 else 1))
        (IntOp.cmpi CmpIPredicate.ne (IntOp.remsi ArithUnit.host (BitVec.ofNat 32 (a.val * 64 + b.val)) 64#32) 0#32))
      (IntOp.subi (IntOp.divsi ArithUnit.host (BitVec.ofNat 32 (a.val * 64 + b.val)) 64#32) 1#32)
      (IntOp.divsi ArithUnit.host (BitVec.ofNat 32 (a.val * 64 + b.val)) 64#32) = BitVec.ofNat 32 a.val := by
  decide +kernel

theorem chunk_far : ∀ a : Fin 24, IntOp.subi (IntOp.muli (BitVec.ofNat 32 (a.val + 8)) 64#32) 512#32 = BitVec.ofNat 32 (a.val * 64) := by
  decide +kernel
theorem chunk_near : ∀ a : Fin 8, ∀ b : Fin 32, ∀ c : Fin 64,
    IntOp.cmpi CmpIPredicate.sge (BitVec.ofNat 32 (b.val * 64 + c.val)) (IntOp.subi (IntOp.muli (BitVec.ofNat 32 a.val) 64#32) 512#32) = 1#1 := by
  decide +kernel
theorem chunk_end : ∀ a : Fin 32, IntOp.addi (IntOp.muli (BitVec.ofNat 32 a.val) 64#32) 64#32 = BitVec.ofNat 32 (a.val * 64 + 64) := by
  decide +kernel

theorem both_bits (p q : Prop) [Decidable p] [Decidable q] : IntOp.andi (BitVec.ofBool (decide p)) (BitVec.ofBool (decide q)) = BitVec.ofBool (decide (p ∧ q)) := by
  by_cases hp : p <;> by_cases hq : q <;> simp [hp, hq, IntOp.andi]

theorem whole_word (a k : ℕ) (ha : a < 32) (hk : k < 2048) :
    IntOp.andi (IntOp.cmpi CmpIPredicate.sge (BitVec.ofNat 32 k) (IntOp.subi (IntOp.muli (BitVec.ofNat 32 a) 64#32) 512#32))
      (IntOp.cmpi CmpIPredicate.slt (BitVec.ofNat 32 k) (IntOp.addi (IntOp.muli (BitVec.ofNat 32 a) 64#32) 64#32))
      = BitVec.ofBool (decide (a * 64 ≤ k + 512 ∧ k < a * 64 + 64)) := by
  rw [chunk_end ⟨a, ha⟩, WordCmp.cmpi_slt_ofNat (w := 32) (by omega) (by simp only; omega), ← both_bits]
  congr 1
  rcases Nat.lt_or_ge a 8 with h | h
  · have e := chunk_near ⟨a, h⟩ ⟨k / 64, by omega⟩ ⟨k % 64, by omega⟩
    simp only at e
    rw [show k / 64 * 64 + k % 64 = k from by omega] at e
    rw [e, decide_eq_true (by omega)]
    rfl
  · have e := chunk_far ⟨a - 8, by omega⟩
    simp only at e
    rw [show a - 8 + 8 = a from by omega] at e
    rw [e, WordCmp.cmpi_sge_ofNat (w := 32) (by omega) (by omega)]
    congr 1
    exact decide_eq_decide.mpr (by omega)

theorem after_word : ∀ a : Fin 32, ∀ b : Fin 64, min (clip (BitVec.ofNat 32 (a.val * 64 + b.val))).toInt.toNat 256 = min (a.val * 64 + b.val + 128) 256 := by
  decide +kernel
theorem before_word : ∀ a : Fin 32, ∀ b : Fin 64, min (clip (0#32 - BitVec.ofNat 32 (a.val * 64 + b.val))).toInt.toNat 256 = 128 - (a.val * 64 + b.val) := by
  decide +kernel

theorem column_word (i k : ℕ) (hi : i < 2048) (hk : k < 2048) :
    min (clip (IntOp.subi (BitVec.ofNat 32 k) (BitVec.ofNat 32 i))).toInt.toNat 256 = min (k + 128 - i) 256 := by
  rcases Nat.le_total i k with h | h
  · have e : IntOp.subi (BitVec.ofNat 32 k) (BitVec.ofNat 32 i) = BitVec.ofNat 32 ((k - i) / 64 * 64 + (k - i) % 64) := by
      apply BitVec.eq_of_toNat_eq
      simp only [IntOp.subi, BitVec.toNat_sub, BitVec.toNat_ofNat]
      omega
    rw [e]
    refine (after_word ⟨(k - i) / 64, by omega⟩ ⟨(k - i) % 64, by omega⟩).trans ?_
    simp only
    omega
  · have e : IntOp.subi (BitVec.ofNat 32 k) (BitVec.ofNat 32 i) = 0#32 - BitVec.ofNat 32 ((i - k) / 64 * 64 + (i - k) % 64) := by
      apply BitVec.eq_of_toNat_eq
      simp only [IntOp.subi, BitVec.toNat_sub, BitVec.toNat_ofNat]
      omega
    rw [e]
    refine (before_word ⟨(i - k) / 64, by omega⟩ ⟨(i - k) % 64, by omega⟩).trans ?_
    simp only
    omega

end Cert.Band

end
-- ==== Proof.BandReference.lean ====
/- The band's reference, read entry by entry: the attention of each head over its band, the relative bias added to the scores. -/
module

public import proofs.«01_k».proof.Proof.Gen.Reference8Ideal.Read
public import proofs.«01_k».proof.Proof.BandOut
public import proofs.«01_k».proof.Proof.BandWords
public import proofs.«01_k».proof.Proof.TileAt

@[expose] public section

set_option maxRecDepth 16384

noncomputable section

namespace Cert.BandReference
open Cert.Reference8Ideal Cert.Reference8Ideal.Gen Cert.Reference8Ideal.Read Idealize.ShloMosaic Idealize.ShloMosaic.TcCoe Idealize.SL.Sem Cert.Softmax
open Cert.State (nat512 nat512_at)
open Cert.Output (dot)
open Cert.Band (inBand col xs bentry bs mean direct clip chunk_word whole_word column_word)

/-! ## Words -/

theorem chunk_at (y : S2048.Idx) : val_main_v20 (F := Ideal) y = BitVec.ofNat 32 ((y 0).val / 64) := by
  have hy : (y 0).val < 2048 := (y 0).isLt
  have e := chunk_word ⟨(y 0).val / 64, by omega⟩ ⟨(y 0).val % 64, by omega⟩
  simp only at e
  rw [show (y 0).val / 64 * 64 + (y 0).val % 64 = (y 0).val from by omega] at e
  refine Eq.trans ?_ e
  rw [val_main_v20_apply, val_main_call1_v11_apply, val_main_call1_v6_apply, val_main_call1_v5_apply, val_main_call1_v10_apply, val_main_call1_v8_apply,
    val_main_call1_v7_apply, val_main_call1_v9_apply, val_main_call1_v13_apply, val_main_call1_v12_apply, val_main_call1_v2_apply, val_main_call1_v1_apply]
  rfl

theorem mask_at (i k : Fin 2048) : val_main_v37 (F := Ideal) (ix2 i k) = BitVec.ofBool (decide (inBand i.val k.val)) := by
  refine Eq.trans ?_ (whole_word (i.val / 64) k.val (by have := i.isLt; omega) k.isLt)
  rw [val_main_v37_apply, val_main_v29_apply, val_main_v27_apply, val_main_v23_apply, val_main_v28_apply, val_main_v26_apply, val_main_v24_apply,
    val_main_v22_apply, val_main_v21_apply, val_main_v25_apply, val_main_v36_apply, val_main_v34_apply, val_main_v30_apply, val_main_v35_apply,
    val_main_v33_apply, val_main_v31_apply, val_main_v22_apply, val_main_v21_apply, val_main_v32_apply, chunk_at]
  rfl

theorem column_at (i k : Fin 2048) : val_main_v17 (F := Ideal) (ix2 i k) = clip (IntOp.subi (BitVec.ofNat 32 k.val) (BitVec.ofNat 32 i.val)) := by
  rw [val_main_v17_apply, val_main_v14_apply, val_main_v16_apply, val_main_v13_apply, val_main_v15_apply, val_main_v12_apply, val_main_v11_apply,
    val_main_v10_apply, val_main_call0_v4_apply, val_main_call0_v2_apply, val_main_call0_v1_apply, val_main_v9_apply, val_main_v7_apply, val_main_v8_apply,
    val_main_v5_apply, val_main_v6_apply]
  rfl

theorem pick (p : Prop) [Decidable p] (x y : EReal) : Scalar.select (BitVec.ofBool (decide p)) x y = if p then x else y := by
  by_cases h : p <;> simp [h, Scalar.select]

/-- The reference gathers the columns of the bias for every query and key. -/
theorem gathered {α : Type} (x : S8x257.Idx → α) (w : IVec S2048x2048x1 32) (h : Fin 8) (i k : Fin 2048) :
    Host.gather gather_S8x257_S2048x2048x1_S8x2048x2048_0_1_n_n_1_2_81 x w (ix3 h i k) = x (ix2 h ⟨min (w (ix3 i k 0)).toInt.toNat 256, by omega⟩) := by
  unfold Host.gather
  congr 1
  funext a
  refine Fin.ext ?_
  show gather_S8x257_S2048x2048x1_S8x2048x2048_0_1_n_n_1_2_81.start (ix3 h i k) w a + gather_S8x257_S2048x2048x1_S8x2048x2048_0_1_n_n_1_2_81.batchCoord (ix3 h i k) a + gather_S8x257_S2048x2048x1_S8x2048x2048_0_1_n_n_1_2_81.offCoord (ix3 h i k) a = _
  match a with
  | ⟨0, _⟩ =>
    rw [GatherDims.batchCoord_eq_zero _ _ _ (fun h => by simp [gather_S8x257_S2048x2048x1_S8x2048x2048_0_1_n_n_1_2_81] at h)]
    unfold GatherDims.start
    rw [dif_neg (show (⟨0, by decide⟩ : Fin 2) ∉ gather_S8x257_S2048x2048x1_S8x2048x2048_0_1_n_n_1_2_81.startIndexMap from by decide)]
    show 0 + 0 + h.val = h.val
    omega
  | ⟨1, _⟩ =>
    rw [GatherDims.batchCoord_eq_zero _ _ _ (fun h => by simp [gather_S8x257_S2048x2048x1_S8x2048x2048_0_1_n_n_1_2_81] at h),
      GatherDims.offCoord_eq_zero _ _ _ (fun h => ((GatherDims.mem_sKept _ _).mp h).1 (List.mem_singleton.mpr rfl))]
    unfold GatherDims.start
    rw [dif_pos (show (⟨1, by decide⟩ : Fin 2) ∈ gather_S8x257_S2048x2048x1_S8x2048x2048_0_1_n_n_1_2_81.startIndexMap from List.mem_singleton.mpr rfl)]
    have e : gather_S8x257_S2048x2048x1_S8x2048x2048_0_1_n_n_1_2_81.siIdx (ix3 h i k) ⟨List.idxOf (⟨1, by decide⟩ : Fin 2) gather_S8x257_S2048x2048x1_S8x2048x2048_0_1_n_n_1_2_81.startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [e]
    rfl

theorem max_at (x0 : FVec Ideal S32x2048x512 .bf16) (x1 : FVec Ideal S32x2048x512 .f32) (x3 : FVec Ideal S8x257 .f32) (b : Fin 32) (h : Fin 8) (i : Fin 2048) :
    val_main_v43 (F := Ideal) x0 x1 x3 (ix3 b h i) = Finset.univ.fold max (⊥ : EReal) fun k : Fin 2048 => val_main_v42 (F := Ideal) x0 x1 x3 (ix4 b h i k) := by
  unfold val_main_v43 val_main_cst_8
  generalize val_main_v42 (F := Ideal) x0 x1 x3 = y
  pointwise []
  rw [Tile.lowest]

/-! ## The scores -/

variable (x0 : FVec Ideal S32x2048x512 .bf16) (x1 x2 : FVec Ideal S32x2048x512 .f32) (x3 : FVec Ideal S8x257 .f32)

theorem head (h : Fin 8) (d : Fin 64) : h.val * 64 + d.val < 512 := by have := h.isLt; have := d.isLt; omega

theorem split1 (b : Fin 32) (j : Fin 2048) (h : Fin 8) (d : Fin 64) : idx_main_v1 (ix4 b j h d) = ix3 b j ⟨h.val * 64 + d.val, head h d⟩ := by
  have := b.isLt
  have := j.isLt
  have := h.isLt
  have := d.isLt
  refine funext fun a => Fin.ext ?_
  match a with
  | ⟨0, _⟩ => show (((b.val * 2048 + j.val) * 8 + h.val) * 64 + d.val) / 1048576 = b.val; omega
  | ⟨1, _⟩ => show (((b.val * 2048 + j.val) * 8 + h.val) * 64 + d.val) / 512 % 2048 = j.val; omega
  | ⟨2, _⟩ => show (((b.val * 2048 + j.val) * 8 + h.val) * 64 + d.val) % 512 = h.val * 64 + d.val; omega

theorem query_at (b : Fin 32) (j : Fin 2048) (h : Fin 8) (d : Fin 64) :
    val_main_v1 (F := Ideal) x0 (ix4 b j h d) = x0 (ix3 b j ⟨h.val * 64 + d.val, head h d⟩) := by
  rw [val_main_v1_apply, val_main_v0_apply, split1]
  rfl
theorem key_at (b : Fin 32) (j : Fin 2048) (h : Fin 8) (d : Fin 64) :
    val_main_v2 (F := Ideal) x1 (ix4 b j h d) = x1 (ix3 b j ⟨h.val * 64 + d.val, head h d⟩) := by
  rw [val_main_v2_apply]
  exact congrArg x1 (split1 b j h d)
theorem value_at (b : Fin 32) (j : Fin 2048) (h : Fin 8) (d : Fin 64) :
    val_main_v3 (F := Ideal) x2 (ix4 b j h d) = x2 (ix3 b j ⟨h.val * 64 + d.val, head h d⟩) := by
  rw [val_main_v3_apply]
  exact congrArg x2 (split1 b j h d)

variable {x0 x1 x3} {qr kr : S32x2048x512.Idx → ℝ} {br : S8x257.Idx → ℝ}

theorem dot_at (hq : ∀ i, x0 i = ((qr i : ℝ) : EReal)) (hk : ∀ i, x1 i = ((kr i : ℝ) : EReal)) (b : Fin 32) (h : Fin 8) (i k : Fin 2048) :
    val_main_v38 (F := Ideal) x0 x1 (ix4 b h i k) = ((dot qr kr b.val h.val i.val k.val : ℝ) : EReal) := by
  rw [val_main_v38_apply]
  unfold dot
  rw [coe_sum]
  refine Finset.sum_congr rfl fun d _ => ?_
  rw [show lidx_main_v38 (ix4 b h i k) d = ix4 b i h d from funext fun a => match a with | ⟨0, _⟩ => rfl | ⟨1, _⟩ => rfl | ⟨2, _⟩ => rfl | ⟨3, _⟩ => rfl,
    show ridx_main_v38 (ix4 b h i k) d = ix4 b k h d from funext fun a => match a with | ⟨0, _⟩ => rfl | ⟨1, _⟩ => rfl | ⟨2, _⟩ => rfl | ⟨3, _⟩ => rfl,
    query_at, key_at, hq, hk, nat512_at qr _ _ _ b.isLt i.isLt (head h d), nat512_at kr _ _ _ b.isLt k.isLt (head h d), EReal.coe_mul]

theorem bias_at (hr : ∀ i, x3 i = ((br i : ℝ) : EReal)) (h : Fin 8) (i k : Fin 2048) :
    val_main_v19 (F := Ideal) x3 (ix3 h i k) = ((col br h.val (k.val + 128 - i.val) : ℝ) : EReal) := by
  have e : val_main_v18 (F := Ideal) (ix3 i k 0) = clip (IntOp.subi (BitVec.ofNat 32 k.val) (BitVec.ofNat 32 i.val)) := by
    rw [val_main_v18_apply]
    refine Eq.trans ?_ (column_at i k)
    exact congrArg _ (funext fun a => match a with | ⟨0, _⟩ => rfl | ⟨1, _⟩ => rfl)
  unfold val_main_v19
  rw [gathered, hr]
  unfold col
  rw [dif_pos h.isLt]
  refine congrArg (fun n : Fin 257 => ((br (ix2 h n) : ℝ) : EReal)) (Fin.ext ?_)
  exact (congrArg (fun w : BitVec 32 => min w.toInt.toNat 256) e).trans (column_word i.val k.val i.isLt k.isLt)

theorem score_at (hq : ∀ i, x0 i = ((qr i : ℝ) : EReal)) (hk : ∀ i, x1 i = ((kr i : ℝ) : EReal)) (hr : ∀ i, x3 i = ((br i : ℝ) : EReal))
    (b : Fin 32) (h : Fin 8) (i k : Fin 2048) : val_main_v42 (F := Ideal) x0 x1 x3 (ix4 b h i k) = bs (inBand i.val) (xs qr kr br b.val h.val i.val) k.val := by
  rw [val_main_v42_apply, val_main_call2_v1_apply, val_main_v41_apply, val_main_v40_apply, val_main_v39_apply, val_main_call2_v2_apply, dot_at hq hk,
    show idx_main_call2_v1 (ix4 b h i k) = ix2 i k from funext fun a => match a with | ⟨0, _⟩ => rfl | ⟨1, _⟩ => rfl,
    show idx_main_v39 (idx_main_v40 (ix4 b h i k)) = ix3 h i k from funext fun a => match a with | ⟨0, _⟩ => rfl | ⟨1, _⟩ => rfl | ⟨2, _⟩ => rfl,
    mask_at, bias_at hr]
  refine (pick _ _ _).trans ?_
  unfold bs
  refine if_congr Iff.rfl ?_ Tile.lowest
  show ((_ : EReal) + _) = _
  rw [← EReal.coe_add]
  rfl

theorem prob_at (b : Fin 32) (h : Fin 8) (i k : Fin 2048) (s : Fin 2048 → EReal) (hs : ∀ k, val_main_v42 (F := Ideal) x0 x1 x3 (ix4 b h i k) = s k) :
    val_main_v53 (F := Ideal) x0 x1 x3 (ix4 b h i k)
      = Ideal.div (Ideal.exp (s k - Finset.univ.fold max (⊥ : EReal) s)) (∑ k : Fin 2048, Ideal.exp (s k - Finset.univ.fold max (⊥ : EReal) s)) := by
  have hm : ∀ k, val_main_v47 (F := Ideal) x0 x1 x3 (ix4 b h i k) = Finset.univ.fold max (⊥ : EReal) s := fun k => by
    rw [val_main_v47_apply, val_main_v46_apply, val_main_v45_apply, val_main_v44_apply]
    rw [show idx_main_v46 (idx_main_v47 (ix4 b h i k)) = ix3 b h i from funext fun a => match a with | ⟨0, _⟩ => rfl | ⟨1, _⟩ => rfl | ⟨2, _⟩ => rfl,
      max_at, show (fun k => val_main_v42 (F := Ideal) x0 x1 x3 (ix4 b h i k)) = s from funext hs]
    refine (congrArg (fun z : EReal => max z _) Tile.lowest).trans ?_
    exact max_eq_right bot_le
  have he : ∀ k, val_main_v49 (F := Ideal) x0 x1 x3 (ix4 b h i k) = Ideal.exp (s k - Finset.univ.fold max (⊥ : EReal) s) := fun k => by
    rw [val_main_v49_apply, val_main_v48_apply, hm, hs]
    rfl
  rw [val_main_v53_apply, he, val_main_v52_apply, val_main_v51_apply, val_main_v50_apply]
  refine congrArg (Ideal.div _) ?_
  have h0 : (val_main_cst_10 (F := Ideal)) (Shape.Idx.first h_S_) = (0 : EReal) := by
    unfold val_main_cst_10
    pointwise []
  rw [h0, zero_add]
  refine Finset.sum_congr rfl fun k _ => ?_
  rw [← he k]
  exact congrArg _ (funext fun a => match a with | ⟨0, _⟩ => rfl | ⟨1, _⟩ => rfl | ⟨2, _⟩ => rfl | ⟨3, _⟩ => rfl)

theorem result (hq : ∀ i, x0 i = ((qr i : ℝ) : EReal)) (hk : ∀ i, x1 i = ((kr i : ℝ) : EReal)) (hr : ∀ i, x3 i = ((br i : ℝ) : EReal)) :
    val_main_v57 (F := Ideal) x0 x1 x2 x3 = Band.out qr kr x2 br := by
  funext y
  have hb : (y 0).val < 32 := (y 0).isLt
  have hi : (y 1).val < 2048 := (y 1).isLt
  have hn : (y 2).val < 512 := (y 2).isLt
  have hh : (y 2).val / 64 < 8 := by omega
  have hd : (y 2).val % 64 < 64 := by omega
  rw [val_main_v57_apply]
  show val_main_v56 (F := Ideal) x0 x1 x2 x3 y = _
  rw [val_main_v56_apply, val_main_v55_apply, show idx_main_v55 (idx_main_v56 y) = ix4 (⟨(y 0).val, hb⟩ : Fin 32) (⟨(y 2).val / 64, hh⟩ : Fin 8) (⟨(y 2).val % 64, hd⟩ : Fin 64) (⟨(y 1).val, hi⟩ : Fin 2048) from by
    refine funext fun a => Fin.ext ?_
    match a with
    | ⟨0, _⟩ => show (((y 0).val * 2048 + (y 1).val) * 512 + (y 2).val) / 1048576 = (y 0).val; omega
    | ⟨1, _⟩ => show (((y 0).val * 2048 + (y 1).val) * 512 + (y 2).val) / 64 % 8 = (y 2).val / 64; omega
    | ⟨2, _⟩ => show (((y 0).val * 2048 + (y 1).val) * 512 + (y 2).val) % 64 = (y 2).val % 64; omega
    | ⟨3, _⟩ => show (((y 0).val * 2048 + (y 1).val) * 512 + (y 2).val) / 512 % 2048 = (y 1).val; omega]
  rw [val_main_v54_apply]
  unfold Band.out bentry
  refine Eq.trans ?_ (direct (inBand (y 1).val) (xs qr kr br (y 0).val ((y 2).val / 64) (y 1).val) (N := 2048) (fun k => nat512 x2 (y 0).val k (y 2).val) ⟨(y 1).val, hi⟩
    (show inBand (y 1).val (y 1).val from by constructor <;> omega)
    (fun k => bs (inBand (y 1).val) (xs qr kr br (y 0).val ((y 2).val / 64) (y 1).val) k.val) fun _ => rfl)
  refine Finset.sum_congr rfl fun k _ => ?_
  refine congrArg₂ (fun a b : EReal => a * b) ?_ ?_
  · refine Eq.trans ?_ (nat512_at x2 _ _ _ hb k.isLt hn).symm
    refine Eq.trans ?_ ((value_at x2 ⟨(y 0).val, hb⟩ k ⟨(y 2).val / 64, hh⟩ ⟨(y 2).val % 64, hd⟩).trans (congrArg (fun n => x2 (ix3 ⟨(y 0).val, hb⟩ k n)) (Fin.ext (by show (y 2).val / 64 * 64 + (y 2).val % 64 = (y 2).val; omega))))
    exact congrArg _ (funext fun a => match a with | ⟨0, _⟩ => rfl | ⟨1, _⟩ => rfl | ⟨2, _⟩ => rfl | ⟨3, _⟩ => rfl)
  · refine Eq.trans ?_ (prob_at ⟨(y 0).val, hb⟩ ⟨(y 2).val / 64, hh⟩ ⟨(y 1).val, hi⟩ k (fun k => bs (inBand (y 1).val) (xs qr kr br (y 0).val ((y 2).val / 64) (y 1).val) k.val)
      fun k => score_at hq hk hr ⟨(y 0).val, hb⟩ ⟨(y 2).val / 64, hh⟩ ⟨(y 1).val, hi⟩ k)
    exact congrArg _ (funext fun a => match a with | ⟨0, _⟩ => rfl | ⟨1, _⟩ => rfl | ⟨2, _⟩ => rfl | ⟨3, _⟩ => rfl)

end Cert.BandReference

end
-- ==== Proof.BandCall.lean ====
/- The band's call: its precondition read entry by entry, and the call's claims. -/
module

public import proofs.«01_k».proof.Defs
public import proofs.«01_k».proof.Proof.Finite
public import proofs.«01_k».proof.Proof.BandReference
public import proofs.«01_k».proof.Proof.Gen.Reference8Ideal.Run
public import Idealize.ShloMosaic.Lib.Claim

@[expose] public section

set_option maxRecDepth 16384

noncomputable section

namespace Cert.BandCall

open Idealize.ShloMosaic Idealize.SL.Sem

theorem facts : Cert.Pre_finite8.Facts where
  bcast_S_S2040x257 := by decide
  concatenates_S8x257_S2040x257_S2048x257_d0 := by decide
  bcast_S2048x257_S32x2048x257_1_2 := by decide
  bcast_S_S32x2048x512 := by decide
  bcast_S_S32x2048x257 := by decide
  concatenates_S32x2048x512_S32x2048x512_S32x2048x257_S32x2048x1281_d2 := by decide

local instance : Cert.Pre_finite8.Facts := facts

section
open Cert.Pre_finite8 Cert.Finite
variable {q : FVec Ideal S32x2048x512 .bf16} {k v : FVec Ideal S32x2048x512 .f32} {w : FVec Ideal S8x257 .f32}

theorem q_real (h : fn (F := Ideal) q k v w = fun _ => 1#1) (b : Fin 32) (j : Fin 2048) (n : Fin 512) : q (ix3 b j n) = (((q (ix3 b j n) : EReal).toReal : ℝ) : EReal) := by
  have e := congrFun h (ix3 b j ⟨n.val, by omega⟩)
  have hn := n.isLt
  pointwise [fn] at e
  rw [top_bf16] at e
  exact real_of_abs (lt_of_bit e)
theorem k_real (h : fn (F := Ideal) q k v w = fun _ => 1#1) (b : Fin 32) (j : Fin 2048) (n : Fin 512) : k (ix3 b j n) = (((k (ix3 b j n) : EReal).toReal : ℝ) : EReal) := by
  have e := congrFun h (ix3 b j ⟨512 + n.val, by omega⟩)
  have hn := n.isLt
  pointwise [fn] at e
  rw [top_f32] at e
  exact real_of_abs (lt_of_bit e)
theorem r_real (h : fn (F := Ideal) q k v w = fun _ => 1#1) (j : Fin 8) (n : Fin 257) : w (ix2 j n) = (((w (ix2 j n) : EReal).toReal : ℝ) : EReal) := by
  have e := congrFun h (ix3 0 ⟨j.val, by omega⟩ ⟨1024 + n.val, by omega⟩)
  have hn := n.isLt
  have hj := j.isLt
  pointwise [fn] at e
  rw [dif_neg (by omega), dif_neg (by omega), top_f32] at e
  have hn' : (⟨1024 + n.val - 512 - 512, by omega⟩ : Fin 257) = n := Fin.ext (by show 1024 + n.val - 512 - 512 = n.val; omega)
  rw [hn'] at e
  exact real_of_abs (lt_of_bit e)
end

theorem frame_band : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

theorem preserves_band : Cert.preserves_Kernel8_Kernel8Ideal := IdealRules.named_const.statement _ _ _ _ _ rfl

/-- The precondition's real numbers. -/
theorem reals (m : (ℓ : Loc Cert.Kernel8Ideal.nD Cert.Kernel8Ideal.τ Cert.Kernel8Ideal.sig) → Buf (Elt Ideal) ℓ) (h : Cert.Pre_Kernel8Ideal_finite8 m)
    (c : Dev Cert.Kernel8Ideal.nD) :
    Cert.Band.Reals m c (fun i => (Cert.Band.Bq m c i : EReal).toReal) (fun i => (Cert.Band.Bk m c i : EReal).toReal)
      (fun i => (Cert.Band.Br m c i : EReal).toReal) :=
  ⟨fun i => by rw [eq_ix3 i]; exact q_real (h c) _ _ _, fun i => by rw [eq_ix3 i]; exact k_real (h c) _ _ _,
    fun i => by rw [eq_ix2 i]; exact r_real (h c) _ _⟩

theorem band : Cert.algebraic_Kernel8Ideal_Reference8Ideal_pre_finite8 := fun m g m' g' hpre hagree => by
  refine ⟨fun c => (Cert.Kernel8Ideal.Gen.dats m 0 c).arrAt 4 Cert.Kernel8Ideal.cfg0.N, Cert.Kernel8Ideal.Value.run_blocks m g, ?_⟩
  refine (θ_run Cert.Reference8Ideal.defs _ _).mono (fun r h c => ⟨(h c).1.trans ?_, (h c).2⟩) (Cert.Reference8Ideal.Value.run m' g')
  have H := reals m hpre c
  refine Eq.trans ?_ (Cert.Band.array H).symm
  rw [Cert.Reference8Ideal.Read.val_main_v57_eq, (hagree c).1, (hagree c).2.1, (hagree c).2.2.1, (hagree c).2.2.2]
  exact Cert.BandReference.result (x2 := Cert.Band.Bv m c) H.1 H.2 H.3

end Cert.BandCall

end
-- ==== Proof.lean ====
/- The certificate: five calls of the prompt (the attention, the input projection, the merge, the last call, the chunk band)
   and the second, third and fourth of them over the sample, each as written and idealized, and their references. -/
module

public import proofs.«01_k».proof.Defs
public import proofs.«01_k».proof.Proof.Gen.Kernel.Frame
public import proofs.«01_k».proof.Proof.Finite
public import proofs.«01_k».proof.Proof.Reference
public import proofs.«01_k».proof.Proof.Calls
public import proofs.«01_k».proof.Proof.SampleCalls
public import proofs.«01_k».proof.Proof.BandCall
public import Idealize.ShloMosaic.Lib.Claim
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Proof

open Idealize.ShloMosaic Idealize.SL.Sem

local instance : Cert.Pre_finite.Facts := Cert.Finite.facts

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The precondition's real numbers. -/
theorem reals (m : (ℓ : Loc Cert.KernelIdeal.nD Cert.KernelIdeal.τ Cert.KernelIdeal.sig) → Buf (Elt Ideal) ℓ) (h : Cert.Pre_KernelIdeal_finite m)
    (c : Dev Cert.KernelIdeal.nD) :
    Cert.State.Reals m c (fun i => (Cert.Points.Aq m c i : EReal).toReal) (fun i => (Cert.Points.Ak m c i : EReal).toReal)
      (fun i => (Cert.Points.Al m c i : EReal).toReal) :=
  ⟨fun i => by rw [eq_ix3 i]; exact Cert.Finite.q_real (h c) _ _ _, fun i => by rw [eq_ix3 i]; exact Cert.Finite.k_real (h c) _ _ _,
    fun i => by rw [eq_ix3 i]; exact Cert.Finite.l_real (h c) _ _ _⟩

theorem algebraic : Cert.algebraic_KernelIdeal_ReferenceIdeal_pre_finite := fun m g m' g' hpre hagree => by
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  have H := reals m hpre c
  refine Eq.trans ?_ (Cert.Output.array H).symm
  rw [Cert.ReferenceIdeal.Read.val_main_v34_eq, (hagree c).1, (hagree c).2.1, (hagree c).2.2.1, (hagree c).2.2.2]
  exact Cert.Reference.result (x2 := Cert.Points.Av m c) H.1 H.2.1 H.2.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Finite.facts, Cert.BandCall.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.Calls.frame_proj,
    fun m ρ _ => Cert.Kernel3.Gen.frame m ρ, fun m ρ _ => Cert.Kernel3Ideal.Gen.frame m ρ, Cert.Calls.frame_merge,
    fun m ρ _ => Cert.Kernel4.Gen.frame m ρ, fun m ρ _ => Cert.Kernel4Ideal.Gen.frame m ρ, Cert.Calls.frame_final,
    fun m ρ _ => Cert.Kernel5.Gen.frame m ρ, fun m ρ _ => Cert.Kernel5Ideal.Gen.frame m ρ, Cert.SampleCalls.frame_proj,
    fun m ρ _ => Cert.Kernel6.Gen.frame m ρ, fun m ρ _ => Cert.Kernel6Ideal.Gen.frame m ρ, Cert.SampleCalls.frame_merge,
    fun m ρ _ => Cert.Kernel7.Gen.frame m ρ, fun m ρ _ => Cert.Kernel7Ideal.Gen.frame m ρ, Cert.SampleCalls.frame_final,
    fun m ρ _ => Cert.Kernel8.Gen.frame m ρ, fun m ρ _ => Cert.Kernel8Ideal.Gen.frame m ρ, fun m ρ _ => Cert.Kernel8Ideal.Gen.frame m ρ,
    Cert.BandCall.frame_band, fun m ρ _ => Cert.BandCall.frame_band m ρ trivial,
    trivial, algebraic, trivial, Cert.Calls.proj, trivial, Cert.Calls.merge, trivial, Cert.Calls.final,
    trivial, Cert.SampleCalls.proj, trivial, Cert.SampleCalls.merge, trivial, Cert.SampleCalls.final,
    Cert.BandCall.preserves_band, Cert.BandCall.band⟩

end Cert.Proof

end
